-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_CMlp (m : (ℓ : Loc Cert.CMlp.nD Cert.CMlp.τ Cert.CMlp.sig) → Buf (Elt Bits) ℓ) : Prop :=
  True

def Pre_CMlpIdeal (m : (ℓ : Loc Cert.CMlpIdeal.nD Cert.CMlpIdeal.τ Cert.CMlpIdeal.sig) → Buf (Elt Ideal) ℓ) : Prop :=
  True

def Pre_CMlpRefIdeal (m : (ℓ : Loc Cert.CMlpRefIdeal.nD Cert.CMlpRefIdeal.τ Cert.CMlpRefIdeal.sig) → Buf (Elt Ideal) ℓ) : Prop :=
  True

def Pre_PrepT (m : (ℓ : Loc Cert.PrepT.nD Cert.PrepT.τ Cert.PrepT.sig) → Buf (Elt Bits) ℓ) : Prop :=
  True

def Pre_PrepTIdeal (m : (ℓ : Loc Cert.PrepTIdeal.nD Cert.PrepTIdeal.τ Cert.PrepTIdeal.sig) → Buf (Elt Ideal) ℓ) : Prop :=
  True

def Pre_PrepTIdeal_finite_rows [hPre_finite_rows : Cert.Pre_finite_rows.Facts] (m : (ℓ : Loc Cert.PrepTIdeal.nD Cert.PrepTIdeal.τ Cert.PrepTIdeal.sig) → Buf (Elt Ideal) ℓ) : Prop :=
  ∀ c : Dev Cert.PrepTIdeal.nD,
    (Cert.Pre_finite_rows.fn (F := Ideal) (m ((c.tc : Thread Cert.PrepTIdeal.nD Cert.PrepTIdeal.τ).loc Cert.PrepTIdeal.main_arg0)) (m ((c.tc : Thread Cert.PrepTIdeal.nD Cert.PrepTIdeal.τ).loc Cert.PrepTIdeal.main_arg1)) (m ((c.tc : Thread Cert.PrepTIdeal.nD Cert.PrepTIdeal.τ).loc Cert.PrepTIdeal.main_arg2)) (m ((c.tc : Thread Cert.PrepTIdeal.nD Cert.PrepTIdeal.τ).loc Cert.PrepTIdeal.main_arg3))) = (fun _ => 1#1)

def Pre_PrepTRefIdeal (m : (ℓ : Loc Cert.PrepTRefIdeal.nD Cert.PrepTRefIdeal.τ Cert.PrepTRefIdeal.sig) → Buf (Elt Ideal) ℓ) : Prop :=
  True

def Pre_PrepTRefIdeal_finite_rows [hPre_finite_rows : Cert.Pre_finite_rows.Facts] (m : (ℓ : Loc Cert.PrepTRefIdeal.nD Cert.PrepTRefIdeal.τ Cert.PrepTRefIdeal.sig) → Buf (Elt Ideal) ℓ) : Prop :=
  ∀ c : Dev Cert.PrepTRefIdeal.nD,
    (Cert.Pre_finite_rows.fn (F := Ideal) (m ((c.tc : Thread Cert.PrepTRefIdeal.nD Cert.PrepTRefIdeal.τ).loc Cert.PrepTRefIdeal.main_arg0)) (m ((c.tc : Thread Cert.PrepTRefIdeal.nD Cert.PrepTRefIdeal.τ).loc Cert.PrepTRefIdeal.main_arg1)) (m ((c.tc : Thread Cert.PrepTRefIdeal.nD Cert.PrepTRefIdeal.τ).loc Cert.PrepTRefIdeal.main_arg2)) (m ((c.tc : Thread Cert.PrepTRefIdeal.nD Cert.PrepTRefIdeal.τ).loc Cert.PrepTRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_CMlp [hCMlp : Cert.CMlp.Facts] : Prop :=
  ∀ (m : (ℓ : Loc Cert.CMlp.nD Cert.CMlp.τ Cert.CMlp.sig) → Buf (Elt Bits) ℓ) (g : Dev Cert.CMlp.nD → PrngReg), Pre_CMlp m →
    θ_run (Cert.CMlp.defs (F := Bits)) (onTc (τ := Cert.CMlp.τ) (Cert.CMlp.main (F := Bits))) ⟨m, fun _ => 0, g⟩ (fun r => (∀ c : Dev Cert.CMlp.nD,
      r.2.mem ((c.tc : Thread Cert.CMlp.nD Cert.CMlp.τ).loc Cert.CMlp.main_arg0) = m ((c.tc : Thread Cert.CMlp.nD Cert.CMlp.τ).loc Cert.CMlp.main_arg0)
      ∧ r.2.mem ((c.tc : Thread Cert.CMlp.nD Cert.CMlp.τ).loc Cert.CMlp.main_arg1) = m ((c.tc : Thread Cert.CMlp.nD Cert.CMlp.τ).loc Cert.CMlp.main_arg1)
      ∧ r.2.mem ((c.tc : Thread Cert.CMlp.nD Cert.CMlp.τ).loc Cert.CMlp.main_arg2) = m ((c.tc : Thread Cert.CMlp.nD Cert.CMlp.τ).loc Cert.CMlp.main_arg2)
      ∧ r.2.mem ((c.tc : Thread Cert.CMlp.nD Cert.CMlp.τ).loc Cert.CMlp.main_arg3) = m ((c.tc : Thread Cert.CMlp.nD Cert.CMlp.τ).loc Cert.CMlp.main_arg3)
      ∧ r.2.mem ((c.tc : Thread Cert.CMlp.nD Cert.CMlp.τ).loc Cert.CMlp.main_arg4) = m ((c.tc : Thread Cert.CMlp.nD Cert.CMlp.τ).loc Cert.CMlp.main_arg4))
      ∧ r.2.sem = fun _ => 0)

def quiescent_CMlpIdeal [hCMlpIdeal : Cert.CMlpIdeal.Facts] : Prop :=
  ∀ (m : (ℓ : Loc Cert.CMlpIdeal.nD Cert.CMlpIdeal.τ Cert.CMlpIdeal.sig) → Buf (Elt Ideal) ℓ) (g : Dev Cert.CMlpIdeal.nD → PrngReg), Pre_CMlpIdeal m →
    θ_run (Cert.CMlpIdeal.defs (F := Ideal)) (onTc (τ := Cert.CMlpIdeal.τ) (Cert.CMlpIdeal.main (F := Ideal))) ⟨m, fun _ => 0, g⟩ (fun r => (∀ c : Dev Cert.CMlpIdeal.nD,
      r.2.mem ((c.tc : Thread Cert.CMlpIdeal.nD Cert.CMlpIdeal.τ).loc Cert.CMlpIdeal.main_arg0) = m ((c.tc : Thread Cert.CMlpIdeal.nD Cert.CMlpIdeal.τ).loc Cert.CMlpIdeal.main_arg0)
      ∧ r.2.mem ((c.tc : Thread Cert.CMlpIdeal.nD Cert.CMlpIdeal.τ).loc Cert.CMlpIdeal.main_arg1) = m ((c.tc : Thread Cert.CMlpIdeal.nD Cert.CMlpIdeal.τ).loc Cert.CMlpIdeal.main_arg1)
      ∧ r.2.mem ((c.tc : Thread Cert.CMlpIdeal.nD Cert.CMlpIdeal.τ).loc Cert.CMlpIdeal.main_arg2) = m ((c.tc : Thread Cert.CMlpIdeal.nD Cert.CMlpIdeal.τ).loc Cert.CMlpIdeal.main_arg2)
      ∧ r.2.mem ((c.tc : Thread Cert.CMlpIdeal.nD Cert.CMlpIdeal.τ).loc Cert.CMlpIdeal.main_arg3) = m ((c.tc : Thread Cert.CMlpIdeal.nD Cert.CMlpIdeal.τ).loc Cert.CMlpIdeal.main_arg3)
      ∧ r.2.mem ((c.tc : Thread Cert.CMlpIdeal.nD Cert.CMlpIdeal.τ).loc Cert.CMlpIdeal.main_arg4) = m ((c.tc : Thread Cert.CMlpIdeal.nD Cert.CMlpIdeal.τ).loc Cert.CMlpIdeal.main_arg4))
      ∧ r.2.sem = fun _ => 0)

def quiescent_CMlpRefIdeal [hCMlpRefIdeal : Cert.CMlpRefIdeal.Facts] : Prop :=
  ∀ (m : (ℓ : Loc Cert.CMlpRefIdeal.nD Cert.CMlpRefIdeal.τ Cert.CMlpRefIdeal.sig) → Buf (Elt Ideal) ℓ) (g : Dev Cert.CMlpRefIdeal.nD → PrngReg), Pre_CMlpRefIdeal m →
    θ_run (Cert.CMlpRefIdeal.defs (F := Ideal)) (onTc (τ := Cert.CMlpRefIdeal.τ) (Cert.CMlpRefIdeal.main (F := Ideal))) ⟨m, fun _ => 0, g⟩ (fun r => (∀ c : Dev Cert.CMlpRefIdeal.nD,
      r.2.mem ((c.tc : Thread Cert.CMlpRefIdeal.nD Cert.CMlpRefIdeal.τ).loc Cert.CMlpRefIdeal.main_arg0) = m ((c.tc : Thread Cert.CMlpRefIdeal.nD Cert.CMlpRefIdeal.τ).loc Cert.CMlpRefIdeal.main_arg0)
      ∧ r.2.mem ((c.tc : Thread Cert.CMlpRefIdeal.nD Cert.CMlpRefIdeal.τ).loc Cert.CMlpRefIdeal.main_arg1) = m ((c.tc : Thread Cert.CMlpRefIdeal.nD Cert.CMlpRefIdeal.τ).loc Cert.CMlpRefIdeal.main_arg1)
      ∧ r.2.mem ((c.tc : Thread Cert.CMlpRefIdeal.nD Cert.CMlpRefIdeal.τ).loc Cert.CMlpRefIdeal.main_arg2) = m ((c.tc : Thread Cert.CMlpRefIdeal.nD Cert.CMlpRefIdeal.τ).loc Cert.CMlpRefIdeal.main_arg2)
      ∧ r.2.mem ((c.tc : Thread Cert.CMlpRefIdeal.nD Cert.CMlpRefIdeal.τ).loc Cert.CMlpRefIdeal.main_arg3) = m ((c.tc : Thread Cert.CMlpRefIdeal.nD Cert.CMlpRefIdeal.τ).loc Cert.CMlpRefIdeal.main_arg3)
      ∧ r.2.mem ((c.tc : Thread Cert.CMlpRefIdeal.nD Cert.CMlpRefIdeal.τ).loc Cert.CMlpRefIdeal.main_arg4) = m ((c.tc : Thread Cert.CMlpRefIdeal.nD Cert.CMlpRefIdeal.τ).loc Cert.CMlpRefIdeal.main_arg4))
      ∧ r.2.sem = fun _ => 0)

def quiescent_PrepT [hPrepT : Cert.PrepT.Facts] : Prop :=
  ∀ (m : (ℓ : Loc Cert.PrepT.nD Cert.PrepT.τ Cert.PrepT.sig) → Buf (Elt Bits) ℓ) (g : Dev Cert.PrepT.nD → PrngReg), Pre_PrepT m →
    θ_run (Cert.PrepT.defs (F := Bits)) (onTc (τ := Cert.PrepT.τ) (Cert.PrepT.main (F := Bits))) ⟨m, fun _ => 0, g⟩ (fun r => (∀ c : Dev Cert.PrepT.nD,
      r.2.mem ((c.tc : Thread Cert.PrepT.nD Cert.PrepT.τ).loc Cert.PrepT.main_arg0) = m ((c.tc : Thread Cert.PrepT.nD Cert.PrepT.τ).loc Cert.PrepT.main_arg0)
      ∧ r.2.mem ((c.tc : Thread Cert.PrepT.nD Cert.PrepT.τ).loc Cert.PrepT.main_arg1) = m ((c.tc : Thread Cert.PrepT.nD Cert.PrepT.τ).loc Cert.PrepT.main_arg1)
      ∧ r.2.mem ((c.tc : Thread Cert.PrepT.nD Cert.PrepT.τ).loc Cert.PrepT.main_arg2) = m ((c.tc : Thread Cert.PrepT.nD Cert.PrepT.τ).loc Cert.PrepT.main_arg2)
      ∧ r.2.mem ((c.tc : Thread Cert.PrepT.nD Cert.PrepT.τ).loc Cert.PrepT.main_arg3) = m ((c.tc : Thread Cert.PrepT.nD Cert.PrepT.τ).loc Cert.PrepT.main_arg3))
      ∧ r.2.sem = fun _ => 0)

def quiescent_PrepTIdeal [hPrepTIdeal : Cert.PrepTIdeal.Facts] : Prop :=
  ∀ (m : (ℓ : Loc Cert.PrepTIdeal.nD Cert.PrepTIdeal.τ Cert.PrepTIdeal.sig) → Buf (Elt Ideal) ℓ) (g : Dev Cert.PrepTIdeal.nD → PrngReg), Pre_PrepTIdeal m →
    θ_run (Cert.PrepTIdeal.defs (F := Ideal)) (onTc (τ := Cert.PrepTIdeal.τ) (Cert.PrepTIdeal.main (F := Ideal))) ⟨m, fun _ => 0, g⟩ (fun r => (∀ c : Dev Cert.PrepTIdeal.nD,
      r.2.mem ((c.tc : Thread Cert.PrepTIdeal.nD Cert.PrepTIdeal.τ).loc Cert.PrepTIdeal.main_arg0) = m ((c.tc : Thread Cert.PrepTIdeal.nD Cert.PrepTIdeal.τ).loc Cert.PrepTIdeal.main_arg0)
      ∧ r.2.mem ((c.tc : Thread Cert.PrepTIdeal.nD Cert.PrepTIdeal.τ).loc Cert.PrepTIdeal.main_arg1) = m ((c.tc : Thread Cert.PrepTIdeal.nD Cert.PrepTIdeal.τ).loc Cert.PrepTIdeal.main_arg1)
      ∧ r.2.mem ((c.tc : Thread Cert.PrepTIdeal.nD Cert.PrepTIdeal.τ).loc Cert.PrepTIdeal.main_arg2) = m ((c.tc : Thread Cert.PrepTIdeal.nD Cert.PrepTIdeal.τ).loc Cert.PrepTIdeal.main_arg2)
      ∧ r.2.mem ((c.tc : Thread Cert.PrepTIdeal.nD Cert.PrepTIdeal.τ).loc Cert.PrepTIdeal.main_arg3) = m ((c.tc : Thread Cert.PrepTIdeal.nD Cert.PrepTIdeal.τ).loc Cert.PrepTIdeal.main_arg3))
      ∧ r.2.sem = fun _ => 0)

def quiescent_PrepTIdeal_pre_finite_rows [hPrepTIdeal : Cert.PrepTIdeal.Facts] [hPre_finite_rows : Cert.Pre_finite_rows.Facts] : Prop :=
  ∀ (m : (ℓ : Loc Cert.PrepTIdeal.nD Cert.PrepTIdeal.τ Cert.PrepTIdeal.sig) → Buf (Elt Ideal) ℓ) (g : Dev Cert.PrepTIdeal.nD → PrngReg), Pre_PrepTIdeal_finite_rows m →
    θ_run (Cert.PrepTIdeal.defs (F := Ideal)) (onTc (τ := Cert.PrepTIdeal.τ) (Cert.PrepTIdeal.main (F := Ideal))) ⟨m, fun _ => 0, g⟩ (fun r => (∀ c : Dev Cert.PrepTIdeal.nD,
      r.2.mem ((c.tc : Thread Cert.PrepTIdeal.nD Cert.PrepTIdeal.τ).loc Cert.PrepTIdeal.main_arg0) = m ((c.tc : Thread Cert.PrepTIdeal.nD Cert.PrepTIdeal.τ).loc Cert.PrepTIdeal.main_arg0)
      ∧ r.2.mem ((c.tc : Thread Cert.PrepTIdeal.nD Cert.PrepTIdeal.τ).loc Cert.PrepTIdeal.main_arg1) = m ((c.tc : Thread Cert.PrepTIdeal.nD Cert.PrepTIdeal.τ).loc Cert.PrepTIdeal.main_arg1)
      ∧ r.2.mem ((c.tc : Thread Cert.PrepTIdeal.nD Cert.PrepTIdeal.τ).loc Cert.PrepTIdeal.main_arg2) = m ((c.tc : Thread Cert.PrepTIdeal.nD Cert.PrepTIdeal.τ).loc Cert.PrepTIdeal.main_arg2)
      ∧ r.2.mem ((c.tc : Thread Cert.PrepTIdeal.nD Cert.PrepTIdeal.τ).loc Cert.PrepTIdeal.main_arg3) = m ((c.tc : Thread Cert.PrepTIdeal.nD Cert.PrepTIdeal.τ).loc Cert.PrepTIdeal.main_arg3))
      ∧ r.2.sem = fun _ => 0)

def quiescent_PrepTRefIdeal [hPrepTRefIdeal : Cert.PrepTRefIdeal.Facts] : Prop :=
  ∀ (m : (ℓ : Loc Cert.PrepTRefIdeal.nD Cert.PrepTRefIdeal.τ Cert.PrepTRefIdeal.sig) → Buf (Elt Ideal) ℓ) (g : Dev Cert.PrepTRefIdeal.nD → PrngReg), Pre_PrepTRefIdeal m →
    θ_run (Cert.PrepTRefIdeal.defs (F := Ideal)) (onTc (τ := Cert.PrepTRefIdeal.τ) (Cert.PrepTRefIdeal.main (F := Ideal))) ⟨m, fun _ => 0, g⟩ (fun r => (∀ c : Dev Cert.PrepTRefIdeal.nD,
      r.2.mem ((c.tc : Thread Cert.PrepTRefIdeal.nD Cert.PrepTRefIdeal.τ).loc Cert.PrepTRefIdeal.main_arg0) = m ((c.tc : Thread Cert.PrepTRefIdeal.nD Cert.PrepTRefIdeal.τ).loc Cert.PrepTRefIdeal.main_arg0)
      ∧ r.2.mem ((c.tc : Thread Cert.PrepTRefIdeal.nD Cert.PrepTRefIdeal.τ).loc Cert.PrepTRefIdeal.main_arg1) = m ((c.tc : Thread Cert.PrepTRefIdeal.nD Cert.PrepTRefIdeal.τ).loc Cert.PrepTRefIdeal.main_arg1)
      ∧ r.2.mem ((c.tc : Thread Cert.PrepTRefIdeal.nD Cert.PrepTRefIdeal.τ).loc Cert.PrepTRefIdeal.main_arg2) = m ((c.tc : Thread Cert.PrepTRefIdeal.nD Cert.PrepTRefIdeal.τ).loc Cert.PrepTRefIdeal.main_arg2)
      ∧ r.2.mem ((c.tc : Thread Cert.PrepTRefIdeal.nD Cert.PrepTRefIdeal.τ).loc Cert.PrepTRefIdeal.main_arg3) = m ((c.tc : Thread Cert.PrepTRefIdeal.nD Cert.PrepTRefIdeal.τ).loc Cert.PrepTRefIdeal.main_arg3))
      ∧ r.2.sem = fun _ => 0)

def quiescent_PrepTRefIdeal_pre_finite_rows [hPrepTRefIdeal : Cert.PrepTRefIdeal.Facts] [hPre_finite_rows : Cert.Pre_finite_rows.Facts] : Prop :=
  ∀ (m : (ℓ : Loc Cert.PrepTRefIdeal.nD Cert.PrepTRefIdeal.τ Cert.PrepTRefIdeal.sig) → Buf (Elt Ideal) ℓ) (g : Dev Cert.PrepTRefIdeal.nD → PrngReg), Pre_PrepTRefIdeal_finite_rows m →
    θ_run (Cert.PrepTRefIdeal.defs (F := Ideal)) (onTc (τ := Cert.PrepTRefIdeal.τ) (Cert.PrepTRefIdeal.main (F := Ideal))) ⟨m, fun _ => 0, g⟩ (fun r => (∀ c : Dev Cert.PrepTRefIdeal.nD,
      r.2.mem ((c.tc : Thread Cert.PrepTRefIdeal.nD Cert.PrepTRefIdeal.τ).loc Cert.PrepTRefIdeal.main_arg0) = m ((c.tc : Thread Cert.PrepTRefIdeal.nD Cert.PrepTRefIdeal.τ).loc Cert.PrepTRefIdeal.main_arg0)
      ∧ r.2.mem ((c.tc : Thread Cert.PrepTRefIdeal.nD Cert.PrepTRefIdeal.τ).loc Cert.PrepTRefIdeal.main_arg1) = m ((c.tc : Thread Cert.PrepTRefIdeal.nD Cert.PrepTRefIdeal.τ).loc Cert.PrepTRefIdeal.main_arg1)
      ∧ r.2.mem ((c.tc : Thread Cert.PrepTRefIdeal.nD Cert.PrepTRefIdeal.τ).loc Cert.PrepTRefIdeal.main_arg2) = m ((c.tc : Thread Cert.PrepTRefIdeal.nD Cert.PrepTRefIdeal.τ).loc Cert.PrepTRefIdeal.main_arg2)
      ∧ r.2.mem ((c.tc : Thread Cert.PrepTRefIdeal.nD Cert.PrepTRefIdeal.τ).loc Cert.PrepTRefIdeal.main_arg3) = m ((c.tc : Thread Cert.PrepTRefIdeal.nD Cert.PrepTRefIdeal.τ).loc Cert.PrepTRefIdeal.main_arg3))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v14)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v36) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v20) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v154) = v0 c
          ∧ r.2.mem ((c.tc : Thread Cert.MemKvRefIdeal.nD Cert.MemKvRefIdeal.τ).loc Cert.MemKvRefIdeal.main_v161) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_CMlp_CMlpIdeal : Prop :=
  True

def algebraic_CMlpIdeal_CMlpRefIdeal [hCMlpIdeal : Cert.CMlpIdeal.Facts] [hCMlpRefIdeal : Cert.CMlpRefIdeal.Facts] : Prop :=
  ∀ (m : (ℓ : Loc Cert.CMlpIdeal.nD Cert.CMlpIdeal.τ Cert.CMlpIdeal.sig) → Buf (Elt Ideal) ℓ) (g : Dev Cert.CMlpIdeal.nD → PrngReg)
    (m' : (ℓ : Loc Cert.CMlpRefIdeal.nD Cert.CMlpRefIdeal.τ Cert.CMlpRefIdeal.sig) → Buf (Elt Ideal) ℓ) (g' : Dev Cert.CMlpRefIdeal.nD → PrngReg), Pre_CMlpIdeal m →
    (∀ c : Dev Cert.CMlpIdeal.nD,
      m' ((c.tc : Thread Cert.CMlpRefIdeal.nD Cert.CMlpRefIdeal.τ).loc Cert.CMlpRefIdeal.main_arg0) = m ((c.tc : Thread Cert.CMlpIdeal.nD Cert.CMlpIdeal.τ).loc Cert.CMlpIdeal.main_arg0)
      ∧ m' ((c.tc : Thread Cert.CMlpRefIdeal.nD Cert.CMlpRefIdeal.τ).loc Cert.CMlpRefIdeal.main_arg1) = m ((c.tc : Thread Cert.CMlpIdeal.nD Cert.CMlpIdeal.τ).loc Cert.CMlpIdeal.main_arg1)
      ∧ m' ((c.tc : Thread Cert.CMlpRefIdeal.nD Cert.CMlpRefIdeal.τ).loc Cert.CMlpRefIdeal.main_arg2) = m ((c.tc : Thread Cert.CMlpIdeal.nD Cert.CMlpIdeal.τ).loc Cert.CMlpIdeal.main_arg2)
      ∧ m' ((c.tc : Thread Cert.CMlpRefIdeal.nD Cert.CMlpRefIdeal.τ).loc Cert.CMlpRefIdeal.main_arg3) = m ((c.tc : Thread Cert.CMlpIdeal.nD Cert.CMlpIdeal.τ).loc Cert.CMlpIdeal.main_arg3)
      ∧ m' ((c.tc : Thread Cert.CMlpRefIdeal.nD Cert.CMlpRefIdeal.τ).loc Cert.CMlpRefIdeal.main_arg4) = m ((c.tc : Thread Cert.CMlpIdeal.nD Cert.CMlpIdeal.τ).loc Cert.CMlpIdeal.main_arg4)) →
    ∃ (v0 : (c : Dev Cert.CMlpIdeal.nD) → Buf (Elt Ideal) ((c.tc : Thread Cert.CMlpIdeal.nD Cert.CMlpIdeal.τ).loc Cert.CMlpIdeal.main_v6_0)) (v1 : (c : Dev Cert.CMlpIdeal.nD) → Buf (Elt Ideal) ((c.tc : Thread Cert.CMlpIdeal.nD Cert.CMlpIdeal.τ).loc Cert.CMlpIdeal.main_v6_1)),
      θ_run (Cert.CMlpIdeal.defs (F := Ideal)) (onTc (τ := Cert.CMlpIdeal.τ) (Cert.CMlpIdeal.main (F := Ideal))) ⟨m, fun _ => 0, g⟩ (fun r => ∀ c : Dev Cert.CMlpIdeal.nD,
          r.2.mem ((c.tc : Thread Cert.CMlpIdeal.nD Cert.CMlpIdeal.τ).loc Cert.CMlpIdeal.main_v6_0) = v0 c
          ∧ r.2.mem ((c.tc : Thread Cert.CMlpIdeal.nD Cert.CMlpIdeal.τ).loc Cert.CMlpIdeal.main_v6_1) = v1 c
          ∧ r.2.mem ((c.tc : Thread Cert.CMlpIdeal.nD Cert.CMlpIdeal.τ).loc Cert.CMlpIdeal.main_arg0) = m ((c.tc : Thread Cert.CMlpIdeal.nD Cert.CMlpIdeal.τ).loc Cert.CMlpIdeal.main_arg0)
          ∧ r.2.mem ((c.tc : Thread Cert.CMlpIdeal.nD Cert.CMlpIdeal.τ).loc Cert.CMlpIdeal.main_arg1) = m ((c.tc : Thread Cert.CMlpIdeal.nD Cert.CMlpIdeal.τ).loc Cert.CMlpIdeal.main_arg1)
          ∧ r.2.mem ((c.tc : Thread Cert.CMlpIdeal.nD Cert.CMlpIdeal.τ).loc Cert.CMlpIdeal.main_arg2) = m ((c.tc : Thread Cert.CMlpIdeal.nD Cert.CMlpIdeal.τ).loc Cert.CMlpIdeal.main_arg2)
          ∧ r.2.mem ((c.tc : Thread Cert.CMlpIdeal.nD Cert.CMlpIdeal.τ).loc Cert.CMlpIdeal.main_arg3) = m ((c.tc : Thread Cert.CMlpIdeal.nD Cert.CMlpIdeal.τ).loc Cert.CMlpIdeal.main_arg3)
          ∧ r.2.mem ((c.tc : Thread Cert.CMlpIdeal.nD Cert.CMlpIdeal.τ).loc Cert.CMlpIdeal.main_arg4) = m ((c.tc : Thread Cert.CMlpIdeal.nD Cert.CMlpIdeal.τ).loc Cert.CMlpIdeal.main_arg4))
      ∧ θ_run (Cert.CMlpRefIdeal.defs (F := Ideal)) (onTc (τ := Cert.CMlpRefIdeal.τ) (Cert.CMlpRefIdeal.main (F := Ideal))) ⟨m', fun _ => 0, g'⟩ (fun r => ∀ c : Dev Cert.CMlpRefIdeal.nD,
          r.2.mem ((c.tc : Thread Cert.CMlpRefIdeal.nD Cert.CMlpRefIdeal.τ).loc Cert.CMlpRefIdeal.main_v54) = v0 c
          ∧ r.2.mem ((c.tc : Thread Cert.CMlpRefIdeal.nD Cert.CMlpRefIdeal.τ).loc Cert.CMlpRefIdeal.main_v55) = v1 c
          ∧ r.2.mem ((c.tc : Thread Cert.CMlpRefIdeal.nD Cert.CMlpRefIdeal.τ).loc Cert.CMlpRefIdeal.main_arg0) = m' ((c.tc : Thread Cert.CMlpRefIdeal.nD Cert.CMlpRefIdeal.τ).loc Cert.CMlpRefIdeal.main_arg0)
          ∧ r.2.mem ((c.tc : Thread Cert.CMlpRefIdeal.nD Cert.CMlpRefIdeal.τ).loc Cert.CMlpRefIdeal.main_arg1) = m' ((c.tc : Thread Cert.CMlpRefIdeal.nD Cert.CMlpRefIdeal.τ).loc Cert.CMlpRefIdeal.main_arg1)
          ∧ r.2.mem ((c.tc : Thread Cert.CMlpRefIdeal.nD Cert.CMlpRefIdeal.τ).loc Cert.CMlpRefIdeal.main_arg2) = m' ((c.tc : Thread Cert.CMlpRefIdeal.nD Cert.CMlpRefIdeal.τ).loc Cert.CMlpRefIdeal.main_arg2)
          ∧ r.2.mem ((c.tc : Thread Cert.CMlpRefIdeal.nD Cert.CMlpRefIdeal.τ).loc Cert.CMlpRefIdeal.main_arg3) = m' ((c.tc : Thread Cert.CMlpRefIdeal.nD Cert.CMlpRefIdeal.τ).loc Cert.CMlpRefIdeal.main_arg3)
          ∧ r.2.mem ((c.tc : Thread Cert.CMlpRefIdeal.nD Cert.CMlpRefIdeal.τ).loc Cert.CMlpRefIdeal.main_arg4) = m' ((c.tc : Thread Cert.CMlpRefIdeal.nD Cert.CMlpRefIdeal.τ).loc Cert.CMlpRefIdeal.main_arg4))

def preserves_PrepT_PrepTIdeal : Prop :=
  True

def algebraic_PrepTIdeal_PrepTRefIdeal_pre_finite_rows [hPrepTIdeal : Cert.PrepTIdeal.Facts] [hPrepTRefIdeal : Cert.PrepTRefIdeal.Facts] [hPre_finite_rows : Cert.Pre_finite_rows.Facts] : Prop :=
  ∀ (m : (ℓ : Loc Cert.PrepTIdeal.nD Cert.PrepTIdeal.τ Cert.PrepTIdeal.sig) → Buf (Elt Ideal) ℓ) (g : Dev Cert.PrepTIdeal.nD → PrngReg)
    (m' : (ℓ : Loc Cert.PrepTRefIdeal.nD Cert.PrepTRefIdeal.τ Cert.PrepTRefIdeal.sig) → Buf (Elt Ideal) ℓ) (g' : Dev Cert.PrepTRefIdeal.nD → PrngReg), Pre_PrepTIdeal_finite_rows m →
    (∀ c : Dev Cert.PrepTIdeal.nD,
      m' ((c.tc : Thread Cert.PrepTRefIdeal.nD Cert.PrepTRefIdeal.τ).loc Cert.PrepTRefIdeal.main_arg0) = m ((c.tc : Thread Cert.PrepTIdeal.nD Cert.PrepTIdeal.τ).loc Cert.PrepTIdeal.main_arg0)
      ∧ m' ((c.tc : Thread Cert.PrepTRefIdeal.nD Cert.PrepTRefIdeal.τ).loc Cert.PrepTRefIdeal.main_arg1) = m ((c.tc : Thread Cert.PrepTIdeal.nD Cert.PrepTIdeal.τ).loc Cert.PrepTIdeal.main_arg1)
      ∧ m' ((c.tc : Thread Cert.PrepTRefIdeal.nD Cert.PrepTRefIdeal.τ).loc Cert.PrepTRefIdeal.main_arg2) = m ((c.tc : Thread Cert.PrepTIdeal.nD Cert.PrepTIdeal.τ).loc Cert.PrepTIdeal.main_arg2)
      ∧ m' ((c.tc : Thread Cert.PrepTRefIdeal.nD Cert.PrepTRefIdeal.τ).loc Cert.PrepTRefIdeal.main_arg3) = m ((c.tc : Thread Cert.PrepTIdeal.nD Cert.PrepTIdeal.τ).loc Cert.PrepTIdeal.main_arg3)) →
    ∃ (v0 : (c : Dev Cert.PrepTIdeal.nD) → Buf (Elt Ideal) ((c.tc : Thread Cert.PrepTIdeal.nD Cert.PrepTIdeal.τ).loc Cert.PrepTIdeal.main_v23_0)) (v1 : (c : Dev Cert.PrepTIdeal.nD) → Buf (Elt Ideal) ((c.tc : Thread Cert.PrepTIdeal.nD Cert.PrepTIdeal.τ).loc Cert.PrepTIdeal.main_v23_1)) (v2 : (c : Dev Cert.PrepTIdeal.nD) → Buf (Elt Ideal) ((c.tc : Thread Cert.PrepTIdeal.nD Cert.PrepTIdeal.τ).loc Cert.PrepTIdeal.main_v23_2)) (v3 : (c : Dev Cert.PrepTIdeal.nD) → Buf (Elt Ideal) ((c.tc : Thread Cert.PrepTIdeal.nD Cert.PrepTIdeal.τ).loc Cert.PrepTIdeal.main_v23_3)),
      θ_run (Cert.PrepTIdeal.defs (F := Ideal)) (onTc (τ := Cert.PrepTIdeal.τ) (Cert.PrepTIdeal.main (F := Ideal))) ⟨m, fun _ => 0, g⟩ (fun r => ∀ c : Dev Cert.PrepTIdeal.nD,
          r.2.mem ((c.tc : Thread Cert.PrepTIdeal.nD Cert.PrepTIdeal.τ).loc Cert.PrepTIdeal.main_v23_0) = v0 c
          ∧ r.2.mem ((c.tc : Thread Cert.PrepTIdeal.nD Cert.PrepTIdeal.τ).loc Cert.PrepTIdeal.main_v23_1) = v1 c
          ∧ r.2.mem ((c.tc : Thread Cert.PrepTIdeal.nD Cert.PrepTIdeal.τ).loc Cert.PrepTIdeal.main_v23_2) = v2 c
          ∧ r.2.mem ((c.tc : Thread Cert.PrepTIdeal.nD Cert.PrepTIdeal.τ).loc Cert.PrepTIdeal.main_v23_3) = v3 c
          ∧ r.2.mem ((c.tc : Thread Cert.PrepTIdeal.nD Cert.PrepTIdeal.τ).loc Cert.PrepTIdeal.main_arg0) = m ((c.tc : Thread Cert.PrepTIdeal.nD Cert.PrepTIdeal.τ).loc Cert.PrepTIdeal.main_arg0)
          ∧ r.2.mem ((c.tc : Thread Cert.PrepTIdeal.nD Cert.PrepTIdeal.τ).loc Cert.PrepTIdeal.main_arg1) = m ((c.tc : Thread Cert.PrepTIdeal.nD Cert.PrepTIdeal.τ).loc Cert.PrepTIdeal.main_arg1)
          ∧ r.2.mem ((c.tc : Thread Cert.PrepTIdeal.nD Cert.PrepTIdeal.τ).loc Cert.PrepTIdeal.main_arg2) = m ((c.tc : Thread Cert.PrepTIdeal.nD Cert.PrepTIdeal.τ).loc Cert.PrepTIdeal.main_arg2)
          ∧ r.2.mem ((c.tc : Thread Cert.PrepTIdeal.nD Cert.PrepTIdeal.τ).loc Cert.PrepTIdeal.main_arg3) = m ((c.tc : Thread Cert.PrepTIdeal.nD Cert.PrepTIdeal.τ).loc Cert.PrepTIdeal.main_arg3))
      ∧ θ_run (Cert.PrepTRefIdeal.defs (F := Ideal)) (onTc (τ := Cert.PrepTRefIdeal.τ) (Cert.PrepTRefIdeal.main (F := Ideal))) ⟨m', fun _ => 0, g'⟩ (fun r => ∀ c : Dev Cert.PrepTRefIdeal.nD,
          r.2.mem ((c.tc : Thread Cert.PrepTRefIdeal.nD Cert.PrepTRefIdeal.τ).loc Cert.PrepTRefIdeal.main_v42) = v0 c
          ∧ r.2.mem ((c.tc : Thread Cert.PrepTRefIdeal.nD Cert.PrepTRefIdeal.τ).loc Cert.PrepTRefIdeal.main_v44) = v1 c
          ∧ r.2.mem ((c.tc : Thread Cert.PrepTRefIdeal.nD Cert.PrepTRefIdeal.τ).loc Cert.PrepTRefIdeal.main_v46) = v2 c
          ∧ r.2.mem ((c.tc : Thread Cert.PrepTRefIdeal.nD Cert.PrepTRefIdeal.τ).loc Cert.PrepTRefIdeal.main_v47) = v3 c
          ∧ r.2.mem ((c.tc : Thread Cert.PrepTRefIdeal.nD Cert.PrepTRefIdeal.τ).loc Cert.PrepTRefIdeal.main_arg0) = m' ((c.tc : Thread Cert.PrepTRefIdeal.nD Cert.PrepTRefIdeal.τ).loc Cert.PrepTRefIdeal.main_arg0)
          ∧ r.2.mem ((c.tc : Thread Cert.PrepTRefIdeal.nD Cert.PrepTRefIdeal.τ).loc Cert.PrepTRefIdeal.main_arg1) = m' ((c.tc : Thread Cert.PrepTRefIdeal.nD Cert.PrepTRefIdeal.τ).loc Cert.PrepTRefIdeal.main_arg1)
          ∧ r.2.mem ((c.tc : Thread Cert.PrepTRefIdeal.nD Cert.PrepTRefIdeal.τ).loc Cert.PrepTRefIdeal.main_arg2) = m' ((c.tc : Thread Cert.PrepTRefIdeal.nD Cert.PrepTRefIdeal.τ).loc Cert.PrepTRefIdeal.main_arg2)
          ∧ r.2.mem ((c.tc : Thread Cert.PrepTRefIdeal.nD Cert.PrepTRefIdeal.τ).loc Cert.PrepTRefIdeal.main_arg3) = m' ((c.tc : Thread Cert.PrepTRefIdeal.nD Cert.PrepTRefIdeal.τ).loc Cert.PrepTRefIdeal.main_arg3))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hCMlp : Cert.CMlp.Facts) (hCMlpIdeal : Cert.CMlpIdeal.Facts) (hCMlpRefIdeal : Cert.CMlpRefIdeal.Facts) (hPrepT : Cert.PrepT.Facts) (hPrepTIdeal : Cert.PrepTIdeal.Facts) (hPrepTRefIdeal : Cert.PrepTRefIdeal.Facts) (hPre_finite_scores : Cert.Pre_finite_scores.Facts) (hPre_finite_rows : Cert.Pre_finite_rows.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_CMlp (hCMlp := hCMlp)
    ∧ quiescent_CMlpIdeal (hCMlpIdeal := hCMlpIdeal)
    ∧ quiescent_CMlpRefIdeal (hCMlpRefIdeal := hCMlpRefIdeal)
    ∧ quiescent_PrepT (hPrepT := hPrepT)
    ∧ quiescent_PrepTIdeal (hPrepTIdeal := hPrepTIdeal)
    ∧ quiescent_PrepTIdeal_pre_finite_rows (hPrepTIdeal := hPrepTIdeal) (hPre_finite_rows := hPre_finite_rows)
    ∧ quiescent_PrepTRefIdeal (hPrepTRefIdeal := hPrepTRefIdeal)
    ∧ quiescent_PrepTRefIdeal_pre_finite_rows (hPrepTRefIdeal := hPrepTRefIdeal) (hPre_finite_rows := hPre_finite_rows)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_MemKv_MemKvIdeal
    ∧ algebraic_MemKvIdeal_MemKvRefIdeal (hMemKvIdeal := hMemKvIdeal) (hMemKvRefIdeal := hMemKvRefIdeal)
    ∧ preserves_CMlp_CMlpIdeal
    ∧ algebraic_CMlpIdeal_CMlpRefIdeal (hCMlpIdeal := hCMlpIdeal) (hCMlpRefIdeal := hCMlpRefIdeal)
    ∧ preserves_PrepT_PrepTIdeal
    ∧ algebraic_PrepTIdeal_PrepTRefIdeal_pre_finite_rows (hPrepTIdeal := hPrepTIdeal) (hPrepTRefIdeal := hPrepTRefIdeal) (hPre_finite_rows := hPre_finite_rows)
-- ==== Pre_finite_rows.lean ====
abbrev S16384x4480 : Shape := ⟨2, ![16384, 4480]⟩
abbrev S64 : Shape := ⟨1, ![64]⟩
abbrev S16 : Shape := ⟨1, ![16]⟩
abbrev S16384x2048 : Shape := ⟨2, ![16384, 2048]⟩
abbrev S_ : Shape := ⟨0, ![]⟩

class Facts : Prop where
  slices_S16384x4480_S16384x2048_0_0 : S16384x4480.Slices ![0, 0] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x4480 .f32) (main_arg1 : FVec F S64 .f32) (main_arg2 : FVec F S64 .f32) (main_arg3 : FVec F S16 .f32) : IVec S_ 1 :=
  let main_v0 : FVec F S16384x2048 .f32 := (extractStridedSlice S16384x2048 ![0, 0] · slices_S16384x4480_S16384x2048_0_0) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  main_v4
-- ==== Pre_finite_scores.lean ====
abbrev S16384x4352 : Shape := ⟨2, ![16384, 4352]⟩
abbrev S8x256x256 : Shape := ⟨3, ![8, 256, 256]⟩
abbrev S64 : Shape := ⟨1, ![64]⟩
abbrev S16384x256 : Shape := ⟨2, ![16384, 256]⟩
abbrev S_ : Shape := ⟨0, ![]⟩

class Facts : Prop where
  slices_S16384x4352_S16384x256_0_4096 : S16384x4352.Slices ![0, 4096] S16384x256
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4352 .f32) (main_arg1 : FVec F S8x256x256 .f32) (main_arg2 : FVec F S8x256x256 .f32) (main_arg3 : FVec F S64 .f32) : IVec S_ 1 :=
  let main_v0 : FVec F S16384x256 .f32 := (extractStridedSlice S16384x256 ![0, 4096] · slices_S16384x4352_S16384x256_0_4096) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  let main_v5 : FVec F S8x256x256 .f32 := Host.absf main_arg1
  let main_cst_0 : FVec F S_ .f32 := constant S_ .f32 0x7F800000#32
  let main_v6 : FVec F S8x256x256 .f32 := broadcastInDim S8x256x256 ![] bcast_S_S8x256x256 main_cst_0
  let main_v7 : IVec S8x256x256 1 := cmpf .olt main_v5 main_v6
  let main_c_1 : IVec S_ 1 := constantI S_ 1 1#1
  let main_v8 : IVec S_ 1 := (fun x v => Host.reduce IntOp.andi x v reducesTo_S8x256x256_S_d0_1_2 h_S_) main_v7 main_c_1
  let main_v9 : IVec S_ 1 := andi main_v4 main_v8
  let main_v10 : FVec F S64 .f32 := Host.absf main_arg3
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  main_v14
-- ==== Attn.lean ====
abbrev S16384x4352 : Shape := ⟨2, ![16384, 4352]⟩
abbrev S8x256x256 : Shape := ⟨3, ![8, 256, 256]⟩
abbrev S64 : Shape := ⟨1, ![64]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x64 : Shape := ⟨2, ![1, 64]⟩
abbrev S4x64 : Shape := ⟨2, ![4, 64]⟩
abbrev S16384x256 : Shape := ⟨2, ![16384, 256]⟩
abbrev S1024x256 : Shape := ⟨2, ![1024, 256]⟩
abbrev S1x256x256 : Shape := ⟨3, ![1, 256, 256]⟩
abbrev S128x256 : Shape := ⟨2, ![128, 256]⟩
abbrev S128 : Shape := ⟨1, ![128]⟩
abbrev S128x1 : Shape := ⟨2, ![128, 1]⟩

abbrev nBuf : Space → Nat
  | .hbm => 53
  | .vmem => 10
  | .smem => 0
  | _ => 0

abbrev bufTy : (tb : Table) → Fin (tcTables nBuf tb) → BufTy
  | .hbm, ⟨0, _⟩ => ⟨S16384x4352, .f32⟩
  | .hbm, ⟨1, _⟩ => ⟨S8x256x256, .f32⟩
  | .hbm, ⟨2, _⟩ => ⟨S8x256x256, .f32⟩
  | .hbm, ⟨3, _⟩ => ⟨S64, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i1⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S256x256, .bf16⟩
  | .hbm, ⟨48, _⟩ => ⟨S1x64, .f32⟩
  | .hbm, ⟨49, _⟩ => ⟨S4x64, .f32⟩
  | .hbm, ⟨50, _⟩ => ⟨S256, .f32⟩
  | .hbm, ⟨51, _⟩ => ⟨S1x256, .f32⟩
  | .hbm, ⟨52, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S256x256, .bf16⟩
  | .local _ .vmem, ⟨8, _⟩ => ⟨S1024x256, .f32⟩
  | .local _ .vmem, ⟨9, _⟩ => ⟨S1024x256, .f32⟩
  | _, _ => ⟨S16384x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let c0_i32 : BitVec 32 := 0#32
  ![v1.toNat, c16_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16384x4352 : Shape := ⟨2, ![16384, 4352]⟩
abbrev S8x256x256 : Shape := ⟨3, ![8, 256, 256]⟩
abbrev S64 : Shape := ⟨1, ![64]⟩
abbrev S8x4x64x256 : Shape := ⟨4, ![8, 4, 64, 256]⟩
abbrev S8x256x4x64 : Shape := ⟨4, ![8, 256, 4, 64]⟩
abbrev S8x2048x4352 : Shape := ⟨3, ![8, 2048, 4352]⟩
abbrev S8x2048x256 : Shape := ⟨3, ![8, 2048, 256]⟩
abbrev S8x2048x4x64 : Shape := ⟨4, ![8, 2048, 4, 64]⟩
abbrev S_ : Shape := ⟨0, ![]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S16384x256 : Shape := ⟨2, ![16384, 256]⟩

abbrev nBuf : Space → Nat
  | .hbm => 48
  | .vmem => 0
  | .smem => 0
  | _ => 0

abbrev bufTy : (tb : Table) → Fin (tcTables nBuf tb) → BufTy
  | .hbm, ⟨0, _⟩ => ⟨S16384x4352, .f32⟩
  | .hbm, ⟨1, _⟩ => ⟨S8x256x256, .f32⟩
  | .hbm, ⟨2, _⟩ => ⟨S8x256x256, .f32⟩
  | .hbm, ⟨3, _⟩ => ⟨S64, .f32⟩
  | .hbm, ⟨4, _⟩ => ⟨S8x4x64x256, .f32⟩
  | .hbm, ⟨5, _⟩ => ⟨S8x256x4x64, .f32⟩
  | .hbm, ⟨6, _⟩ => ⟨S8x4x64x256, .f32⟩
  | .hbm, ⟨7, _⟩ => ⟨S8x256x4x64, .f32⟩
  | .hbm, ⟨8, _⟩ => ⟨S8x2048x4352, .f32⟩
  | .hbm, ⟨9, _⟩ => ⟨S8x2048x256, .f32⟩
  | .hbm, ⟨10, _⟩ => ⟨S8x2048x4x64, .f32⟩
  | .hbm, ⟨11, _⟩ => ⟨S8x2048x4x64, .f32⟩
  | .hbm, ⟨12, _⟩ => ⟨S_, .f32⟩
  | .hbm, ⟨13, _⟩ => ⟨S8x2048x4, .f32⟩
  | .hbm, ⟨14, _⟩ => ⟨S8x2048x4x1, .f32⟩
  | .hbm, ⟨15, _⟩ => ⟨S_, .f32⟩
  | .hbm, ⟨16, _⟩ => ⟨S8x2048x4x1, .f32⟩
  | .hbm, ⟨17, _⟩ => ⟨S8x2048x4x1, .f32⟩
  | .hbm, ⟨18, _⟩ => ⟨S_, .f32⟩
  | .hbm, ⟨19, _⟩ => ⟨S8x2048x4x1, .f32⟩
  | .hbm, ⟨20, _⟩ => ⟨S8x2048x4x1, .f32⟩
  | .hbm, ⟨21, _⟩ => ⟨S8x2048x4x1, .f32⟩
  | .hbm, ⟨22, _⟩ => ⟨S8x2048x4x64, .f32⟩
  | .hbm, ⟨23, _⟩ => ⟨S8x2048x4x64, .f32⟩
  | .hbm, ⟨24, _⟩ => ⟨S1x1x1x64, .f32⟩
  | .hbm, ⟨25, _⟩ => ⟨S8x2048x4x64, .f32⟩
  | .hbm, ⟨26, _⟩ => ⟨S8x2048x4x64, .f32⟩
  | .hbm, ⟨27, _⟩ => ⟨S8x4x2048x256, .f32⟩
  | .hbm, ⟨28, _⟩ => ⟨S_, .f32⟩
  | .hbm, ⟨29, _⟩ => ⟨S8x4x2048x256, .f32⟩
  | .hbm, ⟨30, _⟩ => ⟨S8x4x2048x256, .f32⟩
  | .hbm, ⟨31, _⟩ => ⟨S_, .f32⟩
  | .hbm, ⟨32, _⟩ => ⟨S8x4x2048, .f32⟩
  | .hbm, ⟨33, _⟩ => ⟨S_, .f32⟩
  | .hbm, ⟨34, _⟩ => ⟨S8x4x2048, .f32⟩
  | .hbm, ⟨35, _⟩ => ⟨S8x4x2048, .f32⟩
  | .hbm, ⟨36, _⟩ => ⟨S8x4x2048x1, .f32⟩
  | .hbm, ⟨37, _⟩ => ⟨S8x4x2048x256, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x64x2048, .f32⟩
  | .hbm, ⟨46, _⟩ => ⟨S8x2048x4x64, .f32⟩
  | .hbm, ⟨47, _⟩ => ⟨S16384x256, .f32⟩
  | _, _ => ⟨S16384x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Mlp.lean ====
abbrev S16384x1024 : Shape := ⟨2, ![16384, 1024]⟩
abbrev S16384x256 : Shape := ⟨2, ![16384, 256]⟩
abbrev S1280x1024 : Shape := ⟨2, ![1280, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S1280x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1280x1024, .bf16⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpRefIdeal.lean ====
abbrev S16384x1024 : Shape := ⟨2, ![16384, 1024]⟩
abbrev S16384x256 : Shape := ⟨2, ![16384, 256]⟩
abbrev S1280x1024 : Shape := ⟨2, ![1280, 1024]⟩
abbrev S1024 : Shape := ⟨1, ![1024]⟩
abbrev S1024x4096 : Shape := ⟨2, ![1024, 4096]⟩
abbrev S4096x1024 : Shape := ⟨2, ![4096, 1024]⟩
abbrev S16384x1280 : Shape := ⟨2, ![16384, 1280]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S1280x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S16384x1280, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x4352 : Shape := ⟨2, ![1024, 4352]⟩
abbrev S1x1024 : Shape := ⟨2, ![1, 1024]⟩
abbrev S16384x4352 : Shape := ⟨2, ![16384, 4352]⟩
abbrev S512x1024 : Shape := ⟨2, ![512, 1024]⟩
abbrev S512x4352 : Shape := ⟨2, ![512, 4352]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4352, .f32⟩
  | .hbm, ⟨3, _⟩ => ⟨S1x1024, .f32⟩
  | .hbm, ⟨4, _⟩ => ⟨S1024x4352, .bf16⟩
  | .hbm, ⟨5, _⟩ => ⟨S16384x4352, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S512x4352, .f32⟩
  | .local _ .vmem, ⟨5, _⟩ => ⟨S512x4352, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S16384x1024 : Shape := ⟨2, ![16384, 1024]⟩
abbrev S1024 : Shape := ⟨1, ![1024]⟩
abbrev S1024x4352 : Shape := ⟨2, ![1024, 4352]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4352 : Shape := ⟨2, ![16384, 4352]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4352, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4352, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MemKv.lean ====
abbrev S8x256x1024 : Shape := ⟨3, ![8, 256, 1024]⟩
abbrev S4x1024 : Shape := ⟨2, ![4, 1024]⟩
abbrev S4x1024x512 : Shape := ⟨3, ![4, 1024, 512]⟩
abbrev S4x64 : Shape := ⟨2, ![4, 64]⟩
abbrev S4x1x1024 : Shape := ⟨3, ![4, 1, 1024]⟩
abbrev S4x512x1024 : Shape := ⟨3, ![4, 512, 1024]⟩
abbrev S4x64x1 : Shape := ⟨3, ![4, 64, 1]⟩
abbrev S4x8x256x256 : Shape := ⟨4, ![4, 8, 256, 256]⟩
abbrev S1x256x1024 : Shape := ⟨3, ![1, 256, 1024]⟩
abbrev S1x1x1024 : Shape := ⟨3, ![1, 1, 1024]⟩
abbrev S1x512x1024 : Shape := ⟨3, ![1, 512, 1024]⟩
abbrev S1x64x1 : Shape := ⟨3, ![1, 64, 1]⟩
abbrev S1x1x256x256 : Shape := ⟨4, ![1, 1, 256, 256]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S512x1024 : Shape := ⟨2, ![512, 1024]⟩
abbrev S512x256 : Shape := ⟨2, ![512, 256]⟩
abbrev S64x1 : Shape := ⟨2, ![64, 1]⟩
abbrev S64x256 : Shape := ⟨2, ![64, 256]⟩
abbrev S1x256 : Shape := ⟨2, ![1, 256]⟩
abbrev S1x1x64x256 : Shape := ⟨4, ![1, 1, 64, 256]⟩
abbrev S256x256 : Shape := ⟨2, ![256, 256]⟩

abbrev nBuf : Space → Nat
  | .hbm => 10
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x512, .f32⟩
  | .hbm, ⟨3, _⟩ => ⟨S4x64, .f32⟩
  | .hbm, ⟨4, _⟩ => ⟨S4x1x1024, .f32⟩
  | .hbm, ⟨5, _⟩ => ⟨S4x512x1024, .f32⟩
  | .hbm, ⟨6, _⟩ => ⟨S4x512x1024, .bf16⟩
  | .hbm, ⟨7, _⟩ => ⟨S4x64x1, .f32⟩
  | .hbm, ⟨8, _⟩ => ⟨S4x8x256x256, .f32⟩
  | .hbm, ⟨9, _⟩ => ⟨S4x8x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x64x1, .f32⟩
  | .local _ .vmem, ⟨7, _⟩ => ⟨S1x64x1, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .f32⟩
  | .local _ .vmem, ⟨11, _⟩ => ⟨S1x1x256x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemKvRefIdeal.lean ====
abbrev S8x256x1024 : Shape := ⟨3, ![8, 256, 1024]⟩
abbrev S4x1024 : Shape := ⟨2, ![4, 1024]⟩
abbrev S4x1024x512 : Shape := ⟨3, ![4, 1024, 512]⟩
abbrev S4x64 : Shape := ⟨2, ![4, 64]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S1x64 : Shape := ⟨2, ![1, 64]⟩
abbrev S64 : Shape := ⟨1, ![64]⟩
abbrev S8x256x4 : Shape := ⟨3, ![8, 256, 4]⟩
abbrev S8x256x4x1 : Shape := ⟨4, ![8, 256, 4, 1]⟩
abbrev S1x1x1x64 : Shape := ⟨4, ![1, 1, 1, 64]⟩
abbrev S1x8x256x4x64 : Shape := ⟨5, ![1, 8, 256, 4, 64]⟩
abbrev S4x8x256x4x64 : Shape := ⟨5, ![4, 8, 256, 4, 64]⟩
abbrev S4x8x4x64x256 : Shape := ⟨5, ![4, 8, 4, 64, 256]⟩
abbrev S4x8x256x256 : Shape := ⟨4, ![4, 8, 256, 256]⟩

abbrev nBuf : Space → Nat
  | .hbm => 190
  | .vmem => 0
  | .smem => 0
  | _ => 0

abbrev hbmTy0_0 (i : Nat) : BufTy := match i % 128 with
  | 0 => ⟨S8x256x1024, .f32⟩
  | 1 => ⟨S4x1024, .f32⟩
  | 2 => ⟨S4x1024x512, .f32⟩
  | 3 => ⟨S4x64, .f32⟩
  | 4 => ⟨S1x1024, .f32⟩
  | 5 => ⟨S1024, .f32⟩
  | 6 => ⟨S8x256x1024, .f32⟩
  | 7 => ⟨S_, .f32⟩
  | 8 => ⟨S8x256, .f32⟩
  | 9 => ⟨S8x256x1, .f32⟩
  | 10 => ⟨S_, .f32⟩
  | 11 => ⟨S8x256x1, .f32⟩
  | 12 => ⟨S8x256x1, .f32⟩
  | 13 => ⟨S_, .f32⟩
  | 14 => ⟨S8x256x1, .f32⟩
  | 15 => ⟨S8x256x1, .f32⟩
  | 16 => ⟨S8x256x1, .f32⟩
  | 17 => ⟨S8x256x1024, .f32⟩
  | 18 => ⟨S8x256x1024, .f32⟩
  | 19 => ⟨S1x1x1024, .f32⟩
  | 20 => ⟨S8x256x1024, .f32⟩
  | 21 => ⟨S8x256x1024, .f32⟩
  | 22 => ⟨S1x1024x512, .f32⟩
  | 23 => ⟨S1024x512, .f32⟩
  | 24 => ⟨S8x256x512, .f32⟩
  | 25 => ⟨S8x256x256, .f32⟩
  | 26 => ⟨S8x256x256, .f32⟩
  | 27 => ⟨S8x256x4x64, .f32⟩
  | 28 => ⟨S1x64, .f32⟩
  | 29 => ⟨S64, .f32⟩
  | 30 => ⟨S8x256x4x64, .f32⟩
  | 31 => ⟨S_, .f32⟩
  | 32 => ⟨S8x256x4, .f32⟩
  | 33 => ⟨S8x256x4x1, .f32⟩
  | 34 => ⟨S_, .f32⟩
  | 35 => ⟨S8x256x4x1, .f32⟩
  | 36 => ⟨S8x256x4x1, .f32⟩
  | 37 => ⟨S_, .f32⟩
  | 38 => ⟨S8x256x4x1, .f32⟩
  | 39 => ⟨S8x256x4x1, .f32⟩
  | 40 => ⟨S8x256x4x1, .f32⟩
  | 41 => ⟨S8x256x4x64, .f32⟩
  | 42 => ⟨S8x256x4x64, .f32⟩
  | 43 => ⟨S1x1x1x64, .f32⟩
  | 44 => ⟨S8x256x4x64, .f32⟩
  | 45 => ⟨S8x256x4x64, .f32⟩
  | 46 => ⟨S8x256x4x64, .f32⟩
  | 47 => ⟨S1x1024, .f32⟩
  | 48 => ⟨S1024, .f32⟩
  | 49 => ⟨S8x256x1024, .f32⟩
  | 50 => ⟨S_, .f32⟩
  | 51 => ⟨S8x256, .f32⟩
  | 52 => ⟨S8x256x1, .f32⟩
  | 53 => ⟨S_, .f32⟩
  | 54 => ⟨S8x256x1, .f32⟩
  | 55 => ⟨S8x256x1, .f32⟩
  | 56 => ⟨S_, .f32⟩
  | 57 => ⟨S8x256x1, .f32⟩
  | 58 => ⟨S8x256x1, .f32⟩
  | 59 => ⟨S8x256x1, .f32⟩
  | 60 => ⟨S8x256x1024, .f32⟩
  | 61 => ⟨S8x256x1024, .f32⟩
  | 62 => ⟨S1x1x1024, .f32⟩
  | 63 => ⟨S8x256x1024, .f32⟩
  | 64 => ⟨S8x256x1024, .f32⟩
  | 65 => ⟨S1x1024x512, .f32⟩
  | 66 => ⟨S1024x512, .f32⟩
  | 67 => ⟨S8x256x512, .f32⟩
  | 68 => ⟨S8x256x256, .f32⟩
  | 69 => ⟨S8x256x256, .f32⟩
  | 70 => ⟨S8x256x4x64, .f32⟩
  | 71 => ⟨S1x64, .f32⟩
  | 72 => ⟨S64, .f32⟩
  | 73 => ⟨S8x256x4x64, .f32⟩
  | 74 => ⟨S_, .f32⟩
  | 75 => ⟨S8x256x4, .f32⟩
  | 76 => ⟨S8x256x4x1, .f32⟩
  | 77 => ⟨S_, .f32⟩
  | 78 => ⟨S8x256x4x1, .f32⟩
  | 79 => ⟨S8x256x4x1, .f32⟩
  | 80 => ⟨S_, .f32⟩
  | 81 => ⟨S8x256x4x1, .f32⟩
  | 82 => ⟨S8x256x4x1, .f32⟩
  | 83 => ⟨S8x256x4x1, .f32⟩
  | 84 => ⟨S8x256x4x64, .f32⟩
  | 85 => ⟨S8x256x4x64, .f32⟩
  | 86 => ⟨S1x1x1x64, .f32⟩
  | 87 => ⟨S8x256x4x64, .f32⟩
  | 88 => ⟨S8x256x4x64, .f32⟩
  | 89 => ⟨S8x256x4x64, .f32⟩
  | 90 => ⟨S1x1024, .f32⟩
  | 91 => ⟨S1024, .f32⟩
  | 92 => ⟨S8x256x1024, .f32⟩
  | 93 => ⟨S_, .f32⟩
  | 94 => ⟨S8x256, .f32⟩
  | 95 => ⟨S8x256x1, .f32⟩
  | 96 => ⟨S_, .f32⟩
  | 97 => ⟨S8x256x1, .f32⟩
  | 98 => ⟨S8x256x1, .f32⟩
  | 99 => ⟨S_, .f32⟩
  | 100 => ⟨S8x256x1, .f32⟩
  | 101 => ⟨S8x256x1, .f32⟩
  | 102 => ⟨S8x256x1, .f32⟩
  | 103 => ⟨S8x256x1024, .f32⟩
  | 104 => ⟨S8x256x1024, .f32⟩
  | 105 => ⟨S1x1x1024, .f32⟩
  | 106 => ⟨S8x256x1024, .f32⟩
  | 107 => ⟨S8x256x1024, .f32⟩
  | 108 => ⟨S1x1024x512, .f32⟩
  | 109 => ⟨S1024x512, .f32⟩
  | 110 => ⟨S8x256x512, .f32⟩
  | 111 => ⟨S8x256x256, .f32⟩
  | 112 => ⟨S8x256x256, .f32⟩
  | 113 => ⟨S8x256x4x64, .f32⟩
  | 114 => ⟨S1x64, .f32⟩
  | 115 => ⟨S64, .f32⟩
  | 116 => ⟨S8x256x4x64, .f32⟩
  | 117 => ⟨S_, .f32⟩
  | 118 => ⟨S8x256x4, .f32⟩
  | 119 => ⟨S8x256x4x1, .f32⟩
  | 120 => ⟨S_, .f32⟩
  | 121 => ⟨S8x256x4x1, .f32⟩
  | 122 => ⟨S8x256x4x1, .f32⟩
  | 123 => ⟨S_, .f32⟩
  | 124 => ⟨S8x256x4x1, .f32⟩
  | 125 => ⟨S8x256x4x1, .f32⟩
  | 126 => ⟨S8x256x4x1, .f32⟩
  | 127 => ⟨S8x256x4x64, .f32⟩
  | _ => ⟨S8x256x1024, .f32⟩

abbrev hbmTy0_1 (i : Nat) : BufTy := match i % 128 with
  | 0 => ⟨S8x256x4x64, .f32⟩
  | 1 => ⟨S1x1x1x64, .f32⟩
  | 2 => ⟨S8x256x4x64, .f32⟩
  | 3 => ⟨S8x256x4x64, .f32⟩
  | 4 => ⟨S8x256x4x64, .f32⟩
  | 5 => ⟨S1x1024, .f32⟩
  | 6 => ⟨S1024, .f32⟩
  | 7 => ⟨S8x256x1024, .f32⟩
  | 8 => ⟨S_, .f32⟩
  | 9 => ⟨S8x256, .f32⟩
  | 10 => ⟨S8x256x1, .f32⟩
  | 11 => ⟨S_, .f32⟩
  | 12 => ⟨S8x256x1, .f32⟩
  | 13 => ⟨S8x256x1, .f32⟩
  | 14 => ⟨S_, .f32⟩
  | 15 => ⟨S8x256x1, .f32⟩
  | 16 => ⟨S8x256x1, .f32⟩
  | 17 => ⟨S8x256x1, .f32⟩
  | 18 => ⟨S8x256x1024, .f32⟩
  | 19 => ⟨S8x256x1024, .f32⟩
  | 20 => ⟨S1x1x1024, .f32⟩
  | 21 => ⟨S8x256x1024, .f32⟩
  | 22 => ⟨S8x256x1024, .f32⟩
  | 23 => ⟨S1x1024x512, .f32⟩
  | 24 => ⟨S1024x512, .f32⟩
  | 25 => ⟨S8x256x512, .f32⟩
  | 26 => ⟨S8x256x256, .f32⟩
  | 27 => ⟨S8x256x256, .f32⟩
  | 28 => ⟨S8x256x4x64, .f32⟩
  | 29 => ⟨S1x64, .f32⟩
  | 30 => ⟨S64, .f32⟩
  | 31 => ⟨S8x256x4x64, .f32⟩
  | 32 => ⟨S_, .f32⟩
  | 33 => ⟨S8x256x4, .f32⟩
  | 34 => ⟨S8x256x4x1, .f32⟩
  | 35 => ⟨S_, .f32⟩
  | 36 => ⟨S8x256x4x1, .f32⟩
  | 37 => ⟨S8x256x4x1, .f32⟩
  | 38 => ⟨S_, .f32⟩
  | 39 => ⟨S8x256x4x1, .f32⟩
  | 40 => ⟨S8x256x4x1, .f32⟩
  | 41 => ⟨S8x256x4x1, .f32⟩
  | 42 => ⟨S8x256x4x64, .f32⟩
  | 43 => ⟨S8x256x4x64, .f32⟩
  | 44 => ⟨S1x1x1x64, .f32⟩
  | 45 => ⟨S8x256x4x64, .f32⟩
  | 46 => ⟨S8x256x4x64, .f32⟩
  | 47 => ⟨S8x256x4x64, .f32⟩
  | 48 => ⟨S1x8x256x4x64, .f32⟩
  | 49 => ⟨S1x8x256x4x64, .f32⟩
  | 50 => ⟨S1x8x256x4x64, .f32⟩
  | 51 => ⟨S1x8x256x4x64, .f32⟩
  | 52 => ⟨S4x8x256x4x64, .f32⟩
  | 53 => ⟨S4x8x4x64x256, .f32⟩
  | 54 => ⟨S4x8x256x256, .f32⟩
  | 55 => ⟨S1x8x256x4x64, .f32⟩
  | 56 => ⟨S1x8x256x4x64, .f32⟩
  | 57 => ⟨S1x8x256x4x64, .f32⟩
  | 58 => ⟨S1x8x256x4x64, .f32⟩
  | 59 => ⟨S4x8x256x4x64, .f32⟩
  | 60 => ⟨S4x8x4x64x256, .f32⟩
  | 61 => ⟨S4x8x256x256, .f32⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_v77 : Ref sig .tc := ⟨.hbm, 94, rfl⟩
abbrev main_v78 : Ref sig .tc := ⟨.hbm, 95, rfl⟩
abbrev main_cst_12 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_14 : Ref sig .tc := ⟨.hbm, 117, rfl⟩
abbrev main_v98 : Ref sig .tc := ⟨.hbm, 118, rfl⟩
abbrev main_v99 : Ref sig .tc := ⟨.hbm, 119, rfl⟩
abbrev main_cst_15 : Ref sig .tc := ⟨.hbm, 120, rfl⟩
abbrev main_v100 : Ref sig .tc := ⟨.hbm, 121, rfl⟩
abbrev main_v101 : Ref sig .tc := ⟨.hbm, 122, rfl⟩
abbrev main_cst_16 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_17 : Ref sig .tc := ⟨.hbm, 136, rfl⟩
abbrev main_v114 : Ref sig .tc := ⟨.hbm, 137, rfl⟩
abbrev main_v115 : Ref sig .tc := ⟨.hbm, 138, rfl⟩
abbrev main_cst_18 : Ref sig .tc := ⟨.hbm, 139, rfl⟩
abbrev main_v116 : Ref sig .tc := ⟨.hbm, 140, rfl⟩
abbrev main_v117 : Ref sig .tc := ⟨.hbm, 141, rfl⟩
abbrev main_cst_19 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_20 : Ref sig .tc := ⟨.hbm, 160, rfl⟩
abbrev main_v135 : Ref sig .tc := ⟨.hbm, 161, rfl⟩
abbrev main_v136 : Ref sig .tc := ⟨.hbm, 162, rfl⟩
abbrev main_cst_21 : Ref sig .tc := ⟨.hbm, 163, rfl⟩
abbrev main_v137 : Ref sig .tc := ⟨.hbm, 164, rfl⟩
abbrev main_v138 : Ref sig .tc := ⟨.hbm, 165, rfl⟩
abbrev main_cst_22 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩

abbrev nD : Nat := 1
abbrev τ : Topo := Topo.v7x

variable {F : FTy → Type} [FloatOps F]
-- ==== CMlp.lean ====
abbrev S256x2304 : Shape := ⟨2, ![256, 2304]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x8x8 : Shape := ⟨3, ![8, 8, 8]⟩
abbrev S8x8 : Shape := ⟨2, ![8, 8]⟩
abbrev S8x8x1 : Shape := ⟨3, ![8, 8, 1]⟩
abbrev S8x8x128 : Shape := ⟨3, ![8, 8, 128]⟩
abbrev S256x1024 : Shape := ⟨2, ![256, 1024]⟩
abbrev S8x1024 : Shape := ⟨2, ![8, 1024]⟩
abbrev S8 : Shape := ⟨1, ![8]⟩
abbrev S8x1 : Shape := ⟨2, ![8, 1]⟩
abbrev S1x8x8 : Shape := ⟨3, ![1, 8, 8]⟩
abbrev S1x8x128 : Shape := ⟨3, ![1, 8, 128]⟩

abbrev nBuf : Space → Nat
  | .hbm => 13
  | .vmem => 12
  | .smem => 0
  | _ => 0

abbrev bufTy : (tb : Table) → Fin (tcTables nBuf tb) → BufTy
  | .hbm, ⟨0, _⟩ => ⟨S256x2304, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S8x8x8, .f32⟩
  | .hbm, ⟨8, _⟩ => ⟨S8x8, .f32⟩
  | .hbm, ⟨9, _⟩ => ⟨S8x8x1, .f32⟩
  | .hbm, ⟨10, _⟩ => ⟨S8x8x128, .f32⟩
  | .hbm, ⟨11, _⟩ => ⟨S256x1024, .f32⟩
  | .hbm, ⟨12, _⟩ => ⟨S256x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1x1024, .f32⟩
  | .local _ .vmem, ⟨6, _⟩ => ⟨S8x8x8, .f32⟩
  | .local _ .vmem, ⟨7, _⟩ => ⟨S8x8x128, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | _, _ => ⟨S256x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CMlpRefIdeal.lean ====
abbrev S256x2304 : Shape := ⟨2, ![256, 2304]⟩
abbrev S1024 : Shape := ⟨1, ![1024]⟩
abbrev S8x128x128 : Shape := ⟨3, ![8, 128, 128]⟩
abbrev S8x128 : Shape := ⟨2, ![8, 128]⟩
abbrev S32x8x2304 : Shape := ⟨3, ![32, 8, 2304]⟩
abbrev S32x8x2048 : Shape := ⟨3, ![32, 8, 2048]⟩
abbrev S_ : Shape := ⟨0, ![]⟩
abbrev S32x8x1024 : Shape := ⟨3, ![32, 8, 1024]⟩
abbrev S32x8 : Shape := ⟨2, ![32, 8]⟩
abbrev S32x8x1 : Shape := ⟨3, ![32, 8, 1]⟩
abbrev S1x1x1024 : Shape := ⟨3, ![1, 1, 1024]⟩
abbrev S32x128x1024 : Shape := ⟨3, ![32, 128, 1024]⟩
abbrev S32x1x128x8x128 : Shape := ⟨5, ![32, 1, 128, 8, 128]⟩
abbrev S128x128 : Shape := ⟨2, ![128, 128]⟩
abbrev S8x32x1x128x128 : Shape := ⟨5, ![8, 32, 1, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S256x1024 : Shape := ⟨2, ![256, 1024]⟩

abbrev nBuf : Space → Nat
  | .hbm => 85
  | .vmem => 0
  | .smem => 0
  | _ => 0

abbrev bufTy : (tb : Table) → Fin (tcTables nBuf tb) → BufTy
  | .hbm, ⟨0, _⟩ => ⟨S256x2304, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S32x8x2304, .f32⟩
  | .hbm, ⟨6, _⟩ => ⟨S32x8x2048, .f32⟩
  | .hbm, ⟨7, _⟩ => ⟨S32x8x2048, .f32⟩
  | .hbm, ⟨8, _⟩ => ⟨S32x8x2048, .f32⟩
  | .hbm, ⟨9, _⟩ => ⟨S_, .f32⟩
  | .hbm, ⟨10, _⟩ => ⟨S32x8x2048, .f32⟩
  | .hbm, ⟨11, _⟩ => ⟨S32x8x2048, .f32⟩
  | .hbm, ⟨12, _⟩ => ⟨S32x8x2048, .f32⟩
  | .hbm, ⟨13, _⟩ => ⟨S_, .f32⟩
  | .hbm, ⟨14, _⟩ => ⟨S32x8x2048, .f32⟩
  | .hbm, ⟨15, _⟩ => ⟨S32x8x2048, .f32⟩
  | .hbm, ⟨16, _⟩ => ⟨S32x8x2048, .f32⟩
  | .hbm, ⟨17, _⟩ => ⟨S_, .f32⟩
  | .hbm, ⟨18, _⟩ => ⟨S32x8x2048, .f32⟩
  | .hbm, ⟨19, _⟩ => ⟨S32x8x2048, .f32⟩
  | .hbm, ⟨20, _⟩ => ⟨S_, .f32⟩
  | .hbm, ⟨21, _⟩ => ⟨S32x8x2048, .f32⟩
  | .hbm, ⟨22, _⟩ => ⟨S32x8x2048, .f32⟩
  | .hbm, ⟨23, _⟩ => ⟨S32x8x2048, .f32⟩
  | .hbm, ⟨24, _⟩ => ⟨S32x8x1024, .f32⟩
  | .hbm, ⟨25, _⟩ => ⟨S32x8x1024, .f32⟩
  | .hbm, ⟨26, _⟩ => ⟨S_, .f32⟩
  | .hbm, ⟨27, _⟩ => ⟨S32x8, .f32⟩
  | .hbm, ⟨28, _⟩ => ⟨S32x8x1, .f32⟩
  | .hbm, ⟨29, _⟩ => ⟨S_, .f32⟩
  | .hbm, ⟨30, _⟩ => ⟨S32x8x1, .f32⟩
  | .hbm, ⟨31, _⟩ => ⟨S32x8x1, .f32⟩
  | .hbm, ⟨32, _⟩ => ⟨S32x8x1024, .f32⟩
  | .hbm, ⟨33, _⟩ => ⟨S32x8x1024, .f32⟩
  | .hbm, ⟨34, _⟩ => ⟨S32x8x1024, .f32⟩
  | .hbm, ⟨35, _⟩ => ⟨S_, .f32⟩
  | .hbm, ⟨36, _⟩ => ⟨S32x8, .f32⟩
  | .hbm, ⟨37, _⟩ => ⟨S32x8x1, .f32⟩
  | .hbm, ⟨38, _⟩ => ⟨S_, .f32⟩
  | .hbm, ⟨39, _⟩ => ⟨S32x8x1, .f32⟩
  | .hbm, ⟨40, _⟩ => ⟨S32x8x1, .f32⟩
  | .hbm, ⟨41, _⟩ => ⟨S_, .f32⟩
  | .hbm, ⟨42, _⟩ => ⟨S32x8x1, .f32⟩
  | .hbm, ⟨43, _⟩ => ⟨S32x8x1, .f32⟩
  | .hbm, ⟨44, _⟩ => ⟨S32x8x1, .f32⟩
  | .hbm, ⟨45, _⟩ => ⟨S32x8x1024, .f32⟩
  | .hbm, ⟨46, _⟩ => ⟨S32x8x1024, .f32⟩
  | .hbm, ⟨47, _⟩ => ⟨S1x1x1024, .f32⟩
  | .hbm, ⟨48, _⟩ => ⟨S32x8x1024, .f32⟩
  | .hbm, ⟨49, _⟩ => ⟨S32x8x1024, .f32⟩
  | .hbm, ⟨50, _⟩ => ⟨S1x1x1024, .f32⟩
  | .hbm, ⟨51, _⟩ => ⟨S32x8x1024, .f32⟩
  | .hbm, ⟨52, _⟩ => ⟨S32x8x1024, .f32⟩
  | .hbm, ⟨53, _⟩ => ⟨S_, .i32⟩
  | .hbm, ⟨54, _⟩ => ⟨S_, .f32⟩
  | .hbm, ⟨55, _⟩ => ⟨S32x128x1024, .f32⟩
  | .hbm, ⟨56, _⟩ => ⟨S32x1x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S_, .f32⟩
  | .hbm, ⟨69, _⟩ => ⟨S_, .f32⟩
  | .hbm, ⟨70, _⟩ => ⟨S8x128x128, .i1⟩
  | .hbm, ⟨71, _⟩ => ⟨S8x128x128, .f32⟩
  | .hbm, ⟨72, _⟩ => ⟨S8x128x128, .f32⟩
  | .hbm, ⟨73, _⟩ => ⟨S8x32x1x128x128, .f32⟩
  | .hbm, ⟨74, _⟩ => ⟨S32x1x128x8x128, .f32⟩
  | .hbm, ⟨75, _⟩ => ⟨S128x8, .f32⟩
  | .hbm, ⟨76, _⟩ => ⟨S128x8x1, .f32⟩
  | .hbm, ⟨77, _⟩ => ⟨S1x1x128x8x1, .f32⟩
  | .hbm, ⟨78, _⟩ => ⟨S32x1x128x8x128, .f32⟩
  | .hbm, ⟨79, _⟩ => ⟨S32x1x128x8x128, .f32⟩
  | .hbm, ⟨80, _⟩ => ⟨S32x128x1024, .f32⟩
  | .hbm, ⟨81, _⟩ => ⟨S32x8x1024, .f32⟩
  | .hbm, ⟨82, _⟩ => ⟨S32x8x1024, .f32⟩
  | .hbm, ⟨83, _⟩ => ⟨S256x1024, .f32⟩
  | .hbm, ⟨84, _⟩ => ⟨S256x1024, .f32⟩
  | _, _ => ⟨S256x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_0 : Ref sig .tc := ⟨.hbm, 65, rfl⟩
abbrev main_call1_v5 : Ref sig .tc := ⟨.hbm, 66, rfl⟩
abbrev main_v42 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== PrepT.lean ====
abbrev S16384x4480 : Shape := ⟨2, ![16384, 4480]⟩
abbrev S64 : Shape := ⟨1, ![64]⟩
abbrev S16 : Shape := ⟨1, ![16]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S_ : Shape := ⟨0, ![]⟩
abbrev S1x128 : Shape := ⟨2, ![1, 128]⟩
abbrev S1 : Shape := ⟨1, ![1]⟩
abbrev S2 : Shape := ⟨1, ![2]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16384x1024 : Shape := ⟨2, ![16384, 1024]⟩
abbrev S8x1024x2048 : Shape := ⟨3, ![8, 1024, 2048]⟩
abbrev S8x16x2048 : Shape := ⟨3, ![8, 16, 2048]⟩
abbrev S16384x128 : Shape := ⟨2, ![16384, 128]⟩
abbrev S8x128x2048 : Shape := ⟨3, ![8, 128, 2048]⟩
abbrev S256x1024 : Shape := ⟨2, ![256, 1024]⟩
abbrev S256x128 : Shape := ⟨2, ![256, 128]⟩
abbrev S1x1024x256 : Shape := ⟨3, ![1, 1024, 256]⟩
abbrev S1x16x256 : Shape := ⟨3, ![1, 16, 256]⟩
abbrev S1x128x256 : Shape := ⟨3, ![1, 128, 256]⟩
abbrev S1024x256 : Shape := ⟨2, ![1024, 256]⟩
abbrev S128x256 : Shape := ⟨2, ![128, 256]⟩
abbrev S16x256 : Shape := ⟨2, ![16, 256]⟩
abbrev S128x128 : Shape := ⟨2, ![128, 128]⟩
abbrev S128x1 : Shape := ⟨2, ![128, 1]⟩

abbrev nBuf : Space → Nat
  | .hbm => 70
  | .vmem => 25
  | .smem => 0
  | _ => 0

abbrev bufTy : (tb : Table) → Fin (tcTables nBuf tb) → BufTy
  | .hbm, ⟨0, _⟩ => ⟨S16384x4480, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S1x64, .f32⟩
  | .hbm, ⟨5, _⟩ => ⟨S16x64, .f32⟩
  | .hbm, ⟨6, _⟩ => ⟨S1024, .f32⟩
  | .hbm, ⟨7, _⟩ => ⟨S1x1024, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S256, .i32⟩
  | .hbm, ⟨21, _⟩ => ⟨S256x1, .i32⟩
  | .hbm, ⟨22, _⟩ => ⟨S_, .i32⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S_, .i32⟩
  | .hbm, ⟨28, _⟩ => ⟨S256x1, .i32⟩
  | .hbm, ⟨29, _⟩ => ⟨S256x1, .i1⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S256x1, .i1⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S256, .i32⟩
  | .hbm, ⟨41, _⟩ => ⟨S1x256, .i32⟩
  | .hbm, ⟨42, _⟩ => ⟨S_, .i32⟩
  | .hbm, ⟨43, _⟩ => ⟨S_, .i32⟩
  | .hbm, ⟨44, _⟩ => ⟨S1x256, .i32⟩
  | .hbm, ⟨45, _⟩ => ⟨S1x256, .i32⟩
  | .hbm, ⟨46, _⟩ => ⟨S1x256, .i32⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x256, .i1⟩
  | .hbm, ⟨56, _⟩ => ⟨S_, .i32⟩
  | .hbm, ⟨57, _⟩ => ⟨S1x256, .i32⟩
  | .hbm, ⟨58, _⟩ => ⟨S1x256, .i32⟩
  | .hbm, ⟨59, _⟩ => ⟨S1x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .bf16⟩
  | .hbm, ⟨64, _⟩ => ⟨S16384x1024, .f32⟩
  | .hbm, ⟨65, _⟩ => ⟨S8x1024x2048, .f32⟩
  | .hbm, ⟨66, _⟩ => ⟨S8x1024x2048, .f32⟩
  | .hbm, ⟨67, _⟩ => ⟨S8x16x2048, .f32⟩
  | .hbm, ⟨68, _⟩ => ⟨S16384x128, .f32⟩
  | .hbm, ⟨69, _⟩ => ⟨S8x128x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S256x256, .bf16⟩
  | .local _ .vmem, ⟨12, _⟩ => ⟨S256x1024, .f32⟩
  | .local _ .vmem, ⟨13, _⟩ => ⟨S256x1024, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x16x256, .f32⟩
  | .local _ .vmem, ⟨19, _⟩ => ⟨S1x16x256, .f32⟩
  | .local _ .vmem, ⟨20, _⟩ => ⟨S256x128, .f32⟩
  | .local _ .vmem, ⟨21, _⟩ => ⟨S256x128, .f32⟩
  | .local _ .vmem, ⟨22, _⟩ => ⟨S1x128x256, .bf16⟩
  | .local _ .vmem, ⟨23, _⟩ => ⟨S1x128x256, .bf16⟩
  | .local _ .vmem, ⟨24, _⟩ => ⟨S1x128, .f32⟩
  | _, _ => ⟨S16384x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23_0 : Ref sig .tc := ⟨.hbm, 64, rfl⟩
abbrev main_v23_1 : Ref sig .tc := ⟨.hbm, 65, rfl⟩
abbrev main_v23_2 : Ref sig .tc := ⟨.hbm, 66, rfl⟩
abbrev main_v23_3 : Ref sig .tc := ⟨.hbm, 67, rfl⟩
abbrev main_v23_4 : Ref sig .tc := ⟨.hbm, 68, rfl⟩
abbrev main_v23_5 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c34_i32 : BitVec 32 := 34#32
  let c0_i32 : BitVec 32 := 0#32
  ![v1.toNat, c34_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepTRefIdeal.lean ====
abbrev S16384x4480 : Shape := ⟨2, ![16384, 4480]⟩
abbrev S64 : Shape := ⟨1, ![64]⟩
abbrev S16 : Shape := ⟨1, ![16]⟩
abbrev S16384x4096 : Shape := ⟨2, ![16384, 4096]⟩
abbrev S16384x16 : Shape := ⟨2, ![16384, 16]⟩
abbrev S16384x4112 : Shape := ⟨2, ![16384, 4112]⟩
abbrev S8x2048x4112 : Shape := ⟨3, ![8, 2048, 4112]⟩
abbrev S8x2048x1024 : Shape := ⟨3, ![8, 2048, 1024]⟩
abbrev S8x2048x16 : Shape := ⟨3, ![8, 2048, 16]⟩
abbrev S8x2048x16x64 : Shape := ⟨4, ![8, 2048, 16, 64]⟩
abbrev S_ : Shape := ⟨0, ![]⟩
abbrev S8x2048x16x1 : Shape := ⟨4, ![8, 2048, 16, 1]⟩
abbrev S1x1x1x64 : Shape := ⟨4, ![1, 1, 1, 64]⟩
abbrev S1x1x16 : Shape := ⟨3, ![1, 1, 16]⟩
abbrev S16384x1024 : Shape := ⟨2, ![16384, 1024]⟩
abbrev S8x16x64x2048 : Shape := ⟨4, ![8, 16, 64, 2048]⟩
abbrev S8x1024x2048 : Shape := ⟨3, ![8, 1024, 2048]⟩
abbrev S8x16x2048 : Shape := ⟨3, ![8, 16, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x4480, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S16384x4096, .f32⟩
  | .hbm, ⟨5, _⟩ => ⟨S16384x16, .f32⟩
  | .hbm, ⟨6, _⟩ => ⟨S16384x4112, .f32⟩
  | .hbm, ⟨7, _⟩ => ⟨S8x2048x4112, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x16, .f32⟩
  | .hbm, ⟨13, _⟩ => ⟨S8x2048x16x64, .f32⟩
  | .hbm, ⟨14, _⟩ => ⟨S8x2048x16x64, .f32⟩
  | .hbm, ⟨15, _⟩ => ⟨S_, .f32⟩
  | .hbm, ⟨16, _⟩ => ⟨S8x2048x16, .f32⟩
  | .hbm, ⟨17, _⟩ => ⟨S8x2048x16x1, .f32⟩
  | .hbm, ⟨18, _⟩ => ⟨S_, .f32⟩
  | .hbm, ⟨19, _⟩ => ⟨S8x2048x16x1, .f32⟩
  | .hbm, ⟨20, _⟩ => ⟨S8x2048x16x1, .f32⟩
  | .hbm, ⟨21, _⟩ => ⟨S_, .f32⟩
  | .hbm, ⟨22, _⟩ => ⟨S8x2048x16x1, .f32⟩
  | .hbm, ⟨23, _⟩ => ⟨S8x2048x16x1, .f32⟩
  | .hbm, ⟨24, _⟩ => ⟨S8x2048x16x1, .f32⟩
  | .hbm, ⟨25, _⟩ => ⟨S8x2048x16x64, .f32⟩
  | .hbm, ⟨26, _⟩ => ⟨S8x2048x16x64, .f32⟩
  | .hbm, ⟨27, _⟩ => ⟨S1x1x1x64, .f32⟩
  | .hbm, ⟨28, _⟩ => ⟨S8x2048x16x64, .f32⟩
  | .hbm, ⟨29, _⟩ => ⟨S8x2048x16x64, .f32⟩
  | .hbm, ⟨30, _⟩ => ⟨S8x2048x16x64, .f32⟩
  | .hbm, ⟨31, _⟩ => ⟨S8x2048x16x64, .f32⟩
  | .hbm, ⟨32, _⟩ => ⟨S_, .f32⟩
  | .hbm, ⟨33, _⟩ => ⟨S8x2048x16, .f32⟩
  | .hbm, ⟨34, _⟩ => ⟨S8x2048x16x1, .f32⟩
  | .hbm, ⟨35, _⟩ => ⟨S_, .f32⟩
  | .hbm, ⟨36, _⟩ => ⟨S8x2048x16x1, .f32⟩
  | .hbm, ⟨37, _⟩ => ⟨S8x2048x16x1, .f32⟩
  | .hbm, ⟨38, _⟩ => ⟨S_, .f32⟩
  | .hbm, ⟨39, _⟩ => ⟨S8x2048x16x1, .f32⟩
  | .hbm, ⟨40, _⟩ => ⟨S8x2048x16x1, .f32⟩
  | .hbm, ⟨41, _⟩ => ⟨S8x2048x16x1, .f32⟩
  | .hbm, ⟨42, _⟩ => ⟨S8x2048x16x64, .f32⟩
  | .hbm, ⟨43, _⟩ => ⟨S8x2048x16x64, .f32⟩
  | .hbm, ⟨44, _⟩ => ⟨S1x1x1x64, .f32⟩
  | .hbm, ⟨45, _⟩ => ⟨S8x2048x16x64, .f32⟩
  | .hbm, ⟨46, _⟩ => ⟨S8x2048x16x64, .f32⟩
  | .hbm, ⟨47, _⟩ => ⟨S1x1x16, .f32⟩
  | .hbm, ⟨48, _⟩ => ⟨S8x2048x16, .f32⟩
  | .hbm, ⟨49, _⟩ => ⟨S8x2048x16, .f32⟩
  | .hbm, ⟨50, _⟩ => ⟨S8x2048x16, .f32⟩
  | .hbm, ⟨51, _⟩ => ⟨S_, .f32⟩
  | .hbm, ⟨52, _⟩ => ⟨S8x2048x16, .f32⟩
  | .hbm, ⟨53, _⟩ => ⟨S8x2048x16, .f32⟩
  | .hbm, ⟨54, _⟩ => ⟨S8x2048x16, .f32⟩
  | .hbm, ⟨55, _⟩ => ⟨S8x2048x16, .f32⟩
  | .hbm, ⟨56, _⟩ => ⟨S8x2048x16, .i1⟩
  | .hbm, ⟨57, _⟩ => ⟨S8x2048x16, .f32⟩
  | .hbm, ⟨58, _⟩ => ⟨S8x2048x16, .f32⟩
  | .hbm, ⟨59, _⟩ => ⟨S8x2048x16, .f32⟩
  | .hbm, ⟨60, _⟩ => ⟨S8x2048x16, .f32⟩
  | .hbm, ⟨61, _⟩ => ⟨S8x2048x16, .f32⟩
  | .hbm, ⟨62, _⟩ => ⟨S8x2048x16, .f32⟩
  | .hbm, ⟨63, _⟩ => ⟨S8x2048x16, .f32⟩
  | .hbm, ⟨64, _⟩ => ⟨S8x2048x16, .f32⟩
  | .hbm, ⟨65, _⟩ => ⟨S8x2048x16, .f32⟩
  | .hbm, ⟨66, _⟩ => ⟨S8x2048x16x64, .f32⟩
  | .hbm, ⟨67, _⟩ => ⟨S16384x1024, .f32⟩
  | .hbm, ⟨68, _⟩ => ⟨S8x16x64x2048, .f32⟩
  | .hbm, ⟨69, _⟩ => ⟨S8x1024x2048, .f32⟩
  | .hbm, ⟨70, _⟩ => ⟨S8x16x64x2048, .f32⟩
  | .hbm, ⟨71, _⟩ => ⟨S8x1024x2048, .f32⟩
  | .hbm, ⟨72, _⟩ => ⟨S8x16x2048, .f32⟩
  | _, _ => ⟨S16384x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Proof.Ext.lean ====
/- Facts on extended reals that the softmax and the normalisation need: real values are closed under the operations,
   a nonnegative finite factor passes through a sum, the values of a few constants, and a softmax row written two ways. -/
module

public import Idealize.ShloMosaic.Lib.Pointwise
public import Idealize.ShloMosaic.Lib.IdealHost

@[expose] public section

noncomputable section

namespace Cert.Proof.Ext

open Idealize.ShloMosaic

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sub_self {x : EReal} : IsReal x → x - x = 0 := by
  rintro ⟨a, rfl⟩; rw [← EReal.coe_sub, _root_.sub_self, EReal.coe_zero]

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

/-- A value below plus infinity in magnitude is real. -/
theorem isReal_of_abs {x : EReal} (h : max x (-x) < ⊤) : IsReal x := by
  induction x with
  | bot => exact absurd h (by simp)
  | top => exact absurd h (by simp)
  | coe r => exact ⟨r, rfl⟩

/-- A nonnegative factor that is not plus infinity passes through a sum. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

theorem sum_mul {ι : Type} (s : Finset ι) (c : EReal) (h0 : 0 ≤ c) (ht : c ≠ ⊤) (f : ι → EReal) :
    (∑ i ∈ s, f i) * c = ∑ i ∈ s, f i * c := by
  rw [mul_comm, mul_sum s c h0 ht]
  exact Finset.sum_congr rfl fun i _ => mul_comm _ _

theorem ofBits_ninf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_8th : Ideal.ofBits .f32 0x3E000000#32 = ((1 / 8 : ℝ) : EReal) := by
  simp [Ideal.ofBits, Ideal.ieee, -EReal.coe_mul]; norm_num

/-- The normalisation's epsilon is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- Dividing by 64 is multiplying by its reciprocal. -/
theorem div_64 (x : EReal) : Ideal.div x (Ideal.ofBits .f32 0x42800000#32) = x * Ideal.ofBits .f32 0x3C800000#32 := by
  rw [ofBits_64, ofBits_64th, Ideal.div_coe (by norm_num)]

/-- The reciprocal root of a nonnegative real plus epsilon is real. -/
theorem isReal_rsqrt {x : EReal} (hx : IsReal x) (h0 : 0 ≤ x) : IsReal (Ideal.rsqrt (x + Ideal.ofBits .f32 0x358637BD#32)) := by
  obtain ⟨a, rfl⟩ := hx
  obtain ⟨e, he, h⟩ := ofBits_eps
  have ha : 0 ≤ a := EReal.coe_nonneg.mp h0
  rw [h, ← EReal.coe_add, Ideal.rsqrt_coe, if_neg (by linarith), if_neg (by linarith)]
  exact ⟨_, rfl⟩

theorem mul_self_nonneg' {x : EReal} (hx : IsReal x) : 0 ≤ x * x := by
  obtain ⟨a, rfl⟩ := hx
  rw [← EReal.coe_mul]
  exact EReal.coe_nonneg.mpr (mul_self_nonneg a)

theorem exp_nonneg (x : EReal) : 0 ≤ Ideal.exp x := by
  induction x with
  | bot => simp
  | top => simp
  | coe r => rw [Ideal.exp_coe]; exact EReal.coe_nonneg.mpr (Real.exp_pos r).le

/-- The largest of a row, from minus infinity. -/
def rowMax {n : Nat} (s : Fin n → EReal) : EReal := Finset.univ.fold max ⊥ s

/-- The largest of a nonempty row is one of its values. -/
theorem rowMax_mem {n : Nat} (hn : 0 < n) (s : Fin n → EReal) : ∃ k, rowMax s = s k := by
  have : Nonempty (Fin n) := ⟨⟨0, hn⟩⟩
  obtain ⟨k, -, hk⟩ := Finset.exists_max_image Finset.univ s Finset.univ_nonempty
  refine ⟨k, le_antisymm ?_ ?_⟩
  · exact Finset.fold_max_le _ |>.mpr ⟨bot_le, fun x _ => hk x (Finset.mem_univ _)⟩
  · exact Finset.le_fold_max _ |>.mpr (Or.inr ⟨k, Finset.mem_univ _, le_refl _⟩)

/-- A row's values weighed by its softmax: each weight the exponential over the sum of the exponentials. -/
def soft {n : Nat} (s v : Fin n → EReal) : EReal :=
  ∑ k, v k * Ideal.div (Ideal.exp (s k - rowMax s)) (∑ j, Ideal.exp (s j - rowMax s))

/-- The softmax's denominator is at least one where the row is real. -/
theorem denom_ne_zero {n : Nat} (hn : 0 < n) (s : Fin n → EReal) (hs : ∀ k, IsReal (s k)) :
    (∑ j, Ideal.exp (s j - rowMax s)) ≠ 0 := by
  obtain ⟨k, hk⟩ := rowMax_mem hn s
  have h1 : Ideal.exp (s k - rowMax s) = 1 := by
    rw [hk, (hs k).sub_self, ← EReal.coe_zero, Ideal.exp_coe, Real.exp_zero, EReal.coe_one]
  have h2 : Ideal.exp (s k - rowMax s) ≤ ∑ j, Ideal.exp (s j - rowMax s) :=
    Finset.single_le_sum (f := fun j => Ideal.exp (s j - rowMax s)) (fun j _ => exp_nonneg _) (Finset.mem_univ k)
  intro h
  rw [h1, h] at h2
  exact absurd h2 (by norm_num)

/-- Weighing by the exponentials first and dividing the sum once is weighing by the softmax. -/
theorem soft_eq {n : Nat} (hn : 0 < n) (s v : Fin n → EReal) (hs : ∀ k, IsReal (s k)) :
    (∑ j, Ideal.exp (s j - rowMax s) * v j) * Ideal.div 1 (∑ j, Ideal.exp (s j - rowMax s)) = soft s v := by
  have h0 := denom_ne_zero hn s hs
  have hp : 0 ≤ ∑ j, Ideal.exp (s j - rowMax s) := Finset.sum_nonneg fun j _ => exp_nonneg _
  unfold soft
  generalize (∑ j, Ideal.exp (s j - rowMax s)) = l at h0 hp
  simp only [Ideal.div, if_neg h0, one_mul]
  have hi : (0 : EReal) ≤ l⁻¹ := EReal.inv_nonneg_of_nonneg hp
  have ht : l⁻¹ ≠ ⊤ := by
    induction l with
    | bot => exact absurd hp (by simp)
    | top => simp
    | coe r => rw [← EReal.coe_inv]; exact EReal.coe_ne_top _
  rw [sum_mul _ _ hi ht]
  exact Finset.sum_congr rfl fun j _ => by rw [mul_comm (Ideal.exp _) (v j), mul_assoc]

/-- A sum over 256 columns of the terms of one head is the sum over the head's 64 columns. -/
theorem sum_head (f : Fin 256 → EReal) (h : Fin 4) :
    (∑ c : Fin 256, if c.val / 64 = h.val then f c else 0) = ∑ d : Fin 64, f ⟨h.val * 64 + d.val, by omega⟩ := by
  rw [← Finset.sum_filter]
  symm
  refine Finset.sum_bij (fun d _ => ⟨h.val * 64 + d.val, by omega⟩) ?_ ?_ ?_ ?_
  · intro d _; simp only [Finset.mem_filter, Finset.mem_univ, true_and]; omega
  · intro d _ e _ hde; exact Fin.ext (by have := congrArg Fin.val hde; simp only at this; omega)
  · intro c hc
    simp only [Finset.mem_filter, Finset.mem_univ, true_and] at hc
    exact ⟨⟨c.val % 64, by omega⟩, Finset.mem_univ _, Fin.ext (by simp only; omega)⟩
  · intro d _; rfl

end Cert.Proof.Ext

end
-- ==== Proof.AttnBlock.lean ====
/- What one grid point of the memory attention leaves in its block, read at one row and one column: four heads of 64
   columns, every head a softmax over the 256 memory keys of the scaled products, applied to the memory values. -/
module

public import proofs.«01_k».proof.Proof.Gen.AttnIdeal.Value
public import proofs.«01_k».proof.Proof.Gen.AttnRefIdeal.Read
public import Idealize.ShloMosaic.Lib.Pointwise
public import proofs.«01_k».proof.Proof.Ext

@[expose] public section

set_option maxRecDepth 16384

noncomputable section

namespace Cert.Proof.Attn

open Cert.AttnIdeal Cert.AttnIdeal.Gen Cert.Proof.Ext Idealize.ShloMosaic Idealize.ShloMosaic.TcCoe

/-- A row group's queries with every column outside the head `hd` put to zero. -/
def qmask (o : Nat) (hs : S1024x256.Slices ![o, 0] S128x256) (hd : BitVec 32) (q : FVec Ideal S1024x256 .f32) (lane : IVec S1x256 32) :
    FVec Ideal S128x256 .bf16 :=
  truncf .bf16 (select (broadcastTo S128x256 (shapeCast S1x256 (cmpi .eq lane (broadcast S1x256 hd)) shapeCasts_S1x256_S1x256) broadcasts_S1x256_S128x256)
    (extractStridedSlice S128x256 ![o, 0] q hs) (broadcast S128x256 (Scalar.ofBits .f32 0x00000000#32 : Ideal .f32))) bitsLt_bf16_f32

/-- The values with every row outside the head `hd` put to zero. -/
def vmask (hd : BitVec 32) (lane : IVec S256x1 32) (v : FVec Ideal S256x256 .f32) : FVec Ideal S256x256 .bf16 :=
  truncf .bf16 (select (broadcastTo S256x256 (shapeCast S256x1 (cmpi .eq lane (broadcast S256x1 hd)) shapeCasts_S256x1_S256x1) broadcasts_S256x1_S256x256)
    v (broadcast S256x256 (Scalar.ofBits .f32 0x00000000#32 : Ideal .f32))) bitsLt_bf16_f32

/-- One head of a row group: softmax of the products with the keys, applied to the head's values. -/
def head (qm : FVec Ideal S128x256 .bf16) (mk : FVec Ideal S256x256 .bf16) (vm : FVec Ideal S256x256 .bf16) : FVec Ideal S128x256 .f32 :=
  k0_pay149 vm (k0_pay85 (k0_pay53 mk qm)) (k0_pay117 (k0_pay85 (k0_pay53 mk qm)))

/-- The four heads of a row group added up. -/
def group (o : Nat) (hs : S1024x256.Slices ![o, 0] S128x256) (x0 : Vec Ideal S1024x256 .f32) (x1 x2 : Vec Ideal S1x256x256 .f32)
    (x3 : Vec Ideal S1x256 .f32) (x4 : Vec Ideal S256x256 .bf16) : FVec Ideal S128x256 .f32 :=
  addf (addf (head (qmask o hs 0#32 (k0_pay195 x0 x1 x2 x3 x4) (k0_pay196 x0 x1 x2 x3 x4)) (k0_pay198 x0 x1 x2 x3 x4)
        (vmask 0#32 k0_pay7 (k0_pay10 (View.ld x2 r0_3))))
      (head (qmask o hs 1#32 (k0_pay195 x0 x1 x2 x3 x4) (k0_pay196 x0 x1 x2 x3 x4)) (k0_pay198 x0 x1 x2 x3 x4)
        (vmask 1#32 k0_pay7 (k0_pay10 (View.ld x2 r0_3)))))
    (addf (head (qmask o hs 2#32 (k0_pay195 x0 x1 x2 x3 x4) (k0_pay196 x0 x1 x2 x3 x4)) (k0_pay198 x0 x1 x2 x3 x4)
        (vmask 2#32 k0_pay7 (k0_pay10 (View.ld x2 r0_3))))
      (head (qmask o hs 3#32 (k0_pay195 x0 x1 x2 x3 x4) (k0_pay196 x0 x1 x2 x3 x4)) (k0_pay198 x0 x1 x2 x3 x4)
        (vmask 3#32 k0_pay7 (k0_pay10 (View.ld x2 r0_3)))))

theorem select_eq {α : Type} (a b : BitVec 32) (x y : α) :
    Scalar.select (IntOp.cmpi CmpIPredicate.eq a b) x y = if a = b then x else y := by
  by_cases h : a = b
  · subst h; simp [Scalar.select, IntOp.cmpi]
  · rw [if_neg h]
    show (if BitVec.ofBool (a == b) = 1#1 then x else y) = y
    rw [beq_eq_false_iff_ne.mpr h]
    rfl

theorem qmask_apply (o : Nat) (hs : S1024x256.Slices ![o, 0] S128x256) (hd : BitVec 32) (q : FVec Ideal S1024x256 .f32) (lane : IVec S1x256 32)
    (r : Fin 128) (c : Fin 256) (ho : o + r.val < 1024) :
    qmask o hs hd q lane (ix2 r c) = if lane (ix2 0 c) = hd then q (ix2 ⟨o + r.val, ho⟩ c) else 0 := by
  unfold qmask
  pointwise []
  exact select_eq _ _ _ _

theorem vmask_apply (hd : BitVec 32) (lane : IVec S256x1 32) (v : FVec Ideal S256x256 .f32) (c k : Fin 256) :
    vmask hd lane v (ix2 c k) = if lane (ix2 c 0) = hd then v (ix2 c k) else 0 := by
  unfold vmask
  pointwise []
  exact select_eq _ _ _ _

/-- The products with the keys. -/
theorem score_apply (qm : FVec Ideal S128x256 .bf16) (mk : FVec Ideal S256x256 .bf16) (r : Fin 128) (k : Fin 256) :
    k0_pay53 mk qm (ix2 r k) = ∑ c : Fin 256, qm (ix2 r c) * mk (ix2 c k) := by
  unfold k0_pay53
  pointwise []

/-- The exponentials of a row, shifted by its largest. -/
theorem exp_apply (s : FVec Ideal S128x256 .f32) (r : Fin 128) (k : Fin 256) :
    k0_pay85 s (ix2 r k) = Ideal.exp (s (ix2 r k) - rowMax fun j : Fin 256 => s (ix2 r j)) := by
  unfold k0_pay85 rowMax
  pointwise []
  rw [ofBits_ninf]

/-- One over the sum of a row. -/
theorem inv_apply (p : FVec Ideal S128x256 .f32) (r : Fin 128) :
    k0_pay117 p (ix2 r 0) = Ideal.div 1 (∑ j : Fin 256, p (ix2 r j)) := by
  unfold k0_pay117
  pointwise []

/-- The values weighed by a row, times the row's factor. -/
theorem weigh_apply (v : FVec Ideal S256x256 .bf16) (p : FVec Ideal S128x256 .f32) (n : FVec Ideal S128x1 .f32) (r : Fin 128) (c : Fin 256) :
    k0_pay149 v p n (ix2 r c) = (∑ j : Fin 256, p (ix2 r j) * v (ix2 c j)) * n (ix2 r 0) := by
  unfold k0_pay149
  pointwise []

/-- The head of each column, as the body computes it. -/
theorem lane_eq (x0 : Vec Ideal S1024x256 .f32) (x1 x2 : Vec Ideal S1x256x256 .f32) (x3 : Vec Ideal S1x256 .f32) (x4 : Vec Ideal S256x256 .bf16)
    (c : Fin 256) : k0_pay196 x0 x1 x2 x3 x4 (ix2 0 c) = BitVec.ofNat 32 (c.val / 64) := by
  unfold k0_pay196
  exact (by decide +kernel : ∀ c : Fin 256, (k0_pay6 (iota .tc S1x256 32 [1] iota_S1x256_d1_w32) 64#32 k0_pay4 k0_pay5
    (Scalar.extui (Scalar.cmpi .sgt 64#32 0#32)) (Scalar.cmpi .slt 64#32 0#32)) (ix2 0 c) = BitVec.ofNat 32 (c.val / 64)) c

/-- The head of each value row, as the body computes it. -/
theorem rowHead_eq (c : Fin 256) : k0_pay7 (ix2 c 0) = BitVec.ofNat 32 (c.val / 64) :=
  (by decide +kernel : ∀ c : Fin 256, k0_pay7 (ix2 c 0) = BitVec.ofNat 32 (c.val / 64)) c

theorem head_iff (c : Fin 256) (h : Fin 4) : BitVec.ofNat 32 (c.val / 64) = BitVec.ofNat 32 h.val ↔ c.val / 64 = h.val := by
  constructor
  · intro e
    have := congrArg BitVec.toNat e
    simp only [BitVec.toNat_ofNat] at this
    omega
  · intro e; rw [e]

section Block

variable (x0 : Vec Ideal S1024x256 .f32) (x1 x2 : Vec Ideal S1x256x256 .f32) (x3 : Vec Ideal S1x256 .f32) (x4 : Vec Ideal S256x256 .bf16)

theorem keys_apply (c k : Fin 256) : k0_pay198 x0 x1 x2 x3 x4 (ix2 c k) = x1 (ix3 0 c k) := by
  pointwise [k0_pay198, k0_pay8, r0_3]

theorem values_apply (c k : Fin 256) : k0_pay10 (View.ld x2 r0_3) (ix2 c k) = x2 (ix3 0 c k) := by
  pointwise [k0_pay10, r0_3]

/-- Column `d` of head `h`. -/
def col (h : Fin 4) (d : Fin 64) : Fin 256 := ⟨h.val * 64 + d.val, by omega⟩

/-- The normalised query of a row, head and column of the head. -/
def qhat (R : Fin 1024) (h : Fin 4) (d : Fin 64) : EReal :=
  x0 (ix2 R (col h d)) * Ideal.rsqrt (Ideal.div (∑ e : Fin 64, x0 (ix2 R (col h e)) * x0 (ix2 R (col h e)))
    (Ideal.ofBits FTy.f32 0x42800000#32) + Ideal.ofBits FTy.f32 0x358637BD#32) * x3 (ix2 0 (col h d))

/-- The scaled product of a row's head with key `k`. -/
def scores (R : Fin 1024) (h : Fin 4) (k : Fin 256) : EReal :=
  (∑ d : Fin 64, qhat x0 x3 R h d * x1 (ix3 0 (col h d) k)) * Ideal.ofBits FTy.f32 0x3E000000#32

variable (hx0 : ∀ R c, IsReal (x0 (ix2 R c))) (hx1 : ∀ c k, IsReal (x1 (ix3 0 c k))) (hx3 : ∀ c, IsReal (x3 (ix2 0 c)))
  (hx4 : ∀ j c : Fin 256, x4 (ix2 j c) = if j.val / 64 = c.val / 64 then 1 else 0)

include hx0 hx3 in
theorem isReal_qhat (R : Fin 1024) (h : Fin 4) (d : Fin 64) : IsReal (qhat x0 x3 R h d) := by
  unfold qhat
  refine IsReal.mul (IsReal.mul (hx0 _ _) (isReal_rsqrt ?_ ?_)) (hx3 _)
  · rw [div_64, ofBits_64th]
    exact (IsReal.sum _ _ fun e _ => (hx0 _ _).mul (hx0 _ _)).mul ⟨_, rfl⟩
  · rw [div_64, ofBits_64th]
    exact mul_nonneg (Finset.sum_nonneg fun e _ => mul_self_nonneg' (hx0 _ _)) (EReal.coe_nonneg.mpr (by norm_num))

include hx0 hx1 hx3 in
theorem isReal_scores (R : Fin 1024) (h : Fin 4) (k : Fin 256) : IsReal (scores x0 x1 x3 R h k) := by
  unfold scores
  rw [ofBits_8th]
  exact (IsReal.sum _ _ fun d _ => (isReal_qhat x0 x3 hx0 hx3 R h d).mul (hx1 _ _)).mul ⟨_, rfl⟩

include hx0 hx4 in
/-- The body's normalised and scaled query: its split sums add zeros to the head's sum of squares. -/
theorem query_apply (R : Fin 1024) (h : Fin 4) (d : Fin 64) :
    k0_pay195 x0 x1 x2 x3 x4 (ix2 R (col h d)) = qhat x0 x3 R h d * Ideal.ofBits FTy.f32 0x3E000000#32 := by
  have e : k0_pay195 x0 x1 x2 x3 x4 = k0_pay3 x0 x3 x4 := by
    have hz : (![0, 0] : Fin 2 → Nat) = fun _ => 0 := funext fun a => by fin_cases a <;> rfl
    unfold k0_pay195
    rw [show View.ld x0 r0_0 = x0 from View.ld_unit_zero hz _ _, show View.ld x3 r0_1 = x3 from View.ld_unit_zero hz _ _,
      show View.ld x4 r0_2 = x4 from View.ld_unit_zero hz _ _]
  rw [e]
  generalize hc : col h d = c
  have hch : c.val / 64 = h.val := by rw [← hc]; show (h.val * 64 + d.val) / 64 = h.val; omega
  have hz : ∀ x : Fin 256, x0 (ix2 R x) * x0 (ix2 R x) - x0 (ix2 R x) * x0 (ix2 R x) = 0 := fun x => ((hx0 R x).mul (hx0 R x)).sub_self
  have hs : ∑ x : Fin 256, x0 (ix2 R x) * x0 (ix2 R x) * x4 (ix2 x c) = ∑ e : Fin 64, x0 (ix2 R (col h e)) * x0 (ix2 R (col h e)) := by
    refine Eq.trans (Finset.sum_congr rfl fun x _ => ?_) (sum_head (fun x => x0 (ix2 R x) * x0 (ix2 R x)) h)
    rw [hx4, hch, mul_ite, mul_one, mul_zero]
  unfold k0_pay3
  pointwise []
  simp only [hz, hs, zero_mul, Finset.sum_const_zero, add_zero, sub_zero]
  unfold qhat
  rw [hc, div_64]

include hx0 hx4 in
/-- A masked row's products with the keys are the head's scaled products. -/
theorem masked_score (o : Nat) (hs : S1024x256.Slices ![o, 0] S128x256) (r : Fin 128) (ho : o + r.val < 1024) (h : Fin 4) (k : Fin 256) :
    k0_pay53 (k0_pay198 x0 x1 x2 x3 x4) (qmask o hs (BitVec.ofNat 32 h.val) (k0_pay195 x0 x1 x2 x3 x4) (k0_pay196 x0 x1 x2 x3 x4)) (ix2 r k)
      = scores x0 x1 x3 ⟨o + r.val, ho⟩ h k := by
  rw [score_apply]
  refine Eq.trans (Finset.sum_congr rfl fun c _ => ?_) ((sum_head (fun c => k0_pay195 x0 x1 x2 x3 x4 (ix2 ⟨o + r.val, ho⟩ c) * x1 (ix3 0 c k)) h).trans ?_)
  · rw [qmask_apply o hs _ _ _ r c ho, lane_eq, keys_apply]
    simp only [head_iff, ite_mul, zero_mul]
  · unfold scores
    rw [ofBits_8th, sum_mul _ _ (EReal.coe_nonneg.mpr (by norm_num)) (EReal.coe_ne_top _)]
    refine Finset.sum_congr rfl fun d _ => ?_
    rw [show (⟨h.val * 64 + d.val, _⟩ : Fin 256) = col h d from rfl, query_apply x0 x1 x2 x3 x4 hx0 hx4, ofBits_8th, mul_right_comm]

include hx0 hx1 hx3 hx4 in
/-- One head's output at a column: the softmax-weighed values in the head's own columns, zero elsewhere. -/
theorem head_apply (o : Nat) (hs : S1024x256.Slices ![o, 0] S128x256) (r : Fin 128) (ho : o + r.val < 1024) (h : Fin 4) (c : Fin 256) :
    head (qmask o hs (BitVec.ofNat 32 h.val) (k0_pay195 x0 x1 x2 x3 x4) (k0_pay196 x0 x1 x2 x3 x4)) (k0_pay198 x0 x1 x2 x3 x4)
        (vmask (BitVec.ofNat 32 h.val) k0_pay7 (k0_pay10 (View.ld x2 r0_3))) (ix2 r c)
      = if c.val / 64 = h.val then soft (scores x0 x1 x3 ⟨o + r.val, ho⟩ h) (fun k => x2 (ix3 0 c k)) else 0 := by
  unfold head
  rw [weigh_apply, inv_apply]
  simp only [exp_apply, masked_score x0 x1 x2 x3 x4 hx0 hx4 o hs r ho h, vmask_apply, rowHead_eq, head_iff, values_apply]
  by_cases e : c.val / 64 = h.val
  · simp only [if_pos e]
    exact soft_eq (by norm_num) (scores x0 x1 x3 ⟨o + r.val, ho⟩ h) (fun k => x2 (ix3 0 c k)) (isReal_scores x0 x1 x3 hx0 hx1 hx3 _ h)
  · simp only [if_neg e, mul_zero, Finset.sum_const_zero, zero_mul]

/-- What a block holds at a row and a column: the softmax of the column's head over the memory keys, applied to the values. -/
def blockVal : Vec Ideal S1024x256 .f32 := fun y =>
  soft (scores x0 x1 x3 (y 0) ⟨(y 1).val / 64, by have : (y 1).val < 256 := (y 1).isLt; omega⟩) (fun k => x2 (ix3 0 (y 1) k))

include hx0 hx1 hx3 hx4 in
theorem group_apply (o : Nat) (hs : S1024x256.Slices ![o, 0] S128x256) (r : Fin 128) (ho : o + r.val < 1024) (c : Fin 256) :
    group o hs x0 x1 x2 x3 x4 (ix2 r c) = blockVal x0 x1 x2 x3 (ix2 ⟨o + r.val, ho⟩ c) := by
  have H := fun h => head_apply x0 x1 x2 x3 x4 hx0 hx1 hx3 hx4 o hs r ho h c
  unfold group
  refine (congrArg₂ (· + ·) (congrArg₂ (· + ·) (H 0) (H 1)) (congrArg₂ (· + ·) (H 2) (H 3))).trans ?_
  unfold blockVal
  have hc : c.val / 64 < 4 := by omega
  show _ = soft (scores x0 x1 x3 ⟨o + r.val, ho⟩ ⟨c.val / 64, hc⟩) (fun k => x2 (ix3 0 c k))
  generalize hh : (⟨c.val / 64, hc⟩ : Fin 4) = h
  have hv : c.val / 64 = h.val := by rw [← hh]
  rw [hv]
  fin_cases h <;> simp

include hx0 hx1 hx3 hx4 in
theorem piece0 (x : S128x256.Idx) :
    (k0_pay187 (k0_pay149 (k0_pay199 x0 x1 x2 x3 x4) (k0_pay203 x0 x1 x2 x3 x4) (k0_pay117 (k0_pay203 x0 x1 x2 x3 x4))) (k0_pay150 (k0_pay200 x0 x1 x2 x3 x4) (k0_pay204 x0 x1 x2 x3 x4) (k0_pay118 (k0_pay204 x0 x1 x2 x3 x4))) (k0_pay151 (k0_pay201 x0 x1 x2 x3 x4) (k0_pay205 x0 x1 x2 x3 x4) (k0_pay119 (k0_pay205 x0 x1 x2 x3 x4))) (k0_pay152 (k0_pay202 x0 x1 x2 x3 x4) (k0_pay206 x0 x1 x2 x3 x4) (k0_pay120 (k0_pay206 x0 x1 x2 x3 x4))) : FVec Ideal S128x256 .f32) x = blockVal x0 x1 x2 x3 (r0_4.idx x) := by
  obtain ⟨r, c, rfl⟩ : ∃ (r : Fin 128) (c : Fin 256), x = ix2 r c := ⟨x 0, x 1, eq_ix2 x⟩
  refine (group_apply x0 x1 x2 x3 x4 hx0 hx1 hx3 hx4 0 slices_S1024x256_o0_0_S128x256 r (by omega) c).trans ?_
  exact congrArg (blockVal x0 x1 x2 x3) (funext fun a => Fin.ext (by match a with
    | ⟨0, _⟩ => show 0 + r.val = 0 + 1 * r.val; omega
    | ⟨1, _⟩ => show c.val = 0 + 1 * c.val; omega))

include hx0 hx1 hx3 hx4 in
theorem piece1 (x : S128x256.Idx) :
    (k0_pay188 (k0_pay155 (k0_pay153 (k0_pay199 x0 x1 x2 x3 x4) (k0_pay207 x0 x1 x2 x3 x4)) (k0_pay154 (k0_pay121 (k0_pay207 x0 x1 x2 x3 x4)))) (k0_pay156 (k0_pay200 x0 x1 x2 x3 x4) (k0_pay208 x0 x1 x2 x3 x4) (k0_pay122 (k0_pay208 x0 x1 x2 x3 x4))) (k0_pay157 (k0_pay201 x0 x1 x2 x3 x4) (k0_pay209 x0 x1 x2 x3 x4) (k0_pay123 (k0_pay209 x0 x1 x2 x3 x4))) (k0_pay158 (k0_pay202 x0 x1 x2 x3 x4) (k0_pay210 x0 x1 x2 x3 x4) (k0_pay124 (k0_pay210 x0 x1 x2 x3 x4))) : FVec Ideal S128x256 .f32) x = blockVal x0 x1 x2 x3 (r0_5.idx x) := by
  obtain ⟨r, c, rfl⟩ : ∃ (r : Fin 128) (c : Fin 256), x = ix2 r c := ⟨x 0, x 1, eq_ix2 x⟩
  refine (group_apply x0 x1 x2 x3 x4 hx0 hx1 hx3 hx4 128 slices_S1024x256_o128_0_S128x256 r (by omega) c).trans ?_
  exact congrArg (blockVal x0 x1 x2 x3) (funext fun a => Fin.ext (by match a with
    | ⟨0, _⟩ => show 128 + r.val = 128 + 1 * r.val; omega
    | ⟨1, _⟩ => show c.val = 0 + 1 * c.val; omega))

include hx0 hx1 hx3 hx4 in
theorem piece2 (x : S128x256.Idx) :
    (k0_pay189 (k0_pay159 (k0_pay199 x0 x1 x2 x3 x4) (k0_pay211 x0 x1 x2 x3 x4) (k0_pay125 (k0_pay211 x0 x1 x2 x3 x4))) (k0_pay160 (k0_pay200 x0 x1 x2 x3 x4) (k0_pay212 x0 x1 x2 x3 x4) (k0_pay126 (k0_pay212 x0 x1 x2 x3 x4))) (k0_pay161 (k0_pay201 x0 x1 x2 x3 x4) (k0_pay213 x0 x1 x2 x3 x4) (k0_pay127 (k0_pay213 x0 x1 x2 x3 x4))) (k0_pay162 (k0_pay202 x0 x1 x2 x3 x4) (k0_pay214 x0 x1 x2 x3 x4) (k0_pay128 (k0_pay214 x0 x1 x2 x3 x4))) : FVec Ideal S128x256 .f32) x = blockVal x0 x1 x2 x3 (r0_6.idx x) := by
  obtain ⟨r, c, rfl⟩ : ∃ (r : Fin 128) (c : Fin 256), x = ix2 r c := ⟨x 0, x 1, eq_ix2 x⟩
  refine (group_apply x0 x1 x2 x3 x4 hx0 hx1 hx3 hx4 256 slices_S1024x256_o256_0_S128x256 r (by omega) c).trans ?_
  exact congrArg (blockVal x0 x1 x2 x3) (funext fun a => Fin.ext (by match a with
    | ⟨0, _⟩ => show 256 + r.val = 256 + 1 * r.val; omega
    | ⟨1, _⟩ => show c.val = 0 + 1 * c.val; omega))

include hx0 hx1 hx3 hx4 in
theorem piece3 (x : S128x256.Idx) :
    (k0_pay190 (k0_pay163 (k0_pay199 x0 x1 x2 x3 x4) (k0_pay215 x0 x1 x2 x3 x4) (k0_pay129 (k0_pay215 x0 x1 x2 x3 x4))) (k0_pay164 (k0_pay200 x0 x1 x2 x3 x4) (k0_pay216 x0 x1 x2 x3 x4) (k0_pay130 (k0_pay216 x0 x1 x2 x3 x4))) (k0_pay165 (k0_pay201 x0 x1 x2 x3 x4) (k0_pay217 x0 x1 x2 x3 x4) (k0_pay131 (k0_pay217 x0 x1 x2 x3 x4))) (k0_pay166 (k0_pay202 x0 x1 x2 x3 x4) (k0_pay218 x0 x1 x2 x3 x4) (k0_pay132 (k0_pay218 x0 x1 x2 x3 x4))) : FVec Ideal S128x256 .f32) x = blockVal x0 x1 x2 x3 (r0_7.idx x) := by
  obtain ⟨r, c, rfl⟩ : ∃ (r : Fin 128) (c : Fin 256), x = ix2 r c := ⟨x 0, x 1, eq_ix2 x⟩
  refine (group_apply x0 x1 x2 x3 x4 hx0 hx1 hx3 hx4 384 slices_S1024x256_o384_0_S128x256 r (by omega) c).trans ?_
  exact congrArg (blockVal x0 x1 x2 x3) (funext fun a => Fin.ext (by match a with
    | ⟨0, _⟩ => show 384 + r.val = 384 + 1 * r.val; omega
    | ⟨1, _⟩ => show c.val = 0 + 1 * c.val; omega))

include hx0 hx1 hx3 hx4 in
theorem piece4 (x : S128x256.Idx) :
    (k0_pay191 (k0_pay169 (k0_pay167 (k0_pay199 x0 x1 x2 x3 x4) (k0_pay219 x0 x1 x2 x3 x4)) (k0_pay168 (k0_pay133 (k0_pay219 x0 x1 x2 x3 x4)))) (k0_pay170 (k0_pay200 x0 x1 x2 x3 x4) (k0_pay220 x0 x1 x2 x3 x4) (k0_pay134 (k0_pay220 x0 x1 x2 x3 x4))) (k0_pay171 (k0_pay201 x0 x1 x2 x3 x4) (k0_pay221 x0 x1 x2 x3 x4) (k0_pay135 (k0_pay221 x0 x1 x2 x3 x4))) (k0_pay172 (k0_pay202 x0 x1 x2 x3 x4) (k0_pay222 x0 x1 x2 x3 x4) (k0_pay136 (k0_pay222 x0 x1 x2 x3 x4))) : FVec Ideal S128x256 .f32) x = blockVal x0 x1 x2 x3 (r0_8.idx x) := by
  obtain ⟨r, c, rfl⟩ : ∃ (r : Fin 128) (c : Fin 256), x = ix2 r c := ⟨x 0, x 1, eq_ix2 x⟩
  refine (group_apply x0 x1 x2 x3 x4 hx0 hx1 hx3 hx4 512 slices_S1024x256_o512_0_S128x256 r (by omega) c).trans ?_
  exact congrArg (blockVal x0 x1 x2 x3) (funext fun a => Fin.ext (by match a with
    | ⟨0, _⟩ => show 512 + r.val = 512 + 1 * r.val; omega
    | ⟨1, _⟩ => show c.val = 0 + 1 * c.val; omega))

include hx0 hx1 hx3 hx4 in
theorem piece5 (x : S128x256.Idx) :
    (k0_pay192 (k0_pay173 (k0_pay199 x0 x1 x2 x3 x4) (k0_pay223 x0 x1 x2 x3 x4) (k0_pay137 (k0_pay223 x0 x1 x2 x3 x4))) (k0_pay174 (k0_pay200 x0 x1 x2 x3 x4) (k0_pay224 x0 x1 x2 x3 x4) (k0_pay138 (k0_pay224 x0 x1 x2 x3 x4))) (k0_pay175 (k0_pay201 x0 x1 x2 x3 x4) (k0_pay225 x0 x1 x2 x3 x4) (k0_pay139 (k0_pay225 x0 x1 x2 x3 x4))) (k0_pay176 (k0_pay202 x0 x1 x2 x3 x4) (k0_pay226 x0 x1 x2 x3 x4) (k0_pay140 (k0_pay226 x0 x1 x2 x3 x4))) : FVec Ideal S128x256 .f32) x = blockVal x0 x1 x2 x3 (r0_9.idx x) := by
  obtain ⟨r, c, rfl⟩ : ∃ (r : Fin 128) (c : Fin 256), x = ix2 r c := ⟨x 0, x 1, eq_ix2 x⟩
  refine (group_apply x0 x1 x2 x3 x4 hx0 hx1 hx3 hx4 640 slices_S1024x256_o640_0_S128x256 r (by omega) c).trans ?_
  exact congrArg (blockVal x0 x1 x2 x3) (funext fun a => Fin.ext (by match a with
    | ⟨0, _⟩ => show 640 + r.val = 640 + 1 * r.val; omega
    | ⟨1, _⟩ => show c.val = 0 + 1 * c.val; omega))

include hx0 hx1 hx3 hx4 in
theorem piece6 (x : S128x256.Idx) :
    (k0_pay1 (k0_pay193 (k0_pay177 (k0_pay199 x0 x1 x2 x3 x4) (k0_pay227 x0 x1 x2 x3 x4) (k0_pay141 (k0_pay227 x0 x1 x2 x3 x4))) (k0_pay178 (k0_pay200 x0 x1 x2 x3 x4) (k0_pay228 x0 x1 x2 x3 x4) (k0_pay142 (k0_pay228 x0 x1 x2 x3 x4)))) (k0_pay194 (k0_pay179 (k0_pay201 x0 x1 x2 x3 x4) (k0_pay229 x0 x1 x2 x3 x4) (k0_pay143 (k0_pay229 x0 x1 x2 x3 x4))) (k0_pay180 (k0_pay202 x0 x1 x2 x3 x4) (k0_pay230 x0 x1 x2 x3 x4) (k0_pay144 (k0_pay230 x0 x1 x2 x3 x4)))) : FVec Ideal S128x256 .f32) x = blockVal x0 x1 x2 x3 (r0_10.idx x) := by
  obtain ⟨r, c, rfl⟩ : ∃ (r : Fin 128) (c : Fin 256), x = ix2 r c := ⟨x 0, x 1, eq_ix2 x⟩
  refine (group_apply x0 x1 x2 x3 x4 hx0 hx1 hx3 hx4 768 slices_S1024x256_o768_0_S128x256 r (by omega) c).trans ?_
  exact congrArg (blockVal x0 x1 x2 x3) (funext fun a => Fin.ext (by match a with
    | ⟨0, _⟩ => show 768 + r.val = 768 + 1 * r.val; omega
    | ⟨1, _⟩ => show c.val = 0 + 1 * c.val; omega))

include hx0 hx1 hx3 hx4 in
theorem piece7 (x : S128x256.Idx) :
    (k0_pay2 (k0_pay183 (k0_pay181 (k0_pay199 x0 x1 x2 x3 x4) (k0_pay231 x0 x1 x2 x3 x4)) (k0_pay182 (k0_pay145 (k0_pay231 x0 x1 x2 x3 x4)))) (k0_pay184 (k0_pay200 x0 x1 x2 x3 x4) (k0_pay232 x0 x1 x2 x3 x4) (k0_pay146 (k0_pay232 x0 x1 x2 x3 x4))) (k0_pay185 (k0_pay201 x0 x1 x2 x3 x4) (k0_pay233 x0 x1 x2 x3 x4) (k0_pay147 (k0_pay233 x0 x1 x2 x3 x4))) (k0_pay186 (k0_pay202 x0 x1 x2 x3 x4) (k0_pay234 x0 x1 x2 x3 x4) (k0_pay148 (k0_pay234 x0 x1 x2 x3 x4))) : FVec Ideal S128x256 .f32) x = blockVal x0 x1 x2 x3 (r0_11.idx x) := by
  obtain ⟨r, c, rfl⟩ : ∃ (r : Fin 128) (c : Fin 256), x = ix2 r c := ⟨x 0, x 1, eq_ix2 x⟩
  refine (group_apply x0 x1 x2 x3 x4 hx0 hx1 hx3 hx4 896 slices_S1024x256_o896_0_S128x256 r (by omega) c).trans ?_
  exact congrArg (blockVal x0 x1 x2 x3) (funext fun a => Fin.ext (by match a with
    | ⟨0, _⟩ => show 896 + r.val = 896 + 1 * r.val; omega
    | ⟨1, _⟩ => show c.val = 0 + 1 * c.val; omega))

include hx0 hx1 hx3 hx4 in
/-- The block a grid point leaves. -/
theorem out_eq : out0_5 x0 x1 x2 x3 x4 = blockVal x0 x1 x2 x3 := by
  funext y
  unfold out0_5
  refine View.canon_apply_of_pieces (blockVal x0 x1 x2 x3) _ ?_ y (cover0_5 _ _ _ _ _ _ _ _ y)
  intro pc hpc
  rcases List.mem_cons.mp hpc with rfl | hpc
  · exact fun x => piece7 x0 x1 x2 x3 x4 hx0 hx1 hx3 hx4 x
  rcases List.mem_cons.mp hpc with rfl | hpc
  · exact fun x => piece6 x0 x1 x2 x3 x4 hx0 hx1 hx3 hx4 x
  rcases List.mem_cons.mp hpc with rfl | hpc
  · exact fun x => piece5 x0 x1 x2 x3 x4 hx0 hx1 hx3 hx4 x
  rcases List.mem_cons.mp hpc with rfl | hpc
  · exact fun x => piece4 x0 x1 x2 x3 x4 hx0 hx1 hx3 hx4 x
  rcases List.mem_cons.mp hpc with rfl | hpc
  · exact fun x => piece3 x0 x1 x2 x3 x4 hx0 hx1 hx3 hx4 x
  rcases List.mem_cons.mp hpc with rfl | hpc
  · exact fun x => piece2 x0 x1 x2 x3 x4 hx0 hx1 hx3 hx4 x
  rcases List.mem_cons.mp hpc with rfl | hpc
  · exact fun x => piece1 x0 x1 x2 x3 x4 hx0 hx1 hx3 hx4 x
  rcases List.mem_cons.mp hpc with rfl | hpc
  · exact fun x => piece0 x0 x1 x2 x3 x4 hx0 hx1 hx3 hx4 x
  nomatch hpc

end Block

end Cert.Proof.Attn

end
-- ==== Proof.AttnRef.lean ====
/- The memory attention's reference, read at an index stage by stage: each column of its result is its head's softmax over the
   memory keys, applied to the values. -/
module

public import proofs.«01_k».proof.Defs
public import proofs.«01_k».proof.Proof.AttnBlock
public import Idealize.ShloMosaic.Lib.Pointwise

@[expose] public section

set_option maxRecDepth 16384

noncomputable section

namespace Cert.Proof.Attn

open Cert.AttnIdeal Cert.AttnIdeal.Gen Cert.AttnIdeal.Value Cert.Proof.Ext Idealize.ShloMosaic Idealize.ShloMosaic.TcCoe

section Reference

open Cert.AttnRefIdeal.Read

variable (a0 : Vec Ideal S16384x4352 .f32) (a1 a2 : Vec Ideal S8x256x256 .f32) (a3 : Vec Ideal S64 .f32)

/-- The reference's raw query: the projection's last 256 columns, in four heads. -/
theorem ref_raw (b : Fin 8) (t : Fin 2048) (h : Fin 4) (d : Fin 64) :
    val_main_v6 (F := Ideal) a0 (ix4 b t h d) = a0 (ix2 ⟨b.val * 2048 + t.val, by omega⟩ ⟨4096 + (h.val * 64 + d.val), by omega⟩) := by
  pointwise [val_main_v6, val_main_v5, val_main_v4]

/-- The reference's keys, head by head. -/
theorem ref_key (b : Fin 8) (n : Fin 256) (h : Fin 4) (d : Fin 64) :
    val_main_v1 (F := Ideal) a1 (ix4 b n h d) = a1 (ix3 b (col h d) n) := by
  unfold col
  pointwise [val_main_v1, val_main_v0]

/-- The reference's values, head by head. -/
theorem ref_value (b : Fin 8) (n : Fin 256) (h : Fin 4) (d : Fin 64) :
    val_main_v3 (F := Ideal) a2 (ix4 b n h d) = a2 (ix3 b (col h d) n) := by
  unfold col
  pointwise [val_main_v3, val_main_v2]

/-- The reference's normalised query. -/
theorem ref_query (b : Fin 8) (t : Fin 2048) (h : Fin 4) (d : Fin 64) :
    val_main_v19 (F := Ideal) a0 a3 (ix4 b t h d)
      = val_main_v6 (F := Ideal) a0 (ix4 b t h d) * Ideal.rsqrt (Ideal.div
          (∑ e : Fin 64, val_main_v6 (F := Ideal) a0 (ix4 b t h e) * val_main_v6 (F := Ideal) a0 (ix4 b t h e))
          (Ideal.ofBits FTy.f32 0x42800000#32) + Ideal.ofBits FTy.f32 0x358637BD#32) * a3 (ix1 d) := by
  unfold val_main_v19 val_main_v16 val_main_v18 val_main_v15 val_main_v17 val_main_v14 val_main_v13 val_main_v11 val_main_v12
    val_main_v9 val_main_v10 val_main_cst_1 val_main_v8 val_main_cst_0 val_main_v7 val_main_cst
  generalize val_main_v6 (F := Ideal) a0 = q
  pointwise []

/-- The reference's scaled products. -/
theorem ref_score (b : Fin 8) (h : Fin 4) (t : Fin 2048) (k : Fin 256) :
    val_main_v22 (F := Ideal) a0 a1 a3 (ix4 b h t k)
      = (∑ d : Fin 64, val_main_v19 (F := Ideal) a0 a3 (ix4 b t h d) * val_main_v1 (F := Ideal) a1 (ix4 b k h d))
        * Ideal.ofBits FTy.f32 0x3E000000#32 := by
  unfold val_main_v22 val_main_v20 val_main_v21 val_main_cst_2
  generalize val_main_v19 (F := Ideal) a0 a3 = q
  generalize val_main_v1 (F := Ideal) a1 = mk
  pointwise []

/-- The reference's row maxima. -/
theorem ref_max (b : Fin 8) (h : Fin 4) (t : Fin 2048) :
    val_main_v25 (F := Ideal) a0 a1 a3 (ix3 b h t)
      = rowMax fun j : Fin 256 => val_main_v22 (F := Ideal) a0 a1 a3 (ix4 b h t j) := by
  have e : val_main_v23 (F := Ideal) a0 a1 a3 (ix3 b h t)
      = Finset.univ.fold max (Ideal.ofBits FTy.f32 0xFF800000#32) fun j : Fin 256 => val_main_v22 (F := Ideal) a0 a1 a3 (ix4 b h t j) := by
    unfold val_main_v23 val_main_cst_3
    generalize val_main_v22 (F := Ideal) a0 a1 a3 = s
    pointwise []
  rw [ofBits_ninf] at e
  rw [val_main_v25_apply, val_main_v24_apply, val_main_cst_4_apply, e]
  show max (Ideal.ofBits FTy.f32 0xFF800000#32) _ = _
  rw [ofBits_ninf, max_eq_right bot_le]
  rfl

/-- The reference's exponentials. -/
theorem ref_exp (b : Fin 8) (h : Fin 4) (t : Fin 2048) (k : Fin 256) :
    val_main_v29 (F := Ideal) a0 a1 a3 (ix4 b h t k)
      = Ideal.exp (val_main_v22 (F := Ideal) a0 a1 a3 (ix4 b h t k) - rowMax fun j : Fin 256 => val_main_v22 (F := Ideal) a0 a1 a3 (ix4 b h t j)) := by
  rw [← ref_max]
  unfold val_main_v29 val_main_v28 val_main_v27 val_main_v26
  generalize val_main_v25 (F := Ideal) a0 a1 a3 = x
  generalize val_main_v22 (F := Ideal) a0 a1 a3 = s
  pointwise []

/-- The reference's softmax. -/
theorem ref_prob (b : Fin 8) (h : Fin 4) (t : Fin 2048) (k : Fin 256) :
    val_main_v33 (F := Ideal) a0 a1 a3 (ix4 b h t k)
      = Ideal.div (val_main_v29 (F := Ideal) a0 a1 a3 (ix4 b h t k)) (∑ j : Fin 256, val_main_v29 (F := Ideal) a0 a1 a3 (ix4 b h t j)) := by
  unfold val_main_v33 val_main_v32 val_main_v31 val_main_v30 val_main_cst_5
  generalize val_main_v29 (F := Ideal) a0 a1 a3 = p
  pointwise []

/-- The reference's result before its softmax is read. -/
theorem ref_mix (R : Fin 16384) (c : Fin 256) :
    val_main_v36 (F := Ideal) a0 a1 a2 a3 (ix2 R c)
      = ∑ k : Fin 256, val_main_v3 (F := Ideal) a2 (ix4 ⟨R.val / 2048, by omega⟩ k ⟨c.val / 64, by omega⟩ ⟨c.val % 64, by omega⟩)
          * val_main_v33 (F := Ideal) a0 a1 a3 (ix4 ⟨R.val / 2048, by omega⟩ ⟨c.val / 64, by omega⟩ ⟨R.val % 2048, by omega⟩ k) := by
  unfold val_main_v36 val_main_v35 val_main_v34
  generalize val_main_v33 (F := Ideal) a0 a1 a3 = p
  generalize val_main_v3 (F := Ideal) a2 = v
  pointwise []

/-- The reference's result: each column its head's softmax over the memory keys, applied to the values. -/
theorem ref_out (R : Fin 16384) (c : Fin 256) :
    val_main_v36 (F := Ideal) a0 a1 a2 a3 (ix2 R c)
      = soft (fun k => val_main_v22 (F := Ideal) a0 a1 a3 (ix4 ⟨R.val / 2048, by omega⟩ ⟨c.val / 64, by omega⟩ ⟨R.val % 2048, by omega⟩ k))
          (fun k => a2 (ix3 ⟨R.val / 2048, by omega⟩ c k)) := by
  rw [ref_mix]
  unfold soft
  refine Finset.sum_congr rfl fun k _ => congrArg₂ (· * ·) ?_ ?_
  · rw [ref_value]
    refine congrArg a2 (congrArg (fun x => ix3 _ x k) (Fin.ext ?_))
    show c.val / 64 * 64 + c.val % 64 = c.val
    omega
  · rw [ref_prob]
    simp only [ref_exp]

end Reference

end Cert.Proof.Attn

end
-- ==== Proof.AttnValue.lean ====
/- The memory attention's value claim: the reference's result read at an index, the windows' blocks as rows and columns of
   the arguments, and the equality of the two results. -/
module

public import proofs.«01_k».proof.Defs
public import proofs.«01_k».proof.Proof.AttnRef
public import Idealize.ShloMosaic.Lib.Pointwise
public import Idealize.ShloMosaic.Lib.ReduceAll

@[expose] public section

set_option maxRecDepth 16384

noncomputable section

namespace Cert.Proof.Attn

open Cert.AttnIdeal Cert.AttnIdeal.Gen Cert.AttnIdeal.Value Cert.Proof.Ext Idealize.ShloMosaic Idealize.ShloMosaic.TcCoe

variable (m : (ℓ : Loc nD τ sig) → Buf (Elt Ideal) ℓ)

/-- Where each window's block lies at a grid point. -/
theorem idx_facts : ∀ t : Fin cfg0.N, win0_0.index t (0 : Fin 2) = t.val ∧ win0_0.index t (1 : Fin 2) = 16
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 := (by decide +kernel : ∀ t : Fin grid0.N, _)

/-- Row `r` of block `t` is row `1024 t + r` of the array. -/
def row (t : Fin cfg0.N) (r : Fin 1024) : Fin 16384 := ⟨t.val * 1024 + r.val, by have := t.isLt; have : cfg0.N = 16 := rfl; omega⟩

/-- The batch element block `t` belongs to. -/
def batch (t : Fin cfg0.N) : Fin 8 := ⟨t.val / 2, by have := t.isLt; have : cfg0.N = 16 := rfl; omega⟩

/-- The queries' block: rows of the projection, its last 256 columns. -/
theorem in0 (c : Dev nD) (t : Fin cfg0.N) (r : Fin 1024) (k : Fin 256) : (iblk m c 0 t : Vec Ideal S1024x256 .f32) (ix2 r k)
    = (m ((c : Thread nD τ).loc main_arg0) : Vec Ideal S16384x4352 .f32) (ix2 (row t r) ⟨4096 + k.val, by omega⟩) := by
  obtain ⟨e0, e1, -⟩ := idx_facts t
  rw [← V_main_arg0 m c]
  refine congrArg (V m c main_arg0) (funext fun a => Fin.ext ?_)
  match a with
  | ⟨0, _⟩ => show win0_0.index t (0 : Fin 2) * 1024 + 1 * r.val = t.val * 1024 + r.val; omega
  | ⟨1, _⟩ => show win0_0.index t (1 : Fin 2) * 256 + 1 * k.val = 4096 + k.val; omega

/-- The keys' block. -/
theorem in1 (c : Dev nD) (t : Fin cfg0.N) (i k : Fin 256) : (iblk m c 1 t : Vec Ideal S1x256x256 .f32) (ix3 0 i k)
    = (m ((c : Thread nD τ).loc main_arg1) : Vec Ideal S8x256x256 .f32) (ix3 (batch t) i k) := by
  obtain ⟨-, -, e0, e1, e2, -⟩ := idx_facts t
  rw [← V_main_arg1 m c]
  refine congrArg (V m c main_arg1) (funext fun a => Fin.ext ?_)
  match a with
  | ⟨0, _⟩ => show win0_1.index t (0 : Fin 3) * 1 + 1 * 0 = t.val / 2; omega
  | ⟨1, _⟩ => show win0_1.index t (1 : Fin 3) * 256 + 1 * i.val = i.val; omega
  | ⟨2, _⟩ => show win0_1.index t (2 : Fin 3) * 256 + 1 * k.val = k.val; omega

/-- The values' block. -/
theorem in2 (c : Dev nD) (t : Fin cfg0.N) (i k : Fin 256) : (iblk m c 2 t : Vec Ideal S1x256x256 .f32) (ix3 0 i k)
    = (m ((c : Thread nD τ).loc main_arg2) : Vec Ideal S8x256x256 .f32) (ix3 (batch t) i k) := by
  obtain ⟨-, -, -, -, -, e0, e1, e2, -⟩ := idx_facts t
  rw [← V_main_arg2 m c]
  refine congrArg (V m c main_arg2) (funext fun a => Fin.ext ?_)
  match a with
  | ⟨0, _⟩ => show win0_2.index t (0 : Fin 3) * 1 + 1 * 0 = t.val / 2; omega
  | ⟨1, _⟩ => show win0_2.index t (1 : Fin 3) * 256 + 1 * i.val = i.val; omega
  | ⟨2, _⟩ => show win0_2.index t (2 : Fin 3) * 256 + 1 * k.val = k.val; omega

/-- The gain, repeated over the four heads. -/
def gainRow (g : Vec Ideal S64 .f32) : Vec Ideal S1x256 .f32 :=
  broadcastInDim S1x256 ![1] bcast_S256_S1x256_1 (shapeCast S256 (broadcastInDim S4x64 ![0, 1] bcast_S1x64_S4x64_0_1
    (shapeCast S1x64 g shapeCasts_S64_S1x64)) shapeCasts_S4x64_S256)

theorem gainRow_apply (g : Vec Ideal S64 .f32) (k : Fin 256) : gainRow g (ix2 0 k) = g (ix1 ⟨k.val % 64, by omega⟩) := by
  unfold gainRow
  pointwise []

theorem in3 (c : Dev nD) (t : Fin cfg0.N) (k : Fin 256) : (iblk m c 3 t : Vec Ideal S1x256 .f32) (ix2 0 k)
    = (m ((c : Thread nD τ).loc main_arg3) : Vec Ideal S64 .f32) (ix1 ⟨k.val % 64, by omega⟩) := by
  have e : (V m c main_v13 : Vec Ideal S1x256 .f32) = gainRow (m ((c : Thread nD τ).loc main_arg3)) := by
    show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results
    rfl
  obtain ⟨-, -, -, -, -, -, -, -, e0, e1, -⟩ := idx_facts t
  refine Eq.trans (b := (V m c main_v13 : Vec Ideal S1x256 .f32) (ix2 0 k)) (congrArg (V m c main_v13) (funext fun a => Fin.ext ?_)) ?_
  · match a with
    | ⟨0, _⟩ => show win0_3.index t (0 : Fin 2) * 1 + 1 * 0 = 0; omega
    | ⟨1, _⟩ => show win0_3.index t (1 : Fin 2) * 256 + 1 * k.val = k.val; omega
  · rw [e, gainRow_apply]

/-- The floor of a quotient by 64, as the host writes it. -/
def floorDiv {s : Shape} (hb : S_.BroadcastsInDim s (![] : Fin 0 → Fin s.rank)) (x : IVec s 32) : IVec s 32 :=
  select (andi (cmpi .ne (signi x) (broadcastInDim s ![] hb (signi (constantI S_ 32 64#32))))
      (cmpi .ne (Host.remsi x (broadcastInDim s ![] hb (constantI S_ 32 64#32))) (broadcastInDim s ![] hb (constantI S_ 32 0#32))))
    (subi (Host.divsi x (broadcastInDim s ![] hb (constantI S_ 32 64#32))) (broadcastInDim s ![] hb (constantI S_ 32 1#32)))
    (Host.divsi x (broadcastInDim s ![] hb (constantI S_ 32 64#32)))

/-- The block mask: one where row and column belong to the same head. -/
def blockMask : Vec Ideal S256x256 .bf16 :=
  uitofp (F := Ideal) .bf16 (cmpi .eq
    (broadcastInDim S256x256 ![0, 1] bcast_S256x1_S256x256_0_1 (floorDiv bcast_S_S256x1 (broadcastInDim S256x1 ![0] bcast_S256_S256x1_0 (iotaInDim S256 32 0))))
    (broadcastInDim S256x256 ![0, 1] bcast_S1x256_S256x256_0_1 (floorDiv bcast_S_S1x256 (broadcastInDim S1x256 ![1] bcast_S256_S1x256_1 (iotaInDim S256 32 0)))))

theorem blockMask_apply (j k : Fin 256) : blockMask (ix2 j k) = if j.val / 64 = k.val / 64 then (1 : EReal) else 0 := by
  have e1 : ∀ j : Fin 256, (floorDiv bcast_S_S256x1 (broadcastInDim S256x1 ![0] bcast_S256_S256x1_0 (iotaInDim S256 32 0))) (ix2 j 0)
      = BitVec.ofNat 32 (j.val / 64) := by decide +kernel
  have e2 : ∀ k : Fin 256, (floorDiv bcast_S_S1x256 (broadcastInDim S1x256 ![1] bcast_S256_S1x256_1 (iotaInDim S256 32 0))) (ix2 0 k)
      = BitVec.ofNat 32 (k.val / 64) := by decide +kernel
  unfold blockMask
  generalize floorDiv bcast_S_S256x1 (broadcastInDim S256x1 ![0] bcast_S256_S256x1_0 (iotaInDim S256 32 0)) = x at e1
  generalize floorDiv bcast_S_S1x256 (broadcastInDim S1x256 ![1] bcast_S256_S1x256_1 (iotaInDim S256 32 0)) = y at e2
  pointwise []
  rw [e1, e2]
  by_cases h : j.val / 64 = k.val / 64
  · rw [if_pos h, h]
    show (((IntOp.cmpi CmpIPredicate.eq (BitVec.ofNat 32 (k.val / 64)) (BitVec.ofNat 32 (k.val / 64))).toNat : ℝ) : EReal) = 1
    simp [IntOp.cmpi]
  · rw [if_neg h]
    have hne : ¬ BitVec.ofNat 32 (j.val / 64) = BitVec.ofNat 32 (k.val / 64) := fun e => h (by
      have := congrArg BitVec.toNat e
      simp only [BitVec.toNat_ofNat] at this
      omega)
    show (((IntOp.cmpi CmpIPredicate.eq (BitVec.ofNat 32 (j.val / 64)) (BitVec.ofNat 32 (k.val / 64))).toNat : ℝ) : EReal) = 0
    unfold IntOp.cmpi
    rw [beq_eq_false_iff_ne.2 hne]
    simp

theorem in4 (c : Dev nD) (t : Fin cfg0.N) (j k : Fin 256) : (iblk m c 4 t : Vec Ideal S256x256 .bf16) (ix2 j k)
    = if j.val / 64 = k.val / 64 then (1 : EReal) else 0 := by
  have e : (V m c main_v9 : Vec Ideal S256x256 .bf16) = blockMask := by
    show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results
    rfl
  obtain ⟨-, -, -, -, -, -, -, -, -, -, e0, e1, -⟩ := idx_facts t
  refine Eq.trans (b := (V m c main_v9 : Vec Ideal S256x256 .bf16) (ix2 j k)) (congrArg (V m c main_v9) (funext fun a => Fin.ext ?_)) ?_
  · match a with
    | ⟨0, _⟩ => show win0_4.index t (0 : Fin 2) * 256 + 1 * j.val = j.val; omega
    | ⟨1, _⟩ => show win0_4.index t (1 : Fin 2) * 256 + 1 * k.val = k.val; omega
  · rw [e, blockMask_apply]

/-- A word whose absolute value compares below the float infinity is a real number. -/
theorem isReal_of_cmp {x : EReal} (h : Ideal.cmp CmpFPredicate.olt (max x (-x)) (Ideal.ofBits FTy.f32 0x7F800000#32) = 1#1) : IsReal x := by
  rw [ofBits_inf] at h
  refine isReal_of_abs ?_
  by_contra hn
  simp [Ideal.cmp, hn] at h

/-- The arguments' finiteness, read from the precondition. -/
theorem finite_of_pre (a0 : Vec Ideal S16384x4352 .f32) (a1 a2 : Vec Ideal S8x256x256 .f32) (a3 : Vec Ideal S64 .f32)
    [Cert.Pre_finite_scores.Facts]
    (h : Cert.Pre_finite_scores.fn (F := Ideal) a0 a1 a2 a3 = fun _ => 1#1) :
    (∀ R (k : Fin 256), IsReal (a0 (ix2 R ⟨4096 + k.val, by omega⟩))) ∧ (∀ b i k, IsReal (a1 (ix3 b i k))) ∧ ∀ d, IsReal (a3 (ix1 d)) := by
  haveI : Subsingleton S_.Idx := ⟨fun a b => funext fun i => i.elim0⟩
  have h0 := congrFun h ix0
  dsimp only [Cert.Pre_finite_scores.fn] at h0
  obtain ⟨h1, h3⟩ := IntOp.andi_eq_one.1 h0
  obtain ⟨h1, h2⟩ := IntOp.andi_eq_one.1 h1
  refine ⟨fun R k => ?_, fun b i k => ?_, fun d => ?_⟩
  · have h4 := Host.reduce_andi_all _ _ _ _ _ h1 (ix2 R ⟨k.val, by omega⟩)
    refine isReal_of_cmp (Eq.trans ?_ h4)
    pointwise []
    rfl
  · exact isReal_of_cmp (Host.reduce_andi_all _ _ _ _ _ h2 (ix3 b i k))
  · exact isReal_of_cmp (Host.reduce_andi_all _ _ _ _ _ h3 (ix1 d))

/-- The block's scores are the reference's, when the block's parts are the arguments' at that row. -/
theorem scores_eq (x0 : Vec Ideal S1024x256 .f32) (x1 : Vec Ideal S1x256x256 .f32) (x3 : Vec Ideal S1x256 .f32)
    (a0 : Vec Ideal S16384x4352 .f32) (a1 : Vec Ideal S8x256x256 .f32) (a3 : Vec Ideal S64 .f32) (r : Fin 1024) (R : Fin 16384)
    (h0 : ∀ c : Fin 256, x0 (ix2 r c) = a0 (ix2 R ⟨4096 + c.val, by omega⟩))
    (h1 : ∀ c k : Fin 256, x1 (ix3 0 c k) = a1 (ix3 ⟨R.val / 2048, by omega⟩ c k))
    (h3 : ∀ c : Fin 256, x3 (ix2 0 c) = a3 (ix1 ⟨c.val % 64, by omega⟩)) (h : Fin 4) (k : Fin 256) :
    scores x0 x1 x3 r h k
      = Cert.AttnRefIdeal.Read.val_main_v22 (F := Ideal) a0 a1 a3 (ix4 ⟨R.val / 2048, by omega⟩ h ⟨R.val % 2048, by omega⟩ k) := by
  have hq : ∀ d : Fin 64, Cert.AttnRefIdeal.Read.val_main_v6 (F := Ideal) a0 (ix4 ⟨R.val / 2048, by omega⟩ ⟨R.val % 2048, by omega⟩ h d)
      = x0 (ix2 r (col h d)) := fun d => by
    rw [ref_raw, h0]
    refine congrArg a0 (congrArg (fun x => ix2 x _) (Fin.ext ?_))
    show R.val / 2048 * 2048 + R.val % 2048 = R.val
    omega
  rw [ref_score]
  unfold scores qhat
  refine congrArg (· * _) (Finset.sum_congr rfl fun d _ => ?_)
  rw [ref_query, ref_key, h1]
  simp only [hq]
  rw [h3]
  have hd : (⟨(col h d).val % 64, by omega⟩ : Fin 64) = d := Fin.ext (by show (h.val * 64 + d.val) % 64 = d.val; omega)
  rw [hd]

/-- The reference's function of the kernel's arguments. -/
def G (c : Dev nD) : Vec Ideal S16384x256 .f32 :=
  Cert.AttnRefIdeal.Read.val_main_v36 (F := Ideal) (m ((c : Thread nD τ).loc main_arg0)) (m ((c : Thread nD τ).loc main_arg1))
    (m ((c : Thread nD τ).loc main_arg2)) (m ((c : Thread nD τ).loc main_arg3))

/-- What grid point `t` writes back is block `t` of the reference's function. -/
theorem flushed_eq [Cert.Pre_finite_scores.Facts] (hp : Pre_AttnIdeal_finite_scores m) (c : Dev nD) (t : Fin cfg0.N) :
    (dats m 0 c).flushed 5 t = ((cfg0.win 5).blk t).view.read (Elt Ideal) (G m c) := by
  obtain ⟨p0, p1, p3⟩ := finite_of_pre _ _ _ _ (hp c)
  rw [flushed5, out_eq _ _ _ _ _ (fun R k => by rw [in0]; exact p0 _ _) (fun i k => by rw [in1]; exact p1 _ _ _)
    (fun k => by rw [in3]; exact p3 _) (in4 m c t)]
  funext j
  obtain ⟨-, -, -, -, -, -, -, -, -, -, -, -, e0, e1⟩ := idx_facts t
  obtain ⟨r, l, rfl⟩ : ∃ (r : Fin 1024) (l : Fin 256), j = ix2 r l := ⟨j 0, j 1, eq_ix2 j⟩
  have hb : (⟨(row t r).val / 2048, by omega⟩ : Fin 8) = batch t := Fin.ext (by
    show (t.val * 1024 + r.val) / 2048 = t.val / 2
    omega)
  have h : blockVal (iblk m c 0 t) (iblk m c 1 t) (iblk m c 2 t) (iblk m c 3 t) (ix2 r l) = G m c (ix2 (row t r) l) := by
    refine Eq.trans ?_ (ref_out _ _ _ _ (row t r) l).symm
    refine congrArg₂ soft (funext fun k => ?_) (funext fun k => ?_)
    · exact scores_eq _ _ _ _ _ _ r (row t r) (in0 m c t r) (fun i k => by rw [hb]; exact in1 m c t i k) (in3 m c t) _ k
    · rw [hb]; exact in2 m c t l k
  refine Eq.trans (b := blockVal (iblk m c 0 t) (iblk m c 1 t) (iblk m c 2 t) (iblk m c 3 t) (ix2 r l)) rfl (h.trans ?_)
  refine congrArg (G m c) (funext fun a => Fin.ext ?_)
  match a with
  | ⟨0, _⟩ => show t.val * 1024 + r.val = win0_5.index t (0 : Fin 2) * 1024 + 1 * r.val; omega
  | ⟨1, _⟩ => show l.val = win0_5.index t (1 : Fin 2) * 256 + 1 * l.val; omega

/-- Every element of the array lies in some point's block. -/
theorem covered (i : S16384x256.Idx) : ∃ t : Fin cfg0.N, (cfg0.win 5).flush t = true ∧ i ∈ ((cfg0.win 5).blk t).view.set := by
  obtain ⟨R, l, rfl⟩ : ∃ (R : Fin 16384) (l : Fin 256), i = ix2 R l := ⟨i 0, i 1, eq_ix2 i⟩
  have hN : R.val / 1024 < cfg0.N := by have : cfg0.N = 16 := rfl; omega
  refine ⟨⟨R.val / 1024, hN⟩, flush0_5 _, ?_⟩
  obtain ⟨-, -, -, -, -, -, -, -, -, -, -, -, e0, e1⟩ := idx_facts ⟨R.val / 1024, hN⟩
  have e0' : win0_5.index ⟨R.val / 1024, hN⟩ (0 : Fin 2) = R.val / 1024 := e0
  show ix2 R l ∈ ((View.whole main_v14).slice (win0_5.rect ⟨R.val / 1024, hN⟩)).set
  rw [View.set_slice_whole, Rect.mem_set_unit]
  intro a
  match a with
  | ⟨0, _⟩ => show win0_5.index ⟨R.val / 1024, hN⟩ (0 : Fin 2) * 1024 ≤ R.val ∧ R.val < win0_5.index ⟨R.val / 1024, hN⟩ (0 : Fin 2) * 1024 + 1024; omega
  | ⟨1, _⟩ => show win0_5.index ⟨R.val / 1024, hN⟩ (1 : Fin 2) * 256 ≤ l.val ∧ l.val < win0_5.index ⟨R.val / 1024, hN⟩ (1 : Fin 2) * 256 + 256; omega

/-- The kernel's result array is the reference's function of the arguments. -/
theorem final [Cert.Pre_finite_scores.Facts] (hp : Pre_AttnIdeal_finite_scores m) (c : Dev nD) : (dats m 0 c).arrAt 5 cfg0.N = G m c :=
  (dats m 0 c).arrAt_eq_of_cover 5 (G m c) (fun t _ => flushed_eq m hp c t) covered

/-- The value claim: from memories that agree on the arguments, the kernel and the reference end with the same result. -/
theorem algebraic [Cert.Pre_finite_scores.Facts] : Cert.algebraic_AttnIdeal_AttnRefIdeal_pre_finite_scores := by
  intro m g m' g' hp hm
  refine ⟨fun c => G m c, ?_, ?_⟩
  · exact (θ_run defs _ _).mono (fun r h c => ⟨(h c).1.trans (final m hp c), (h c).2⟩) (run_blocks m g)
  · refine (θ_run Cert.AttnRefIdeal.defs _ _).mono (fun r h c => ⟨(h c).1.trans ?_, (h c).2⟩) (Cert.AttnRefIdeal.Value.run m' g')
    rw [Cert.AttnRefIdeal.Read.val_main_v36_eq]
    obtain ⟨e0, e1, e2, e3⟩ := hm c
    unfold G
    rw [e0, e1, e2, e3]

end Cert.Proof.Attn

end
-- ==== Proof.MlpBlock.lean ====
/- What one grid point of the block-and-MLP kernel computes, read at an index: the residual stream after the output
   projection, its normalised rows, and the squared-ReLU MLP taken in eight chunks of 512 hidden columns. -/
module

public import proofs.«01_k».proof.Proof.Gen.MlpIdeal.Value
public import proofs.«01_k».proof.Proof.Gen.MlpRefIdeal.Read
public import Idealize.ShloMosaic.Lib.Pointwise

@[expose] public section

set_option maxRecDepth 16384

noncomputable section

namespace Cert.Proof.Mlp

open Cert.MlpIdeal Cert.MlpIdeal.Gen Idealize.ShloMosaic Idealize.ShloMosaic.TcCoe

/-- The residual stream after the output projection: the row plus the two halves' products. -/
theorem pay2_apply (v0 v1 : Vec Ideal S512x1024 .f32) (v3 : Vec Ideal S1024x1024 .bf16) (v7 : Vec Ideal S512x256 .f32)
    (v9 : Vec Ideal S256x1024 .bf16) (r : Fin 512) (l : Fin 1024) :
    k0_pay2 v0 v1 v3 v7 v9 (ix2 r l)
      = v0 (ix2 r l) + ∑ k : Fin 1024, v1 (ix2 r k) * v3 (ix2 k l) + ∑ k : Fin 256, v7 (ix2 r k) * v9 (ix2 k l) := by
  pointwise [k0_pay2]

/-- The normalised row with its gain. -/
theorem pay3_apply (v0 v1 : Vec Ideal S512x1024 .f32) (v3 : Vec Ideal S1024x1024 .bf16) (v7 : Vec Ideal S512x256 .f32)
    (v9 : Vec Ideal S256x1024 .bf16) (v13 : Vec Ideal S1x1024 .f32) (r : Fin 512) (l : Fin 1024) :
    k0_pay3 v0 v1 v3 v7 v9 v13 (ix2 r l)
      = k0_pay2 v0 v1 v3 v7 v9 (ix2 r l) * Ideal.rsqrt (Ideal.div
          (∑ x : Fin 1024, k0_pay2 v0 v1 v3 v7 v9 (ix2 r x) * k0_pay2 v0 v1 v3 v7 v9 (ix2 r x))
          (Ideal.ofBits FTy.f32 0x44800000#32) + Ideal.ofBits FTy.f32 0x358637BD#32) * v13 (ix2 0 l) := by
  unfold k0_pay3
  generalize k0_pay2 v0 v1 v3 v7 v9 = h
  pointwise []

/-- The squared ReLU of one hidden column. -/
def act (n w : Fin 1024 → EReal) : EReal := max (∑ k, n k * w k) 0 * max (∑ k, n k * w k) 0

/-- One chunk of 512 hidden columns, starting at column `o`. -/
def chunk (n : Fin 1024 → EReal) (wu : Fin 1024 → Fin 4096 → EReal) (wd : Fin 4096 → EReal) (o : Nat) (ho : o + 512 ≤ 4096) : EReal :=
  ∑ j : Fin 512, act n (fun k => wu k ⟨o + j.val, by omega⟩) * wd ⟨o + j.val, by omega⟩

/-- A sum over 4096 hidden columns is the sum of its eight chunks, taken from the left. -/
theorem chunks (n : Fin 1024 → EReal) (wu : Fin 1024 → Fin 4096 → EReal) (wd : Fin 4096 → EReal) :
    ∑ f : Fin 4096, act n (fun k => wu k f) * wd f
      = chunk n wu wd 0 (by omega) + chunk n wu wd 512 (by omega) + chunk n wu wd 1024 (by omega)
        + chunk n wu wd 1536 (by omega) + chunk n wu wd 2048 (by omega) + chunk n wu wd 2560 (by omega)
        + chunk n wu wd 3072 (by omega) + chunk n wu wd 3584 (by omega) := by
  have key : ∀ (a b : Nat) (hb : b = a + 512) (h : b ≤ 4096),
      ∑ f : Fin b, act n (fun k => wu k ⟨f.val, by omega⟩) * wd ⟨f.val, by omega⟩
        = ∑ f : Fin a, act n (fun k => wu k ⟨f.val, by omega⟩) * wd ⟨f.val, by omega⟩ + chunk n wu wd a (by omega) := by
    intro a b hb h
    subst hb
    rw [Fin.sum_univ_add]
    rfl
  refine (key 3584 4096 rfl (by omega)).trans ?_
  rw [key 3072 3584 rfl (by omega), key 2560 3072 rfl (by omega), key 2048 2560 rfl (by omega),
    key 1536 2048 rfl (by omega), key 1024 1536 rfl (by omega), key 512 1024 rfl (by omega), key 0 512 rfl (by omega)]
  rw [Fin.sum_univ_zero, zero_add]

/-- The kernel's block, read at an index: the residual stream plus the eight chunks. -/
theorem out_apply (x0 x1 : Vec Ideal S512x1024 .f32) (x2 : Vec Ideal S512x256 .f32) (x3 : Vec Ideal S1024x1024 .bf16)
    (x4 : Vec Ideal S256x1024 .bf16) (x5 : Vec Ideal S1x1024 .f32) (x6 : Vec Ideal S1024x4096 .bf16)
    (x7 : Vec Ideal S4096x1024 .bf16) (r : Fin 512) (l : Fin 1024) :
    out0_8 x0 x1 x2 x3 x4 x5 x6 x7 (ix2 r l)
      = k0_pay2 x0 x1 x3 x2 x4 (ix2 r l)
        + ∑ f : Fin 4096, act (fun k => k0_pay3 x0 x1 x3 x2 x4 x5 (ix2 r k)) (fun k => x6 (ix2 k f)) * x7 (ix2 f l) := by
  have hz : (![0, 0] : Fin 2 → Nat) = fun _ => 0 := funext fun a => by fin_cases a <;> rfl
  rw [chunks (fun k => k0_pay3 x0 x1 x3 x2 x4 x5 (ix2 r k)) (fun k f => x6 (ix2 k f)) (fun f => x7 (ix2 f l))]
  unfold out0_8 k0_pay8 k0_pay4
  rw [show View.canon _ = _ from View.canon_unit_zero hz _ _]
  rw [show View.ld x0 r0_0 = x0 from View.ld_unit_zero hz _ _, show View.ld x1 r0_0 = x1 from View.ld_unit_zero hz _ _,
    show View.ld x2 r0_2 = x2 from View.ld_unit_zero hz _ _, show View.ld x3 r0_1 = x3 from View.ld_unit_zero hz _ _,
    show View.ld x4 r0_3 = x4 from View.ld_unit_zero hz _ _, show View.ld x5 r0_4 = x5 from View.ld_unit_zero hz _ _]
  generalize k0_pay3 x0 x1 x3 x2 x4 x5 = n
  generalize k0_pay2 x0 x1 x3 x2 x4 = h
  pointwise [k0_pay1, k0_pay5, k0_pay6, k0_pay7, chunk, act, r0_5, r0_6, r0_7, r0_8, r0_9, r0_10, r0_11, r0_12, r0_13, r0_14, r0_15,
    r0_16, r0_17, r0_18, r0_19, r0_20]

end Cert.Proof.Mlp

end
-- ==== Proof.MlpValue.lean ====
/- The block-and-MLP kernel's result array is the reference's: block `t` of the kernel's array holds rows `512 t` to
   `512 t + 511`, and each of its elements is the reference's element of that row. -/
module

public import proofs.«01_k».proof.Defs
public import proofs.«01_k».proof.Proof.MlpBlock
public import Idealize.ShloMosaic.Lib.Pointwise

@[expose] public section

set_option maxRecDepth 16384

noncomputable section

namespace Cert.Proof.Mlp

open Cert.MlpIdeal Cert.MlpIdeal.Gen Cert.MlpIdeal.Value Idealize.ShloMosaic Idealize.ShloMosaic.TcCoe Idealize.SL.Sem
open Cert.MlpRefIdeal.Read (val_main_v2 val_main_v15 val_main_v16 val_main_v20)

/-! ## The reference, read at an index -/

section Reference

variable (a0 a1 : Vec Ideal S16384x1024 .f32) (a2 : Vec Ideal S16384x256 .f32) (a3 : Vec Ideal S1280x1024 .f32)
  (a4 : Vec Ideal S1024 .f32) (a5 : Vec Ideal S1024x4096 .f32) (a6 : Vec Ideal S4096x1024 .f32)

/-- The reference's residual stream: the product with the joined row is the sum of the two halves' products. -/
theorem ref_stream (R : Fin 16384) (l : Fin 1024) :
    val_main_v2 (F := Ideal) a0 a1 a2 a3 (ix2 R l)
      = a0 (ix2 R l) + ∑ k : Fin 1024, a1 (ix2 R k) * a3 (ix2 ⟨k.val, by omega⟩ l)
        + ∑ k : Fin 256, a2 (ix2 R k) * a3 (ix2 ⟨1024 + k.val, by omega⟩ l) := by
  pointwise [Cert.MlpRefIdeal.Read.val_main_v2, Cert.MlpRefIdeal.Read.val_main_v1, Cert.MlpRefIdeal.Read.val_main_v0]
  exact (add_assoc _ _ _).symm

/-- The reference's normalised row. -/
theorem ref_norm (R : Fin 16384) (l : Fin 1024) :
    val_main_v15 (F := Ideal) a0 a1 a2 a3 a4 (ix2 R l)
      = val_main_v2 (F := Ideal) a0 a1 a2 a3 (ix2 R l) * Ideal.rsqrt (Ideal.div
          (∑ x : Fin 1024, val_main_v2 (F := Ideal) a0 a1 a2 a3 (ix2 R x) * val_main_v2 (F := Ideal) a0 a1 a2 a3 (ix2 R x))
          (Ideal.ofBits FTy.f32 0x44800000#32) + Ideal.ofBits FTy.f32 0x358637BD#32) * a4 (ix1 l) := by
  unfold Cert.MlpRefIdeal.Read.val_main_v15 Cert.MlpRefIdeal.Read.val_main_v12 Cert.MlpRefIdeal.Read.val_main_v11
    Cert.MlpRefIdeal.Read.val_main_v10 Cert.MlpRefIdeal.Read.val_main_v9 Cert.MlpRefIdeal.Read.val_main_v7 Cert.MlpRefIdeal.Read.val_main_v5
    Cert.MlpRefIdeal.Read.val_main_v4 Cert.MlpRefIdeal.Read.val_main_v3
  generalize val_main_v2 (F := Ideal) a0 a1 a2 a3 = h
  pointwise [Cert.MlpRefIdeal.Read.val_main_v14, Cert.MlpRefIdeal.Read.val_main_v13, Cert.MlpRefIdeal.Read.val_main_v8,
    Cert.MlpRefIdeal.Read.val_main_v6, Cert.MlpRefIdeal.Read.val_main_cst, Cert.MlpRefIdeal.Read.val_main_cst_0,
    Cert.MlpRefIdeal.Read.val_main_cst_1]

/-- The reference's result: the residual stream plus the squared-ReLU MLP of the normalised row. -/
theorem ref_out (R : Fin 16384) (l : Fin 1024) :
    val_main_v20 (F := Ideal) a0 a1 a2 a3 a4 a5 a6 (ix2 R l)
      = val_main_v2 (F := Ideal) a0 a1 a2 a3 (ix2 R l)
        + ∑ f : Fin 4096, act (fun k => val_main_v15 (F := Ideal) a0 a1 a2 a3 a4 (ix2 R k)) (fun k => a5 (ix2 k f)) * a6 (ix2 f l) := by
  unfold Cert.MlpRefIdeal.Read.val_main_v20 Cert.MlpRefIdeal.Read.val_main_v19 Cert.MlpRefIdeal.Read.val_main_v18
    Cert.MlpRefIdeal.Read.val_main_v17 Cert.MlpRefIdeal.Read.val_main_v16
  generalize val_main_v15 (F := Ideal) a0 a1 a2 a3 a4 = n
  generalize val_main_v2 (F := Ideal) a0 a1 a2 a3 = h
  pointwise [Cert.MlpRefIdeal.Read.val_main_call0_v0, Cert.MlpRefIdeal.Read.val_main_call0_cst, act]

end Reference

/-- One block of the kernel against the reference's rows: whatever the row of the whole array a block's row is. -/
theorem block_eq (x0 x1 : Vec Ideal S512x1024 .f32) (x2 : Vec Ideal S512x256 .f32) (x3 : Vec Ideal S1024x1024 .bf16)
    (x4 : Vec Ideal S256x1024 .bf16) (x5 : Vec Ideal S1x1024 .f32) (x6 : Vec Ideal S1024x4096 .bf16)
    (x7 : Vec Ideal S4096x1024 .bf16)
    (a0 a1 : Vec Ideal S16384x1024 .f32) (a2 : Vec Ideal S16384x256 .f32) (a3 : Vec Ideal S1280x1024 .f32)
    (a4 : Vec Ideal S1024 .f32) (a5 : Vec Ideal S1024x4096 .f32) (a6 : Vec Ideal S4096x1024 .f32)
    (r : Fin 512) (R : Fin 16384) (l : Fin 1024)
    (h0 : ∀ k, x0 (ix2 r k) = a0 (ix2 R k)) (h1 : ∀ k, x1 (ix2 r k) = a1 (ix2 R k)) (h2 : ∀ k, x2 (ix2 r k) = a2 (ix2 R k))
    (h3 : ∀ (k : Fin 1024) (j : Fin 1024), x3 (ix2 k j) = a3 (ix2 ⟨k.val, by omega⟩ j))
    (h4 : ∀ (k : Fin 256) (j : Fin 1024), x4 (ix2 k j) = a3 (ix2 ⟨1024 + k.val, by omega⟩ j))
    (h5 : ∀ k : Fin 1024, x5 (ix2 0 k) = a4 (ix1 k)) (h6 : ∀ (k : Fin 1024) (f : Fin 4096), x6 (ix2 k f) = a5 (ix2 k f))
    (h7 : ∀ (f : Fin 4096) (k : Fin 1024), x7 (ix2 f k) = a6 (ix2 f k)) :
    out0_8 x0 x1 x2 x3 x4 x5 x6 x7 (ix2 r l) = val_main_v20 (F := Ideal) a0 a1 a2 a3 a4 a5 a6 (ix2 R l) := by
  have hs : ∀ j : Fin 1024, k0_pay2 x0 x1 x3 x2 x4 (ix2 r j) = val_main_v2 (F := Ideal) a0 a1 a2 a3 (ix2 R j) := by
    intro j; rw [pay2_apply, ref_stream]; simp only [h0, h1, h2, h3, h4]
  have hn : ∀ j : Fin 1024, k0_pay3 x0 x1 x3 x2 x4 x5 (ix2 r j) = val_main_v15 (F := Ideal) a0 a1 a2 a3 a4 (ix2 R j) := by
    intro j; rw [pay3_apply, ref_norm]; simp only [hs, h5]
  rw [out_apply, ref_out]; simp only [hs, hn, h6, h7]

variable (m : (ℓ : Loc nD τ sig) → Buf (Elt Ideal) ℓ) (ρ : Dev nD → PrngReg)

/-! ## The prepared weights, and what each window's block holds -/

/-- Where each window's block lies at a grid point. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0 := (by decide +kernel : ∀ t : Fin grid0.N, _)

/-- The weights' windows are their whole arrays at every grid point. -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 := (by decide +kernel : ∀ t : Fin grid0.N, _)

/-- Row `r` of block `t` is row `512 t + r` of the array. -/
def row (t : Fin cfg0.N) (r : Fin 512) : Fin 16384 := ⟨t.val * 512 + r.val, by have := t.isLt; have : cfg0.N = 32 := rfl; omega⟩

theorem in0 (c : Dev nD) (t : Fin cfg0.N) (r : Fin 512) (k : Fin 1024) :
    (iblk m c 0 t : Vec Ideal S512x1024 .f32) (ix2 r k) = (m ((c : Thread nD τ).loc main_arg0) : Vec Ideal S16384x1024 .f32) (ix2 (row t r) k) := by
  obtain ⟨e0, e1, -⟩ := idx_rows t
  rw [← V_main_arg0 m c]
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

theorem in1 (c : Dev nD) (t : Fin cfg0.N) (r : Fin 512) (k : Fin 1024) :
    (iblk m c 1 t : Vec Ideal S512x1024 .f32) (ix2 r k) = (m ((c : Thread nD τ).loc main_arg1) : Vec Ideal S16384x1024 .f32) (ix2 (row t r) k) := by
  obtain ⟨-, -, e0, e1, -⟩ := idx_rows t
  rw [← V_main_arg1 m c]
  refine congrArg (V m c main_arg1) (funext fun a => Fin.ext ?_)
  match a with
  | ⟨0, _⟩ => show win0_1.index t (0 : Fin 2) * 512 + 1 * r.val = t.val * 512 + r.val; omega
  | ⟨1, _⟩ => show win0_1.index t (1 : Fin 2) * 1024 + 1 * k.val = k.val; omega

theorem in2 (c : Dev nD) (t : Fin cfg0.N) (r : Fin 512) (k : Fin 256) :
    (iblk m c 2 t : Vec Ideal S512x256 .f32) (ix2 r k) = (m ((c : Thread nD τ).loc main_arg2) : Vec Ideal S16384x256 .f32) (ix2 (row t r) k) := by
  obtain ⟨-, -, -, -, e0, e1, -⟩ := idx_rows t
  rw [← V_main_arg2 m c]
  refine congrArg (V m c main_arg2) (funext fun a => Fin.ext ?_)
  match a with
  | ⟨0, _⟩ => show win0_2.index t (0 : Fin 2) * 512 + 1 * r.val = t.val * 512 + r.val; omega
  | ⟨1, _⟩ => show win0_2.index t (1 : Fin 2) * 256 + 1 * k.val = k.val; omega

/-- The output projection's weight rows for the mixer's output. -/
theorem prep1 (c : Dev nD) (k j : Fin 1024) : (V m c main_v1 : Vec Ideal S1024x1024 .bf16) (ix2 k j)
    = (m ((c : Thread nD τ).loc main_arg3) : Vec Ideal S1280x1024 .f32) (ix2 ⟨k.val, by omega⟩ j) := by
  have e : (V m c main_v1 : Vec Ideal S1024x1024 .bf16) = extractStridedSlice S1024x1024 ![0, 0]
      (truncf (F := Ideal) .bf16 (m ((c : Thread nD τ).loc main_arg3) : Vec Ideal S1280x1024 .f32) bitsLt_bf16_f32) slices_S1280x1024_S1024x1024_0_0 := by
    show StableHlo.after hostOps0 _ _ = _
    after_results
  rw [e]; pointwise []

/-- The output projection's weight rows for the attention's output. -/
theorem prep2 (c : Dev nD) (k : Fin 256) (j : Fin 1024) : (V m c main_v2 : Vec Ideal S256x1024 .bf16) (ix2 k j)
    = (m ((c : Thread nD τ).loc main_arg3) : Vec Ideal S1280x1024 .f32) (ix2 ⟨1024 + k.val, by omega⟩ j) := by
  have e : (V m c main_v2 : Vec Ideal S256x1024 .bf16) = extractStridedSlice S256x1024 ![1024, 0]
      (truncf (F := Ideal) .bf16 (m ((c : Thread nD τ).loc main_arg3) : Vec Ideal S1280x1024 .f32) bitsLt_bf16_f32) slices_S1280x1024_S256x1024_1024_0 := by
    show StableHlo.after hostOps0 _ _ = _
    after_results
  rw [e]; pointwise []

/-- The gain as one row. -/
theorem prep3 (c : Dev nD) (k : Fin 1024) : (V m c main_v3 : Vec Ideal S1x1024 .f32) (ix2 0 k)
    = (m ((c : Thread nD τ).loc main_arg4) : Vec Ideal S1024 .f32) (ix1 k) := by
  have e : (V m c main_v3 : Vec Ideal S1x1024 .f32) = broadcastInDim S1x1024 ![1] bcast_S1024_S1x1024_1
      (m ((c : Thread nD τ).loc main_arg4) : Vec Ideal S1024 .f32) := by
    show StableHlo.after hostOps0 _ _ = _
    after_results
  rw [e]; pointwise []

/-- The two MLP weights, cast. -/
theorem prep4 (c : Dev nD) (k : Fin 1024) (f : Fin 4096) : (V m c main_v4 : Vec Ideal S1024x4096 .bf16) (ix2 k f)
    = (m ((c : Thread nD τ).loc main_arg5) : Vec Ideal S1024x4096 .f32) (ix2 k f) := by
  have e : (V m c main_v4 : Vec Ideal S1024x4096 .bf16)
      = truncf (F := Ideal) .bf16 (m ((c : Thread nD τ).loc main_arg5) : Vec Ideal S1024x4096 .f32) bitsLt_bf16_f32 := by
    show StableHlo.after hostOps0 _ _ = _
    after_results
  rw [e]; pointwise []

theorem prep5 (c : Dev nD) (f : Fin 4096) (k : Fin 1024) : (V m c main_v5 : Vec Ideal S4096x1024 .bf16) (ix2 f k)
    = (m ((c : Thread nD τ).loc main_arg6) : Vec Ideal S4096x1024 .f32) (ix2 f k) := by
  have e : (V m c main_v5 : Vec Ideal S4096x1024 .bf16)
      = truncf (F := Ideal) .bf16 (m ((c : Thread nD τ).loc main_arg6) : Vec Ideal S4096x1024 .f32) bitsLt_bf16_f32 := by
    show StableHlo.after hostOps0 _ _ = _
    after_results
  rw [e]; pointwise []

theorem in3 (c : Dev nD) (t : Fin cfg0.N) : (iblk m c 3 t : Vec Ideal S1024x1024 .bf16) = V m c main_v1 := by
  obtain ⟨e0, e1, -⟩ := idx_whole t
  refine funext fun j => congrArg (V m c main_v1) (funext fun a => Fin.ext ?_)
  match a with
  | ⟨0, _⟩ => show win0_3.index t (0 : Fin 2) * 1024 + 1 * (j 0).val = (j 0).val; omega
  | ⟨1, _⟩ => show win0_3.index t (1 : Fin 2) * 1024 + 1 * (j 1).val = (j 1).val; omega

theorem in4 (c : Dev nD) (t : Fin cfg0.N) : (iblk m c 4 t : Vec Ideal S256x1024 .bf16) = V m c main_v2 := by
  obtain ⟨-, -, e0, e1, -⟩ := idx_whole t
  refine funext fun j => congrArg (V m c main_v2) (funext fun a => Fin.ext ?_)
  match a with
  | ⟨0, _⟩ => show win0_4.index t (0 : Fin 2) * 256 + 1 * (j 0).val = (j 0).val; omega
  | ⟨1, _⟩ => show win0_4.index t (1 : Fin 2) * 1024 + 1 * (j 1).val = (j 1).val; omega

theorem in5 (c : Dev nD) (t : Fin cfg0.N) : (iblk m c 5 t : Vec Ideal S1x1024 .f32) = V m c main_v3 := by
  obtain ⟨-, -, -, -, e0, e1, -⟩ := idx_whole t
  refine funext fun j => congrArg (V m c main_v3) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem in6 (c : Dev nD) (t : Fin cfg0.N) : (iblk m c 6 t : Vec Ideal S1024x4096 .bf16) = V m c main_v4 := by
  obtain ⟨-, -, -, -, -, -, e0, e1, -⟩ := idx_whole t
  refine funext fun j => congrArg (V m c main_v4) (funext fun a => Fin.ext ?_)
  match a with
  | ⟨0, _⟩ => show win0_6.index t (0 : Fin 2) * 1024 + 1 * (j 0).val = (j 0).val; omega
  | ⟨1, _⟩ => show win0_6.index t (1 : Fin 2) * 4096 + 1 * (j 1).val = (j 1).val; omega

theorem in7 (c : Dev nD) (t : Fin cfg0.N) : (iblk m c 7 t : Vec Ideal S4096x1024 .bf16) = V m c main_v5 := by
  obtain ⟨-, -, -, -, -, -, -, -, e0, e1⟩ := idx_whole t
  refine funext fun j => congrArg (V m c main_v5) (funext fun a => Fin.ext ?_)
  match a with
  | ⟨0, _⟩ => show win0_7.index t (0 : Fin 2) * 4096 + 1 * (j 0).val = (j 0).val; omega
  | ⟨1, _⟩ => show win0_7.index t (1 : Fin 2) * 1024 + 1 * (j 1).val = (j 1).val; omega

/-! ## The result array -/

/-- The reference's function of the kernel's arguments. -/
def G (c : Dev nD) : Vec Ideal S16384x1024 .f32 :=
  val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What grid point `t` writes back is block `t` of the reference's function. -/
theorem flushed_eq (c : Dev nD) (t : Fin cfg0.N) :
    (dats m 0 c).flushed 8 t = ((cfg0.win 8).blk t).view.read (Elt Ideal) (G m c) := by
  rw [flushed8]
  funext j
  obtain ⟨-, -, -, -, -, -, e0, e1⟩ := idx_rows t
  obtain ⟨r, l, rfl⟩ : ∃ (r : Fin 512) (l : Fin 1024), j = ix2 r l := ⟨j 0, j 1, eq_ix2 j⟩
  refine (block_eq _ _ _ _ _ _ _ _ _ _ _ _ _ _ _ r (row t r) l (in0 m c t r) (in1 m c t r) (in2 m c t r)
    (fun k j => (congrFun (in3 m c t) (ix2 k j)).trans (prep1 m c k j))
    (fun k j => (congrFun (in4 m c t) (ix2 k j)).trans (prep2 m c k j))
    (fun k => (congrFun (in5 m c t) (ix2 0 k)).trans (prep3 m c k))
    (fun k f => (congrFun (in6 m c t) (ix2 k f)).trans (prep4 m c k f))
    (fun f k => (congrFun (in7 m c t) (ix2 f k)).trans (prep5 m c f k))).trans ?_
  refine congrArg (G m c) (funext fun a => Fin.ext ?_)
  match a with
  | ⟨0, _⟩ => show t.val * 512 + r.val = win0_8.index t (0 : Fin 2) * 512 + 1 * r.val; omega
  | ⟨1, _⟩ => show l.val = win0_8.index t (1 : Fin 2) * 1024 + 1 * l.val; omega

/-- Every element of the array lies in some point's block. -/
theorem covered (i : S16384x1024.Idx) : ∃ t : Fin cfg0.N, (cfg0.win 8).flush t = true ∧ i ∈ ((cfg0.win 8).blk t).view.set := by
  obtain ⟨R, l, rfl⟩ : ∃ (R : Fin 16384) (l : Fin 1024), i = ix2 R l := ⟨i 0, i 1, eq_ix2 i⟩
  have hN : R.val / 512 < cfg0.N := by have : cfg0.N = 32 := rfl; omega
  refine ⟨⟨R.val / 512, hN⟩, flush0_8 _, ?_⟩
  obtain ⟨-, -, -, -, -, -, e0, e1⟩ := idx_rows ⟨R.val / 512, hN⟩
  have e0' : win0_8.index ⟨R.val / 512, hN⟩ (0 : Fin 2) = R.val / 512 := e0
  show ix2 R l ∈ ((View.whole main_v6).slice (win0_8.rect ⟨R.val / 512, hN⟩)).set
  rw [View.set_slice_whole, Rect.mem_set_unit]
  intro a
  match a with
  | ⟨0, _⟩ => show win0_8.index ⟨R.val / 512, hN⟩ (0 : Fin 2) * 512 ≤ R.val ∧ R.val < win0_8.index ⟨R.val / 512, hN⟩ (0 : Fin 2) * 512 + 512; omega
  | ⟨1, _⟩ => show win0_8.index ⟨R.val / 512, hN⟩ (1 : Fin 2) * 1024 ≤ l.val ∧ l.val < win0_8.index ⟨R.val / 512, hN⟩ (1 : Fin 2) * 1024 + 1024; omega

/-- The kernel's result array is the reference's function of the arguments. -/
theorem final (c : Dev nD) : (dats m 0 c).arrAt 8 cfg0.N = G m c :=
  (dats m 0 c).arrAt_eq_of_cover 8 (G m c) (fun t _ => flushed_eq m c t) covered

/-- The value claim: from memories that agree on the arguments, the kernel and the reference end with the same result. -/
theorem algebraic : Cert.algebraic_MlpIdeal_MlpRefIdeal := by
  intro m g m' g' _ hm
  refine ⟨fun c => G m c, ?_, ?_⟩
  · exact (θ_run defs _ _).mono (fun r h c => ⟨(h c).1.trans (final m c), (h c).2⟩) (run_blocks m g)
  · refine (θ_run Cert.MlpRefIdeal.defs _ _).mono (fun r h c => ⟨(h c).1.trans ?_, (h c).2⟩) (Cert.MlpRefIdeal.Value.run m' g')
    rw [Cert.MlpRefIdeal.Read.val_main_v20_eq]
    obtain ⟨e0, e1, e2, e3, e4, e5, e6⟩ := hm c
    unfold G
    rw [e0, e1, e2, e3, e4, e5, e6]

end Cert.Proof.Mlp

end
-- ==== Proof.ProjValue.lean ====
/- What one grid point of the projection kernel computes, read at an index: the normalised row times the weight, stored
   in nine column pieces; then the kernel's result array is the reference's. -/
module

public import proofs.«01_k».proof.Defs
public import proofs.«01_k».proof.Proof.Gen.ProjIdeal.Value
public import proofs.«01_k».proof.Proof.Gen.ProjRefIdeal.Read
public import Idealize.ShloMosaic.Lib.Pointwise

@[expose] public section

set_option maxRecDepth 16384

noncomputable section

namespace Cert.Proof.Proj

open Cert.ProjIdeal Cert.ProjIdeal.Gen Cert.ProjIdeal.Value Idealize.ShloMosaic Idealize.ShloMosaic.TcCoe Idealize.SL.Sem
open Cert.ProjRefIdeal.Read (val_main_v12 val_main_v13)

/-- The normalised row with its gain. -/
theorem norm_apply (v0 : Vec Ideal S512x1024 .f32) (v1 : Vec Ideal S1x1024 .f32) (r : Fin 512) (l : Fin 1024) :
    k0_pay6 v0 v1 (ix2 r l)
      = v0 (ix2 r l) * Ideal.rsqrt (Ideal.div (∑ x : Fin 1024, v0 (ix2 r x) * v0 (ix2 r x))
          (Ideal.ofBits FTy.f32 0x44800000#32) + Ideal.ofBits FTy.f32 0x358637BD#32) * v1 (ix2 0 l) := by
  pointwise [k0_pay6]

/-- The rows of a block times the weight. -/
def rows (n : FVec Ideal S512x1024 .bf16) (w : Vec Ideal S1024x4352 .bf16) : Vec Ideal S512x4352 .f32 :=
  fun y => ∑ k : Fin 1024, n (ix2 (y 0) k) * w (ix2 k (y 1))

/-- The piece at columns 0 to 511. -/
theorem piece0 (v0 : Vec Ideal S512x1024 .f32) (v1 : Vec Ideal S1x1024 .f32) (x2 : Vec Ideal S1024x4352 .bf16) (x : S512x512.Idx) :
    (k0_pay7 v0 v1 (View.ld x2 (Rect.unit (s := S1024x4352) ![0, 0] S1024x512.size inb_S1024x4352_S1024x512_0_0))) x
      = rows (k0_pay6 v0 v1) x2 ((Rect.unit (s := S512x4352) ![0, 0] S512x512.size inb_S512x4352_S512x512_0_0 : Rect S512x4352).idx x) := by
  obtain ⟨r, j, rfl⟩ : ∃ (r : Fin 512) (j : Fin 512), x = ix2 r j := ⟨x 0, x 1, eq_ix2 x⟩
  have e : (Rect.unit (s := S512x4352) ![0, 0] S512x512.size inb_S512x4352_S512x512_0_0 : Rect S512x4352).idx (ix2 r j) = ix2 r ⟨0 + j.val, by omega⟩ := funext fun a => Fin.ext (by
    match a with
    | ⟨0, _⟩ => show 0 + 1 * r.val = r.val; omega
    | ⟨1, _⟩ => show 0 + 1 * j.val = 0 + j.val; omega)
  rw [e]
  unfold rows k0_pay7
  generalize k0_pay6 v0 v1 = n
  pointwise []

/-- The piece at columns 512 to 1023. -/
theorem piece1 (v0 : Vec Ideal S512x1024 .f32) (v1 : Vec Ideal S1x1024 .f32) (x2 : Vec Ideal S1024x4352 .bf16) (x : S512x512.Idx) :
    (k0_pay8 v0 v1 (View.ld x2 (Rect.unit (s := S1024x4352) ![0, 512] S1024x512.size inb_S1024x4352_S1024x512_0_512))) x
      = rows (k0_pay6 v0 v1) x2 ((Rect.unit (s := S512x4352) ![0, 512] S512x512.size inb_S512x4352_S512x512_0_512 : Rect S512x4352).idx x) := by
  obtain ⟨r, j, rfl⟩ : ∃ (r : Fin 512) (j : Fin 512), x = ix2 r j := ⟨x 0, x 1, eq_ix2 x⟩
  have e : (Rect.unit (s := S512x4352) ![0, 512] S512x512.size inb_S512x4352_S512x512_0_512 : Rect S512x4352).idx (ix2 r j) = ix2 r ⟨512 + j.val, by omega⟩ := funext fun a => Fin.ext (by
    match a with
    | ⟨0, _⟩ => show 0 + 1 * r.val = r.val; omega
    | ⟨1, _⟩ => show 512 + 1 * j.val = 512 + j.val; omega)
  rw [e]
  unfold rows k0_pay8
  generalize k0_pay6 v0 v1 = n
  pointwise []

/-- The piece at columns 1024 to 1535. -/
theorem piece2 (v0 : Vec Ideal S512x1024 .f32) (v1 : Vec Ideal S1x1024 .f32) (x2 : Vec Ideal S1024x4352 .bf16) (x : S512x512.Idx) :
    (k0_pay9 v0 v1 (View.ld x2 (Rect.unit (s := S1024x4352) ![0, 1024] S1024x512.size inb_S1024x4352_S1024x512_0_1024))) x
      = rows (k0_pay6 v0 v1) x2 ((Rect.unit (s := S512x4352) ![0, 1024] S512x512.size inb_S512x4352_S512x512_0_1024 : Rect S512x4352).idx x) := by
  obtain ⟨r, j, rfl⟩ : ∃ (r : Fin 512) (j : Fin 512), x = ix2 r j := ⟨x 0, x 1, eq_ix2 x⟩
  have e : (Rect.unit (s := S512x4352) ![0, 1024] S512x512.size inb_S512x4352_S512x512_0_1024 : Rect S512x4352).idx (ix2 r j) = ix2 r ⟨1024 + j.val, by omega⟩ := funext fun a => Fin.ext (by
    match a with
    | ⟨0, _⟩ => show 0 + 1 * r.val = r.val; omega
    | ⟨1, _⟩ => show 1024 + 1 * j.val = 1024 + j.val; omega)
  rw [e]
  unfold rows k0_pay9
  generalize k0_pay6 v0 v1 = n
  pointwise []

/-- The piece at columns 1536 to 2047. -/
theorem piece3 (v0 : Vec Ideal S512x1024 .f32) (v1 : Vec Ideal S1x1024 .f32) (x2 : Vec Ideal S1024x4352 .bf16) (x : S512x512.Idx) :
    (k0_pay10 v0 v1 (View.ld x2 (Rect.unit (s := S1024x4352) ![0, 1536] S1024x512.size inb_S1024x4352_S1024x512_0_1536))) x
      = rows (k0_pay6 v0 v1) x2 ((Rect.unit (s := S512x4352) ![0, 1536] S512x512.size inb_S512x4352_S512x512_0_1536 : Rect S512x4352).idx x) := by
  obtain ⟨r, j, rfl⟩ : ∃ (r : Fin 512) (j : Fin 512), x = ix2 r j := ⟨x 0, x 1, eq_ix2 x⟩
  have e : (Rect.unit (s := S512x4352) ![0, 1536] S512x512.size inb_S512x4352_S512x512_0_1536 : Rect S512x4352).idx (ix2 r j) = ix2 r ⟨1536 + j.val, by omega⟩ := funext fun a => Fin.ext (by
    match a with
    | ⟨0, _⟩ => show 0 + 1 * r.val = r.val; omega
    | ⟨1, _⟩ => show 1536 + 1 * j.val = 1536 + j.val; omega)
  rw [e]
  unfold rows k0_pay10
  generalize k0_pay6 v0 v1 = n
  pointwise []

/-- The piece at columns 2048 to 2559. -/
theorem piece4 (v0 : Vec Ideal S512x1024 .f32) (v1 : Vec Ideal S1x1024 .f32) (x2 : Vec Ideal S1024x4352 .bf16) (x : S512x512.Idx) :
    (k0_pay1 (k0_pay6 v0 v1) (View.ld x2 (Rect.unit (s := S1024x4352) ![0, 2048] S1024x512.size inb_S1024x4352_S1024x512_0_2048))) x
      = rows (k0_pay6 v0 v1) x2 ((Rect.unit (s := S512x4352) ![0, 2048] S512x512.size inb_S512x4352_S512x512_0_2048 : Rect S512x4352).idx x) := by
  obtain ⟨r, j, rfl⟩ : ∃ (r : Fin 512) (j : Fin 512), x = ix2 r j := ⟨x 0, x 1, eq_ix2 x⟩
  have e : (Rect.unit (s := S512x4352) ![0, 2048] S512x512.size inb_S512x4352_S512x512_0_2048 : Rect S512x4352).idx (ix2 r j) = ix2 r ⟨2048 + j.val, by omega⟩ := funext fun a => Fin.ext (by
    match a with
    | ⟨0, _⟩ => show 0 + 1 * r.val = r.val; omega
    | ⟨1, _⟩ => show 2048 + 1 * j.val = 2048 + j.val; omega)
  rw [e]
  unfold rows k0_pay1
  generalize k0_pay6 v0 v1 = n
  pointwise []

/-- The piece at columns 2560 to 3071. -/
theorem piece5 (v0 : Vec Ideal S512x1024 .f32) (v1 : Vec Ideal S1x1024 .f32) (x2 : Vec Ideal S1024x4352 .bf16) (x : S512x512.Idx) :
    (k0_pay2 (k0_pay6 v0 v1) (View.ld x2 (Rect.unit (s := S1024x4352) ![0, 2560] S1024x512.size inb_S1024x4352_S1024x512_0_2560))) x
      = rows (k0_pay6 v0 v1) x2 ((Rect.unit (s := S512x4352) ![0, 2560] S512x512.size inb_S512x4352_S512x512_0_2560 : Rect S512x4352).idx x) := by
  obtain ⟨r, j, rfl⟩ : ∃ (r : Fin 512) (j : Fin 512), x = ix2 r j := ⟨x 0, x 1, eq_ix2 x⟩
  have e : (Rect.unit (s := S512x4352) ![0, 2560] S512x512.size inb_S512x4352_S512x512_0_2560 : Rect S512x4352).idx (ix2 r j) = ix2 r ⟨2560 + j.val, by omega⟩ := funext fun a => Fin.ext (by
    match a with
    | ⟨0, _⟩ => show 0 + 1 * r.val = r.val; omega
    | ⟨1, _⟩ => show 2560 + 1 * j.val = 2560 + j.val; omega)
  rw [e]
  unfold rows k0_pay2
  generalize k0_pay6 v0 v1 = n
  pointwise []

/-- The piece at columns 3072 to 3583. -/
theorem piece6 (v0 : Vec Ideal S512x1024 .f32) (v1 : Vec Ideal S1x1024 .f32) (x2 : Vec Ideal S1024x4352 .bf16) (x : S512x512.Idx) :
    (k0_pay3 (k0_pay6 v0 v1) (View.ld x2 (Rect.unit (s := S1024x4352) ![0, 3072] S1024x512.size inb_S1024x4352_S1024x512_0_3072))) x
      = rows (k0_pay6 v0 v1) x2 ((Rect.unit (s := S512x4352) ![0, 3072] S512x512.size inb_S512x4352_S512x512_0_3072 : Rect S512x4352).idx x) := by
  obtain ⟨r, j, rfl⟩ : ∃ (r : Fin 512) (j : Fin 512), x = ix2 r j := ⟨x 0, x 1, eq_ix2 x⟩
  have e : (Rect.unit (s := S512x4352) ![0, 3072] S512x512.size inb_S512x4352_S512x512_0_3072 : Rect S512x4352).idx (ix2 r j) = ix2 r ⟨3072 + j.val, by omega⟩ := funext fun a => Fin.ext (by
    match a with
    | ⟨0, _⟩ => show 0 + 1 * r.val = r.val; omega
    | ⟨1, _⟩ => show 3072 + 1 * j.val = 3072 + j.val; omega)
  rw [e]
  unfold rows k0_pay3
  generalize k0_pay6 v0 v1 = n
  pointwise []

/-- The piece at columns 3584 to 4095. -/
theorem piece7 (v0 : Vec Ideal S512x1024 .f32) (v1 : Vec Ideal S1x1024 .f32) (x2 : Vec Ideal S1024x4352 .bf16) (x : S512x512.Idx) :
    (k0_pay4 (k0_pay6 v0 v1) (View.ld x2 (Rect.unit (s := S1024x4352) ![0, 3584] S1024x512.size inb_S1024x4352_S1024x512_0_3584))) x
      = rows (k0_pay6 v0 v1) x2 ((Rect.unit (s := S512x4352) ![0, 3584] S512x512.size inb_S512x4352_S512x512_0_3584 : Rect S512x4352).idx x) := by
  obtain ⟨r, j, rfl⟩ : ∃ (r : Fin 512) (j : Fin 512), x = ix2 r j := ⟨x 0, x 1, eq_ix2 x⟩
  have e : (Rect.unit (s := S512x4352) ![0, 3584] S512x512.size inb_S512x4352_S512x512_0_3584 : Rect S512x4352).idx (ix2 r j) = ix2 r ⟨3584 + j.val, by omega⟩ := funext fun a => Fin.ext (by
    match a with
    | ⟨0, _⟩ => show 0 + 1 * r.val = r.val; omega
    | ⟨1, _⟩ => show 3584 + 1 * j.val = 3584 + j.val; omega)
  rw [e]
  unfold rows k0_pay4
  generalize k0_pay6 v0 v1 = n
  pointwise []

/-- The piece at columns 4096 to 4351. -/
theorem piece8 (v0 : Vec Ideal S512x1024 .f32) (v1 : Vec Ideal S1x1024 .f32) (x2 : Vec Ideal S1024x4352 .bf16) (x : S512x256.Idx) :
    (k0_pay5 (k0_pay6 v0 v1) (View.ld x2 (Rect.unit (s := S1024x4352) ![0, 4096] S1024x256.size inb_S1024x4352_S1024x256_0_4096))) x
      = rows (k0_pay6 v0 v1) x2 ((Rect.unit (s := S512x4352) ![0, 4096] S512x256.size inb_S512x4352_S512x256_0_4096 : Rect S512x4352).idx x) := by
  obtain ⟨r, j, rfl⟩ : ∃ (r : Fin 512) (j : Fin 256), x = ix2 r j := ⟨x 0, x 1, eq_ix2 x⟩
  have e : (Rect.unit (s := S512x4352) ![0, 4096] S512x256.size inb_S512x4352_S512x256_0_4096 : Rect S512x4352).idx (ix2 r j) = ix2 r ⟨4096 + j.val, by omega⟩ := funext fun a => Fin.ext (by
    match a with
    | ⟨0, _⟩ => show 0 + 1 * r.val = r.val; omega
    | ⟨1, _⟩ => show 4096 + 1 * j.val = 4096 + j.val; omega)
  rw [e]
  unfold rows k0_pay5
  generalize k0_pay6 v0 v1 = n
  pointwise []

/-- What the body leaves in the output's block is the block's rows times the weight. -/
theorem out_eq (c : Dev nD) (i : grid0.Coords) (arg1 : Memref sig .tc .vmem S512x1024 .f32) (harg1 : arg1.IsWhole)
    (arg2 : Memref sig .tc .vmem S1x1024 .f32) (harg2 : arg2.IsWhole) (arg3 : Memref sig .tc .vmem S1024x4352 .bf16) (harg3 : arg3.IsWhole)
    (arg4 : Memref sig .tc .vmem S512x4352 .f32) (harg4 : arg4.IsWhole)
    (x0 : Vec Ideal S512x1024 .f32) (x1 : Vec Ideal S1x1024 .f32) (x2 : Vec Ideal S1024x4352 .bf16) :
    out0_A_3 c i arg1 harg1 arg2 harg2 arg3 harg3 arg4 harg4 x0 x1 x2 = rows (k0_pay6 x0 x1) x2 := by
  have hz : (![0, 0] : Fin 2 → Nat) = fun _ => 0 := funext fun a => by fin_cases a <;> rfl
  unfold out0_A_3
  rw [View.read_writes_junk_eq_canon]
  show View.canon ([⟨Rect.unit (s := S512x4352) ![0, 4096] S512x256.size inb_S512x4352_S512x256_0_4096, k0_pay5 (k0_pay6 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (View.readAt (Elt Ideal) arg3.view (Rect.unit (s := S1024x4352) ![0, 4096] S1024x256.size inb_S1024x4352_S1024x256_0_4096).toLoadRect (harg3.unread x2))⟩,
      ⟨Rect.unit (s := S512x4352) ![0, 3584] S512x512.size inb_S512x4352_S512x512_0_3584, k0_pay4 (k0_pay6 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (View.readAt (Elt Ideal) arg3.view (Rect.unit (s := S1024x4352) ![0, 3584] S1024x512.size inb_S1024x4352_S1024x512_0_3584).toLoadRect (harg3.unread x2))⟩,
      ⟨Rect.unit (s := S512x4352) ![0, 3072] S512x512.size inb_S512x4352_S512x512_0_3072, k0_pay3 (k0_pay6 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (View.readAt (Elt Ideal) arg3.view (Rect.unit (s := S1024x4352) ![0, 3072] S1024x512.size inb_S1024x4352_S1024x512_0_3072).toLoadRect (harg3.unread x2))⟩,
      ⟨Rect.unit (s := S512x4352) ![0, 2560] S512x512.size inb_S512x4352_S512x512_0_2560, k0_pay2 (k0_pay6 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (View.readAt (Elt Ideal) arg3.view (Rect.unit (s := S1024x4352) ![0, 2560] S1024x512.size inb_S1024x4352_S1024x512_0_2560).toLoadRect (harg3.unread x2))⟩,
      ⟨Rect.unit (s := S512x4352) ![0, 2048] S512x512.size inb_S512x4352_S512x512_0_2048, k0_pay1 (k0_pay6 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (View.readAt (Elt Ideal) arg3.view (Rect.unit (s := S1024x4352) ![0, 2048] S1024x512.size inb_S1024x4352_S1024x512_0_2048).toLoadRect (harg3.unread x2))⟩,
      ⟨Rect.unit (s := S512x4352) ![0, 1536] S512x512.size inb_S512x4352_S512x512_0_1536, k0_pay10 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (View.readAt (Elt Ideal) arg3.view (Rect.unit (s := S1024x4352) ![0, 1536] S1024x512.size inb_S1024x4352_S1024x512_0_1536).toLoadRect (harg3.unread x2))⟩,
      ⟨Rect.unit (s := S512x4352) ![0, 1024] S512x512.size inb_S512x4352_S512x512_0_1024, k0_pay9 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (View.readAt (Elt Ideal) arg3.view (Rect.unit (s := S1024x4352) ![0, 1024] S1024x512.size inb_S1024x4352_S1024x512_0_1024).toLoadRect (harg3.unread x2))⟩,
      ⟨Rect.unit (s := S512x4352) ![0, 512] S512x512.size inb_S512x4352_S512x512_0_512, k0_pay8 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (View.readAt (Elt Ideal) arg3.view (Rect.unit (s := S1024x4352) ![0, 512] S1024x512.size inb_S1024x4352_S1024x512_0_512).toLoadRect (harg3.unread x2))⟩,
      ⟨Rect.unit (s := S512x4352) ![0, 0] S512x512.size inb_S512x4352_S512x512_0_0, k0_pay7 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (View.readAt (Elt Ideal) arg3.view (Rect.unit (s := S1024x4352) ![0, 0] S1024x512.size inb_S1024x4352_S1024x512_0_0).toLoadRect (harg3.unread x2))⟩] : List (View.Piece (Elt Ideal) S512x4352 .f32)) = _
  simp only [View.readAt_eq_ld, harg1.read_unread, harg2.read_unread, harg3.read_unread]
  rw [View.ld_unit_zero (S := S512x1024) hz, View.ld_unit_zero (S := S1x1024) hz]
  funext y
  refine View.canon_apply_of_pieces (rows (k0_pay6 x0 x1) x2) _ ?_ y ?_
  · intro pc hpc
    rcases List.mem_cons.mp hpc with rfl | hpc
    · exact fun x => piece8 x0 x1 x2 x
    rcases List.mem_cons.mp hpc with rfl | hpc
    · exact fun x => piece7 x0 x1 x2 x
    rcases List.mem_cons.mp hpc with rfl | hpc
    · exact fun x => piece6 x0 x1 x2 x
    rcases List.mem_cons.mp hpc with rfl | hpc
    · exact fun x => piece5 x0 x1 x2 x
    rcases List.mem_cons.mp hpc with rfl | hpc
    · exact fun x => piece4 x0 x1 x2 x
    rcases List.mem_cons.mp hpc with rfl | hpc
    · exact fun x => piece3 x0 x1 x2 x
    rcases List.mem_cons.mp hpc with rfl | hpc
    · exact fun x => piece2 x0 x1 x2 x
    rcases List.mem_cons.mp hpc with rfl | hpc
    · exact fun x => piece1 x0 x1 x2 x
    rcases List.mem_cons.mp hpc with rfl | hpc
    · exact fun x => piece0 x0 x1 x2 x
    nomatch hpc
  · exact View.cover_of_tiledBy (s := S512x4352) _ ![512, 256] (by sl_kernel_rfl) y

section Reference

variable (a0 : Vec Ideal S16384x1024 .f32) (a1 : Vec Ideal S1024 .f32) (a2 : Vec Ideal S1024x4352 .f32)

/-- The reference's normalised row. -/
theorem ref_norm (R : Fin 16384) (l : Fin 1024) :
    val_main_v12 (F := Ideal) a0 a1 (ix2 R l)
      = a0 (ix2 R l) * Ideal.rsqrt (Ideal.div (∑ x : Fin 1024, a0 (ix2 R x) * a0 (ix2 R x))
          (Ideal.ofBits FTy.f32 0x44800000#32) + Ideal.ofBits FTy.f32 0x358637BD#32) * a1 (ix1 l) := by
  pointwise [Cert.ProjRefIdeal.Read.val_main_v12, Cert.ProjRefIdeal.Read.val_main_v9, Cert.ProjRefIdeal.Read.val_main_v8,
    Cert.ProjRefIdeal.Read.val_main_v7, Cert.ProjRefIdeal.Read.val_main_v6, Cert.ProjRefIdeal.Read.val_main_v5,
    Cert.ProjRefIdeal.Read.val_main_v4, Cert.ProjRefIdeal.Read.val_main_v3, Cert.ProjRefIdeal.Read.val_main_v2,
    Cert.ProjRefIdeal.Read.val_main_v1, Cert.ProjRefIdeal.Read.val_main_v0, Cert.ProjRefIdeal.Read.val_main_v10,
    Cert.ProjRefIdeal.Read.val_main_v11, Cert.ProjRefIdeal.Read.val_main_cst, Cert.ProjRefIdeal.Read.val_main_cst_0,
    Cert.ProjRefIdeal.Read.val_main_cst_1]

/-- The reference's projection. -/
theorem ref_out (R : Fin 16384) (l : Fin 4352) :
    val_main_v13 (F := Ideal) a0 a1 a2 (ix2 R l)
      = ∑ k : Fin 1024, val_main_v12 (F := Ideal) a0 a1 (ix2 R k) * a2 (ix2 k l) := by
  unfold Cert.ProjRefIdeal.Read.val_main_v13
  generalize val_main_v12 (F := Ideal) a0 a1 = n
  pointwise []

end Reference

variable (m : (ℓ : Loc nD τ sig) → Buf (Elt Ideal) ℓ) (ρ : Dev nD → PrngReg)

/-- Where each window's block lies at a grid point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 := (by decide +kernel : ∀ t : Fin grid0.N, _)

/-- Row `r` of block `t` is row `512 t + r` of the array. -/
def row (t : Fin cfg0.N) (r : Fin 512) : Fin 16384 := ⟨t.val * 512 + r.val, by have := t.isLt; have : cfg0.N = 32 := rfl; omega⟩

theorem in0 (c : Dev nD) (t : Fin cfg0.N) (r : Fin 512) (k : Fin 1024) :
    (iblk m c 0 t : Vec Ideal S512x1024 .f32) (ix2 r k) = (m ((c : Thread nD τ).loc main_arg0) : Vec Ideal S16384x1024 .f32) (ix2 (row t r) k) := by
  obtain ⟨e0, e1, -⟩ := idx_facts t
  rw [← V_main_arg0 m c]
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

/-- The gain as one row. -/
theorem in1 (c : Dev nD) (t : Fin cfg0.N) (k : Fin 1024) : (iblk m c 1 t : Vec Ideal S1x1024 .f32) (ix2 0 k)
    = (m ((c : Thread nD τ).loc main_arg1) : Vec Ideal S1024 .f32) (ix1 k) := by
  have e : (V m c main_v0 : Vec Ideal S1x1024 .f32) = broadcastInDim S1x1024 ![1] bcast_S1024_S1x1024_1
      (m ((c : Thread nD τ).loc main_arg1) : Vec Ideal S1024 .f32) := by
    show StableHlo.after hostOps0 _ _ = _
    after_results
  obtain ⟨-, -, e0, e1, -⟩ := idx_facts t
  refine Eq.trans (b := (V m c main_v0 : Vec Ideal S1x1024 .f32) (ix2 0 k)) (congrArg (V m c main_v0) (funext fun a => Fin.ext ?_)) ?_
  · match a with
    | ⟨0, _⟩ => show win0_1.index t (0 : Fin 2) * 1 + 1 * 0 = 0; omega
    | ⟨1, _⟩ => show win0_1.index t (1 : Fin 2) * 1024 + 1 * k.val = k.val; omega
  · rw [e]; pointwise []

/-- The weight, cast. -/
theorem in2 (c : Dev nD) (t : Fin cfg0.N) (k : Fin 1024) (l : Fin 4352) : (iblk m c 2 t : Vec Ideal S1024x4352 .bf16) (ix2 k l)
    = (m ((c : Thread nD τ).loc main_arg2) : Vec Ideal S1024x4352 .f32) (ix2 k l) := by
  have e : (V m c main_v1 : Vec Ideal S1024x4352 .bf16)
      = truncf (F := Ideal) .bf16 (m ((c : Thread nD τ).loc main_arg2) : Vec Ideal S1024x4352 .f32) bitsLt_bf16_f32 := by
    show StableHlo.after hostOps0 _ _ = _
    after_results
  obtain ⟨-, -, -, -, e0, e1, -⟩ := idx_facts t
  refine Eq.trans (b := (V m c main_v1 : Vec Ideal S1024x4352 .bf16) (ix2 k l)) (congrArg (V m c main_v1) (funext fun a => Fin.ext ?_)) ?_
  · match a with
    | ⟨0, _⟩ => show win0_2.index t (0 : Fin 2) * 1024 + 1 * k.val = k.val; omega
    | ⟨1, _⟩ => show win0_2.index t (1 : Fin 2) * 4352 + 1 * l.val = l.val; omega
  · rw [e]; pointwise []

/-- The reference's function of the kernel's arguments. -/
def G (c : Dev nD) : Vec Ideal S16384x4352 .f32 :=
  val_main_v13 (F := Ideal) (m ((c : Thread nD τ).loc main_arg0)) (m ((c : Thread nD τ).loc main_arg1)) (m ((c : Thread nD τ).loc main_arg2))

/-- What grid point `t` writes back is block `t` of the reference's function. -/
theorem flushed_eq (c : Dev nD) (t : Fin cfg0.N) :
    (dats m 0 c).flushed 3 t = ((cfg0.win 3).blk t).view.read (Elt Ideal) (G m c) := by
  rw [flushed3_A, out_eq]
  funext j
  obtain ⟨-, -, -, -, -, -, e0, e1⟩ := idx_facts t
  obtain ⟨r, l, rfl⟩ : ∃ (r : Fin 512) (l : Fin 4352), j = ix2 r l := ⟨j 0, j 1, eq_ix2 j⟩
  have h : rows (k0_pay6 (iblk m c 0 t) (iblk m c 1 t)) (iblk m c 2 t) (ix2 r l) = G m c (ix2 (row t r) l) := by
    refine Eq.trans (Finset.sum_congr rfl fun k _ => ?_) (ref_out _ _ _ (row t r) l).symm
    refine congrArg₂ (· * ·) ?_ (in2 m c t k l)
    refine (norm_apply _ _ r k).trans ?_
    refine Eq.trans ?_ (ref_norm _ _ (row t r) k).symm
    simp only [in0, in1]
  refine h.trans ?_
  refine congrArg (G m c) (funext fun a => Fin.ext ?_)
  match a with
  | ⟨0, _⟩ => show t.val * 512 + r.val = win0_3.index t (0 : Fin 2) * 512 + 1 * r.val; omega
  | ⟨1, _⟩ => show l.val = win0_3.index t (1 : Fin 2) * 4352 + 1 * l.val; omega

/-- Every element of the array lies in some point's block. -/
theorem covered (i : S16384x4352.Idx) : ∃ t : Fin cfg0.N, (cfg0.win 3).flush t = true ∧ i ∈ ((cfg0.win 3).blk t).view.set := by
  obtain ⟨R, l, rfl⟩ : ∃ (R : Fin 16384) (l : Fin 4352), i = ix2 R l := ⟨i 0, i 1, eq_ix2 i⟩
  have hN : R.val / 512 < cfg0.N := by have : cfg0.N = 32 := rfl; omega
  refine ⟨⟨R.val / 512, hN⟩, flush0_3 _, ?_⟩
  obtain ⟨-, -, -, -, -, -, e0, e1⟩ := idx_facts ⟨R.val / 512, hN⟩
  have e0' : win0_3.index ⟨R.val / 512, hN⟩ (0 : Fin 2) = R.val / 512 := e0
  show ix2 R l ∈ ((View.whole main_v2).slice (win0_3.rect ⟨R.val / 512, hN⟩)).set
  rw [View.set_slice_whole, Rect.mem_set_unit]
  intro a
  match a with
  | ⟨0, _⟩ => show win0_3.index ⟨R.val / 512, hN⟩ (0 : Fin 2) * 512 ≤ R.val ∧ R.val < win0_3.index ⟨R.val / 512, hN⟩ (0 : Fin 2) * 512 + 512; omega
  | ⟨1, _⟩ => show win0_3.index ⟨R.val / 512, hN⟩ (1 : Fin 2) * 4352 ≤ l.val ∧ l.val < win0_3.index ⟨R.val / 512, hN⟩ (1 : Fin 2) * 4352 + 4352; omega

/-- The kernel's result array is the reference's function of the arguments. -/
theorem final (c : Dev nD) : (dats m 0 c).arrAt 3 cfg0.N = G m c :=
  (dats m 0 c).arrAt_eq_of_cover 3 (G m c) (fun t _ => flushed_eq m c t) covered

/-- The value claim: from memories that agree on the arguments, the kernel and the reference end with the same result. -/
theorem algebraic : Cert.algebraic_ProjIdeal_ProjRefIdeal := by
  intro m g m' g' _ hm
  refine ⟨fun c => G m c, ?_, ?_⟩
  · exact (θ_run defs _ _).mono (fun r h c => ⟨(h c).1.trans (final m c), (h c).2⟩) (run_blocks m g)
  · refine (θ_run Cert.ProjRefIdeal.defs _ _).mono (fun r h c => ⟨(h c).1.trans ?_, (h c).2⟩) (Cert.ProjRefIdeal.Value.run m' g')
    rw [Cert.ProjRefIdeal.Read.val_main_v13_eq]
    obtain ⟨e0, e1, e2⟩ := hm c
    unfold G
    rw [e0, e1, e2]

end Cert.Proof.Proj

end
-- ==== Proof.MemKvRef.lean ====
/- The reference's memory keys and values, read at an index: each layer's normalised memory rows times its weight, the
   keys normalised head by head, the four layers stacked, channels before memory rows. -/
module

public import proofs.«01_k».proof.Defs
public import proofs.«01_k».proof.Proof.Gen.MemKvRefIdeal.Read
public import Idealize.ShloMosaic.Lib.Pointwise

@[expose] public section

set_option maxRecDepth 16384

noncomputable section

namespace Cert.Proof.MemKv

open Cert.MemKvRefIdeal Cert.MemKvRefIdeal.Gen Cert.MemKvRefIdeal.Read Idealize.ShloMosaic Idealize.ShloMosaic.TcCoe

/-- A memory row normalised, with the layer's gain, as the reference writes it. -/
def normOf (a0 : Vec Ideal S8x256x1024 .f32) (g : Vec Ideal S1024 .f32) : Vec Ideal S8x256x1024 .f32 :=
  mulf (F := Ideal) (φ := .f32) (mulf (F := Ideal) (φ := .f32) a0 (broadcastInDim S8x256x1024 ![0, 1, 2] bcast_S8x256x1_S8x256x1024_0_1_2 (val_main_v9 (F := Ideal) a0)))
    (broadcastInDim S8x256x1024 ![0, 1, 2] bcast_S1x1x1024_S8x256x1024_0_1_2 (broadcastInDim S1x1x1024 ![2] bcast_S1024_S1x1x1024_2 g))

/-- One layer's projection of the memory. -/
def prodOf (a0 : Vec Ideal S8x256x1024 .f32) (g : Vec Ideal S1024 .f32) (w : Vec Ideal S1024x512 .f32) : Vec Ideal S8x256x512 .f32 :=
  Host.dotGeneral (F := Ideal) (φ₁ := .f32) (φ₂ := .f32) dot_S8x256x1024_S1024x512_S8x256x512_2_0_01_1_n_n none (normOf a0 g) w

/-- One layer's keys before the normalisation, split into heads. -/
def headsOf (p : Vec Ideal S8x256x512 .f32) : Vec Ideal S8x256x4x64 .f32 :=
  shapeCast _ (extractStridedSlice S8x256x256 ![0, 0, 0] p slices_S8x256x512_S8x256x256_0_0_0) shapeCasts_S8x256x256_S8x256x4x64

/-- One layer's values. -/
def valuesOf (p : Vec Ideal S8x256x512 .f32) : Vec Ideal S8x256x4x64 .f32 :=
  shapeCast _ (extractStridedSlice S8x256x256 ![0, 0, 256] p slices_S8x256x512_S8x256x256_0_0_256) shapeCasts_S8x256x256_S8x256x4x64

/-- Keys normalised over a head's channels, with the gain. -/
def normKeys (y : Vec Ideal S8x256x4x64 .f32) (g : Vec Ideal S64 .f32) : Vec Ideal S8x256x4x64 .f32 :=
  mulf (F := Ideal) (φ := .f32) (mulf (F := Ideal) (φ := .f32) y (broadcastInDim S8x256x4x64 ![0, 1, 2, 3] bcast_S8x256x4x1_S8x256x4x64_0_1_2_3
      (Host.rsqrt (F := Ideal) (φ := .f32) (addf (F := Ideal) (φ := .f32) (Host.divf (F := Ideal) (φ := .f32) (broadcastInDim S8x256x4x1 ![0, 1, 2] bcast_S8x256x4_S8x256x4x1_0_1_2
          (Host.reduceAdd (F := Ideal) (mulf (F := Ideal) (φ := .f32) y y) (constant (F := Ideal) S_ .f32 0x00000000#32) reducesTo_S8x256x4x64_S8x256x4_d3 h_S_))
        (broadcastInDim S8x256x4x1 ![] bcast_S_S8x256x4x1 (constant (F := Ideal) S_ .f32 0x42800000#32)))
        (broadcastInDim S8x256x4x1 ![] bcast_S_S8x256x4x1 (constant (F := Ideal) S_ .f32 0x358637BD#32))))))
    (broadcastInDim S8x256x4x64 ![0, 1, 2, 3] bcast_S1x1x1x64_S8x256x4x64_0_1_2_3 (broadcastInDim S1x1x1x64 ![3] bcast_S64_S1x1x1x64_3 g))

/-! ## Every layer is an instance of these -/

section Layers

variable (a0 : Vec Ideal S8x256x1024 .f32) (a1 : Vec Ideal S4x1024 .f32) (a2 : Vec Ideal S4x1024x512 .f32) (a3 : Vec Ideal S4x64 .f32)

theorem prod_0 : val_main_v17 (F := Ideal) a0 a1 a2 = prodOf a0 (val_main_v1 (F := Ideal) a1) (val_main_v16 (F := Ideal) a2) := rfl
theorem prod_1 : val_main_v54 (F := Ideal) a0 a1 a2 = prodOf a0 (val_main_v38 (F := Ideal) a1) (val_main_v53 (F := Ideal) a2) := rfl
theorem prod_2 : val_main_v91 (F := Ideal) a0 a1 a2 = prodOf a0 (val_main_v75 (F := Ideal) a1) (val_main_v90 (F := Ideal) a2) := rfl
theorem prod_3 : val_main_v128 (F := Ideal) a0 a1 a2 = prodOf a0 (val_main_v112 (F := Ideal) a1) (val_main_v127 (F := Ideal) a2) := rfl

theorem keys_0 : val_main_v35 (F := Ideal) a0 a1 a2 a3 = normKeys (headsOf (val_main_v17 (F := Ideal) a0 a1 a2)) (val_main_v22 (F := Ideal) a3) := rfl
theorem keys_1 : val_main_v72 (F := Ideal) a0 a1 a2 a3 = normKeys (headsOf (val_main_v54 (F := Ideal) a0 a1 a2)) (val_main_v59 (F := Ideal) a3) := rfl
theorem keys_2 : val_main_v109 (F := Ideal) a0 a1 a2 a3 = normKeys (headsOf (val_main_v91 (F := Ideal) a0 a1 a2)) (val_main_v96 (F := Ideal) a3) := rfl
theorem keys_3 : val_main_v146 (F := Ideal) a0 a1 a2 a3 = normKeys (headsOf (val_main_v128 (F := Ideal) a0 a1 a2)) (val_main_v133 (F := Ideal) a3) := rfl

end Layers

/-! ## Read at an index -/

theorem rsqrt_apply (a0 : Vec Ideal S8x256x1024 .f32) (b : Fin 8) (n : Fin 256) :
    val_main_v9 (F := Ideal) a0 (ix3 b n 0)
      = Ideal.rsqrt (Ideal.div (∑ x : Fin 1024, a0 (ix3 b n x) * a0 (ix3 b n x)) (Ideal.ofBits FTy.f32 0x44800000#32)
          + Ideal.ofBits FTy.f32 0x358637BD#32) := by
  pointwise [val_main_v9, val_main_v8, val_main_v7, val_main_v6, val_main_v5, val_main_v4, val_main_v3, val_main_v2, val_main_cst,
    val_main_cst_0, val_main_cst_1]

theorem normOf_apply (a0 : Vec Ideal S8x256x1024 .f32) (g : Vec Ideal S1024 .f32) (b : Fin 8) (n : Fin 256) (j : Fin 1024) :
    normOf a0 g (ix3 b n j)
      = a0 (ix3 b n j) * Ideal.rsqrt (Ideal.div (∑ x : Fin 1024, a0 (ix3 b n x) * a0 (ix3 b n x)) (Ideal.ofBits FTy.f32 0x44800000#32)
          + Ideal.ofBits FTy.f32 0x358637BD#32) * g (ix1 j) := by
  rw [← rsqrt_apply a0 b n]
  unfold normOf
  generalize val_main_v9 (F := Ideal) a0 = s
  pointwise []

theorem prodOf_apply (a0 : Vec Ideal S8x256x1024 .f32) (g : Vec Ideal S1024 .f32) (w : Vec Ideal S1024x512 .f32)
    (b : Fin 8) (n : Fin 256) (c : Fin 512) :
    prodOf a0 g w (ix3 b n c) = ∑ j : Fin 1024, normOf a0 g (ix3 b n j) * w (ix2 j c) := by
  unfold prodOf
  generalize normOf a0 g = x
  pointwise []

theorem normKeys_apply (y : Vec Ideal S8x256x4x64 .f32) (g : Vec Ideal S64 .f32) (b : Fin 8) (n : Fin 256) (h : Fin 4) (d : Fin 64) :
    normKeys y g (ix4 b n h d)
      = y (ix4 b n h d) * Ideal.rsqrt (Ideal.div (∑ e : Fin 64, y (ix4 b n h e) * y (ix4 b n h e)) (Ideal.ofBits FTy.f32 0x42800000#32)
          + Ideal.ofBits FTy.f32 0x358637BD#32) * g (ix1 d) := by
  pointwise [normKeys]

theorem headsOf_apply (p : Vec Ideal S8x256x512 .f32) (b : Fin 8) (n : Fin 256) (h : Fin 4) (d : Fin 64) :
    headsOf p (ix4 b n h d) = p (ix3 b n ⟨h.val * 64 + d.val, by omega⟩) := by
  unfold headsOf
  refine (shapeCast_apply _ shapeCasts_S8x256x256_S8x256x4x64 (ix4 b n h d) (ix3 b n ⟨h.val * 64 + d.val, by omega⟩) ?_).trans ?_
  · rw [Shape.rowMajor_val_three, Shape.rowMajor_val_four]
    show (b.val * 256 + n.val) * 256 + (h.val * 64 + d.val) = ((b.val * 256 + n.val) * 4 + h.val) * 64 + d.val
    omega
  · pointwise []

theorem valuesOf_apply (p : Vec Ideal S8x256x512 .f32) (b : Fin 8) (n : Fin 256) (h : Fin 4) (d : Fin 64) :
    valuesOf p (ix4 b n h d) = p (ix3 b n ⟨256 + (h.val * 64 + d.val), by omega⟩) := by
  unfold valuesOf
  refine (shapeCast_apply _ shapeCasts_S8x256x256_S8x256x4x64 (ix4 b n h d) (ix3 b n ⟨h.val * 64 + d.val, by omega⟩) ?_).trans ?_
  · rw [Shape.rowMajor_val_three, Shape.rowMajor_val_four]
    show (b.val * 256 + n.val) * 256 + (h.val * 64 + d.val) = ((b.val * 256 + n.val) * 4 + h.val) * 64 + d.val
    omega
  · pointwise []

/-! ## The projection and the two results, as functions of the arguments' elements -/

/-- One element of a layer's projection of one memory row: channel `c`. -/
def prodAt (x : Fin 1024 → EReal) (g : Fin 1024 → EReal) (w : Fin 1024 → EReal) : EReal :=
  ∑ j : Fin 1024, x j * Ideal.rsqrt (Ideal.div (∑ k : Fin 1024, x k * x k) (Ideal.ofBits FTy.f32 0x44800000#32)
    + Ideal.ofBits FTy.f32 0x358637BD#32) * g j * w j

/-- A head's channel, normalised over the head. -/
def keyAt (p : Fin 64 → EReal) (g : EReal) (d : Fin 64) : EReal :=
  p d * Ideal.rsqrt (Ideal.div (∑ e : Fin 64, p e * p e) (Ideal.ofBits FTy.f32 0x42800000#32)
    + Ideal.ofBits FTy.f32 0x358637BD#32) * g

section Layers

variable (a0 : Vec Ideal S8x256x1024 .f32) (a1 : Vec Ideal S4x1024 .f32) (a2 : Vec Ideal S4x1024x512 .f32) (a3 : Vec Ideal S4x64 .f32)

/-- Layer `l`'s projection of memory row `n` of batch `b`, channel `c`. -/
def projAt (l : Fin 4) (b : Fin 8) (n : Fin 256) (c : Fin 512) : EReal :=
  prodAt (fun j => a0 (ix3 b n j)) (fun j => a1 (ix2 l j)) (fun j => a2 (ix3 l j c))

theorem prodOf_of (l : Fin 4) (g : Vec Ideal S1024 .f32) (w : Vec Ideal S1024x512 .f32) (hg : ∀ j : Fin 1024, g (ix1 j) = a1 (ix2 l j))
    (hw : ∀ (j : Fin 1024) (c : Fin 512), w (ix2 j c) = a2 (ix3 l j c)) (b : Fin 8) (n : Fin 256) (c : Fin 512) :
    prodOf a0 g w (ix3 b n c) = projAt a0 a1 a2 l b n c := by
  rw [prodOf_apply]
  unfold projAt prodAt
  refine Finset.sum_congr rfl fun j _ => ?_
  rw [normOf_apply, hg, hw]

theorem gain_0 (j : Fin 1024) : val_main_v1 (F := Ideal) a1 (ix1 j) = a1 (ix2 0 j) := by pointwise [val_main_v1, val_main_v0]
theorem gain_1 (j : Fin 1024) : val_main_v38 (F := Ideal) a1 (ix1 j) = a1 (ix2 1 j) := by pointwise [val_main_v38, val_main_v37]
theorem gain_2 (j : Fin 1024) : val_main_v75 (F := Ideal) a1 (ix1 j) = a1 (ix2 2 j) := by pointwise [val_main_v75, val_main_v74]
theorem gain_3 (j : Fin 1024) : val_main_v112 (F := Ideal) a1 (ix1 j) = a1 (ix2 3 j) := by pointwise [val_main_v112, val_main_v111]

theorem weight_0 (j : Fin 1024) (c : Fin 512) : val_main_v16 (F := Ideal) a2 (ix2 j c) = a2 (ix3 0 j c) := by pointwise [val_main_v16, val_main_v15]
theorem weight_1 (j : Fin 1024) (c : Fin 512) : val_main_v53 (F := Ideal) a2 (ix2 j c) = a2 (ix3 1 j c) := by pointwise [val_main_v53, val_main_v52]
theorem weight_2 (j : Fin 1024) (c : Fin 512) : val_main_v90 (F := Ideal) a2 (ix2 j c) = a2 (ix3 2 j c) := by pointwise [val_main_v90, val_main_v89]
theorem weight_3 (j : Fin 1024) (c : Fin 512) : val_main_v127 (F := Ideal) a2 (ix2 j c) = a2 (ix3 3 j c) := by pointwise [val_main_v127, val_main_v126]

theorem keyGain_0 (d : Fin 64) : val_main_v22 (F := Ideal) a3 (ix1 d) = a3 (ix2 0 d) := by pointwise [val_main_v22, val_main_v21]
theorem keyGain_1 (d : Fin 64) : val_main_v59 (F := Ideal) a3 (ix1 d) = a3 (ix2 1 d) := by pointwise [val_main_v59, val_main_v58]
theorem keyGain_2 (d : Fin 64) : val_main_v96 (F := Ideal) a3 (ix1 d) = a3 (ix2 2 d) := by pointwise [val_main_v96, val_main_v95]
theorem keyGain_3 (d : Fin 64) : val_main_v133 (F := Ideal) a3 (ix1 d) = a3 (ix2 3 d) := by pointwise [val_main_v133, val_main_v132]

theorem keys_of (l : Fin 4) (p : Vec Ideal S8x256x512 .f32) (g : Vec Ideal S64 .f32)
    (hp : ∀ (b : Fin 8) (n : Fin 256) (c : Fin 512), p (ix3 b n c) = projAt a0 a1 a2 l b n c) (hg : ∀ d : Fin 64, g (ix1 d) = a3 (ix2 l d))
    (b : Fin 8) (n : Fin 256) (h : Fin 4) (d : Fin 64) :
    normKeys (headsOf p) g (ix4 b n h d)
      = keyAt (fun e => projAt a0 a1 a2 l b n ⟨h.val * 64 + e.val, by omega⟩) (a3 (ix2 l d)) d := by
  rw [normKeys_apply]
  simp only [headsOf_apply, hp, hg]
  rfl

theorem values_of (l : Fin 4) (p : Vec Ideal S8x256x512 .f32)
    (hp : ∀ (b : Fin 8) (n : Fin 256) (c : Fin 512), p (ix3 b n c) = projAt a0 a1 a2 l b n c)
    (b : Fin 8) (n : Fin 256) (h : Fin 4) (d : Fin 64) :
    valuesOf p (ix4 b n h d) = projAt a0 a1 a2 l b n ⟨256 + (h.val * 64 + d.val), by omega⟩ := by
  rw [valuesOf_apply, hp]

/-- A stack of four layers at layer `l`. -/
theorem stack_apply (y0 y1 y2 y3 : Vec Ideal S8x256x4x64 .f32) (f : Fin 4 → EReal)
    (b : Fin 8) (n : Fin 256) (h : Fin 4) (d : Fin 64)
    (e0 : y0 (ix4 b n h d) = f 0) (e1 : y1 (ix4 b n h d) = f 1) (e2 : y2 (ix4 b n h d) = f 2) (e3 : y3 (ix4 b n h d) = f 3) (l : Fin 4) :
    concatenate S4x8x256x4x64 0
      [⟨S1x8x256x4x64, broadcastInDim S1x8x256x4x64 ![1, 2, 3, 4] bcast_S8x256x4x64_S1x8x256x4x64_1_2_3_4 y0⟩,
        ⟨S1x8x256x4x64, broadcastInDim S1x8x256x4x64 ![1, 2, 3, 4] bcast_S8x256x4x64_S1x8x256x4x64_1_2_3_4 y1⟩,
        ⟨S1x8x256x4x64, broadcastInDim S1x8x256x4x64 ![1, 2, 3, 4] bcast_S8x256x4x64_S1x8x256x4x64_1_2_3_4 y2⟩,
        ⟨S1x8x256x4x64, broadcastInDim S1x8x256x4x64 ![1, 2, 3, 4] bcast_S8x256x4x64_S1x8x256x4x64_1_2_3_4 y3⟩]
      concatenates_S1x8x256x4x64_S1x8x256x4x64_S1x8x256x4x64_S1x8x256x4x64_S4x8x256x4x64_d0 (ix5 l b n h d) = f l := by
  have hb : ∀ y : Vec Ideal S8x256x4x64 .f32,
      broadcastInDim S1x8x256x4x64 ![1, 2, 3, 4] bcast_S8x256x4x64_S1x8x256x4x64_1_2_3_4 y (ix5 0 b n h d) = y (ix4 b n h d) := fun y =>
    broadcastInDim_apply _ bcast_S8x256x4x64_S1x8x256x4x64_1_2_3_4 y (ix5 0 b n h d) (ix4 b n h d) (fun a => match a with
      | ⟨0, _⟩ => by show b.val = if (8 : Nat) = 1 then 0 else b.val; rw [if_neg (by decide)]
      | ⟨1, _⟩ => by show n.val = if (256 : Nat) = 1 then 0 else n.val; rw [if_neg (by decide)]
      | ⟨2, _⟩ => by show h.val = if (4 : Nat) = 1 then 0 else h.val; rw [if_neg (by decide)]
      | ⟨3, _⟩ => by show d.val = if (64 : Nat) = 1 then 0 else d.val; rw [if_neg (by decide)])
  match l with
  | ⟨0, _⟩ =>
    refine Eq.trans (concatenate_apply_piece (t := S4x8x256x4x64) 0 _ _ _ 0 (by simp) S1x8x256x4x64 _ rfl rfl 0 rfl (ix5 0 b n h d) (fun a ha => ?_) rfl) ((hb y0).trans e0)
    match a with
    | ⟨0, _⟩ => exact absurd rfl ha
    | ⟨1, _⟩ => rfl
    | ⟨2, _⟩ => rfl
    | ⟨3, _⟩ => rfl
    | ⟨4, _⟩ => rfl
  | ⟨1, _⟩ =>
    refine Eq.trans (concatenate_apply_piece (t := S4x8x256x4x64) 0 _ _ _ 1 (by simp) S1x8x256x4x64 _ rfl rfl 1 rfl (ix5 0 b n h d) (fun a ha => ?_) rfl) ((hb y1).trans e1)
    match a with
    | ⟨0, _⟩ => exact absurd rfl ha
    | ⟨1, _⟩ => rfl
    | ⟨2, _⟩ => rfl
    | ⟨3, _⟩ => rfl
    | ⟨4, _⟩ => rfl
  | ⟨2, _⟩ =>
    refine Eq.trans (concatenate_apply_piece (t := S4x8x256x4x64) 0 _ _ _ 2 (by simp) S1x8x256x4x64 _ rfl rfl 2 rfl (ix5 0 b n h d) (fun a ha => ?_) rfl) ((hb y2).trans e2)
    match a with
    | ⟨0, _⟩ => exact absurd rfl ha
    | ⟨1, _⟩ => rfl
    | ⟨2, _⟩ => rfl
    | ⟨3, _⟩ => rfl
    | ⟨4, _⟩ => rfl
  | ⟨3, _⟩ =>
    refine Eq.trans (concatenate_apply_piece (t := S4x8x256x4x64) 0 _ _ _ 3 (by simp) S1x8x256x4x64 _ rfl rfl 3 rfl (ix5 0 b n h d) (fun a ha => ?_) rfl) ((hb y3).trans e3)
    match a with
    | ⟨0, _⟩ => exact absurd rfl ha
    | ⟨1, _⟩ => rfl
    | ⟨2, _⟩ => rfl
    | ⟨3, _⟩ => rfl
    | ⟨4, _⟩ => rfl

theorem proj_0 (b : Fin 8) (n : Fin 256) (c : Fin 512) : val_main_v17 (F := Ideal) a0 a1 a2 (ix3 b n c) = projAt a0 a1 a2 0 b n c := by
  rw [prod_0]; exact prodOf_of a0 a1 a2 0 _ _ (gain_0 a1) (weight_0 a2) b n c
theorem proj_1 (b : Fin 8) (n : Fin 256) (c : Fin 512) : val_main_v54 (F := Ideal) a0 a1 a2 (ix3 b n c) = projAt a0 a1 a2 1 b n c := by
  rw [prod_1]; exact prodOf_of a0 a1 a2 1 _ _ (gain_1 a1) (weight_1 a2) b n c
theorem proj_2 (b : Fin 8) (n : Fin 256) (c : Fin 512) : val_main_v91 (F := Ideal) a0 a1 a2 (ix3 b n c) = projAt a0 a1 a2 2 b n c := by
  rw [prod_2]; exact prodOf_of a0 a1 a2 2 _ _ (gain_2 a1) (weight_2 a2) b n c
theorem proj_3 (b : Fin 8) (n : Fin 256) (c : Fin 512) : val_main_v128 (F := Ideal) a0 a1 a2 (ix3 b n c) = projAt a0 a1 a2 3 b n c := by
  rw [prod_3]; exact prodOf_of a0 a1 a2 3 _ _ (gain_3 a1) (weight_3 a2) b n c

/-- Row `r` of a result's channels is channel `r % 64` of head `r / 64`. -/
theorem idx_154 (l : Fin 4) (b : Fin 8) (r n : Fin 256) :
    idx_main_v153 (idx_main_v154 (ix4 l b r n)) = ix5 l b n (⟨r.val / 64, by omega⟩ : Fin 4) (⟨r.val % 64, by omega⟩ : Fin 64) :=
  funext fun a => Fin.ext (by
    match a with
    | ⟨0, _⟩ => show (((l.val * 8 + b.val) * 256 + r.val) * 256 + n.val) / 524288 = l.val; omega
    | ⟨1, _⟩ => show (((l.val * 8 + b.val) * 256 + r.val) * 256 + n.val) / 65536 % 8 = b.val; omega
    | ⟨2, _⟩ => show (((l.val * 8 + b.val) * 256 + r.val) * 256 + n.val) % 256 = n.val; omega
    | ⟨3, _⟩ => show (((l.val * 8 + b.val) * 256 + r.val) * 256 + n.val) / 16384 % 4 = r.val / 64; omega
    | ⟨4, _⟩ => show (((l.val * 8 + b.val) * 256 + r.val) * 256 + n.val) / 256 % 64 = r.val % 64; omega)

/-- The reference's keys. -/
theorem ref_keys (l : Fin 4) (b : Fin 8) (r n : Fin 256) :
    val_main_v154 (F := Ideal) a0 a1 a2 a3 (ix4 l b r n)
      = keyAt (fun e => projAt a0 a1 a2 l b n ⟨r.val / 64 * 64 + e.val, by omega⟩) (a3 (ix2 l ⟨r.val % 64, by omega⟩)) ⟨r.val % 64, by omega⟩ := by
  rw [val_main_v154_apply, val_main_v153_apply, idx_154]
  exact stack_apply (val_main_v35 (F := Ideal) a0 a1 a2 a3) (val_main_v72 (F := Ideal) a0 a1 a2 a3) (val_main_v109 (F := Ideal) a0 a1 a2 a3)
    (val_main_v146 (F := Ideal) a0 a1 a2 a3)
    (fun l => keyAt (fun e => projAt a0 a1 a2 l b n ⟨r.val / 64 * 64 + e.val, by omega⟩) (a3 (ix2 l ⟨r.val % 64, by omega⟩)) ⟨r.val % 64, by omega⟩)
    b n ⟨r.val / 64, by omega⟩ ⟨r.val % 64, by omega⟩
    (by rw [keys_0]; exact keys_of a0 a1 a2 a3 0 _ _ (proj_0 a0 a1 a2) (keyGain_0 a3) b n _ _)
    (by rw [keys_1]; exact keys_of a0 a1 a2 a3 1 _ _ (proj_1 a0 a1 a2) (keyGain_1 a3) b n _ _)
    (by rw [keys_2]; exact keys_of a0 a1 a2 a3 2 _ _ (proj_2 a0 a1 a2) (keyGain_2 a3) b n _ _)
    (by rw [keys_3]; exact keys_of a0 a1 a2 a3 3 _ _ (proj_3 a0 a1 a2) (keyGain_3 a3) b n _ _) l

/-- The reference's values. -/
theorem ref_values (l : Fin 4) (b : Fin 8) (r n : Fin 256) :
    val_main_v161 (F := Ideal) a0 a1 a2 (ix4 l b r n) = projAt a0 a1 a2 l b n ⟨256 + r.val, by omega⟩ := by
  have er : (⟨256 + r.val, by omega⟩ : Fin 512) = ⟨256 + (r.val / 64 * 64 + r.val % 64), by omega⟩ := Fin.ext (by show 256 + r.val = 256 + (r.val / 64 * 64 + r.val % 64); omega)
  rw [val_main_v161_apply, val_main_v160_apply, er]
  refine Eq.trans (congrArg (val_main_v159 (F := Ideal) a0 a1 a2) (idx_154 l b r n)) ?_
  exact stack_apply (val_main_v36 (F := Ideal) a0 a1 a2) (val_main_v73 (F := Ideal) a0 a1 a2) (val_main_v110 (F := Ideal) a0 a1 a2)
    (val_main_v147 (F := Ideal) a0 a1 a2)
    (fun l => projAt a0 a1 a2 l b n ⟨256 + (r.val / 64 * 64 + r.val % 64), by omega⟩)
    b n ⟨r.val / 64, by omega⟩ ⟨r.val % 64, by omega⟩
    (values_of a0 a1 a2 0 _ (proj_0 a0 a1 a2) b n _ _)
    (values_of a0 a1 a2 1 _ (proj_1 a0 a1 a2) b n _ _)
    (values_of a0 a1 a2 2 _ (proj_2 a0 a1 a2) b n _ _)
    (values_of a0 a1 a2 3 _ (proj_3 a0 a1 a2) b n _ _) l

end Layers

end Cert.Proof.MemKv

end
-- ==== Proof.MemKvValue.lean ====
/- The memory kernel's two results are the reference's: a grid point projects one batch's memory through one layer's
   weight, normalises the keys head by head and stores keys and values, channels before memory rows. -/
module

public import proofs.«01_k».proof.Defs
public import proofs.«01_k».proof.Proof.Gen.MemKvIdeal.Value
public import proofs.«01_k».proof.Proof.Gen.MemKvRefIdeal.Read
public import proofs.«01_k».proof.Proof.Gen.MemKvRefIdeal.Run
public import proofs.«01_k».proof.Proof.MemKvRef
public import Idealize.ShloMosaic.Lib.Pointwise

@[expose] public section

set_option maxRecDepth 16384

noncomputable section

namespace Cert.Proof.MemKv

open Cert.MemKvIdeal Cert.MemKvIdeal.Gen Cert.MemKvIdeal.Value Idealize.ShloMosaic Idealize.ShloMosaic.TcCoe Idealize.SL.Sem
open Cert.MemKvRefIdeal.Read (val_main_v154 val_main_v161)

/-- An index whose first two axes have extent 1. -/
theorem eq_unit {n2 n3 : Nat} (x : (⟨4, ![1, 1, n2, n3]⟩ : Shape).Idx) : x = ix4 0 0 (x 2) (x 3) := by
  have h0 : x 0 = (0 : Fin 1) := Fin.ext (by have h : (x 0).val < 1 := (x 0).isLt; show (x 0).val = 0; omega)
  have h1 : x 1 = (0 : Fin 1) := Fin.ext (by have h : (x 1).val < 1 := (x 1).isLt; show (x 1).val = 0; omega)
  refine (eq_ix4 x).trans ?_
  rw [h0, h1]
  rfl

/-! ## One grid point -/

/-- The projection: channel `c` of memory row `n`. -/
theorem pay3_apply (v0 : Vec Ideal S1x256x1024 .f32) (v2 : Vec Ideal S1x1x1024 .f32) (v17 : Vec Ideal S1x512x1024 .bf16)
    (c : Fin 512) (n : Fin 256) :
    k0_pay3 v0 v2 v17 (ix2 c n)
      = prodAt (fun j => v0 (ix3 0 n j)) (fun j => v2 (ix3 0 0 j)) (fun j => v17 (ix3 0 c j)) := by
  have h : k0_pay3 v0 v2 v17 (ix2 c n) = ∑ j : Fin 1024, v17 (ix3 0 c j) * (v0 (ix3 0 n j)
      * Ideal.rsqrt (Ideal.div (∑ k : Fin 1024, v0 (ix3 0 n k) * v0 (ix3 0 n k)) (Ideal.ofBits FTy.f32 0x44800000#32)
        + Ideal.ofBits FTy.f32 0x358637BD#32) * v2 (ix3 0 0 j)) := by
    pointwise [k0_pay3]
  rw [h]
  exact Finset.sum_congr rfl fun j _ => mul_comm _ _

/-- The keys' block from the projection and the gain column. -/
def keyBlock (p : FVec Ideal S512x256 .f32) (g : FVec Ideal S64x1 .f32) : Vec Ideal S1x1x256x256 .f32 := fun y =>
  keyAt (fun e => p (ix2 (⟨(y 2).val / 64 * 64 + e.val, by have h : (y 2).val < 256 := (y 2).isLt; omega⟩ : Fin 512) (y 3)))
    (g (ix2 (⟨(y 2).val % 64, by omega⟩ : Fin 64) 0)) (⟨(y 2).val % 64, by omega⟩ : Fin 64)

/-- The values' block from the projection. -/
def valueBlock (p : FVec Ideal S512x256 .f32) : Vec Ideal S1x1x256x256 .f32 := fun y =>
  p (ix2 (⟨256 + (y 2).val, by have h : (y 2).val < 256 := (y 2).isLt; omega⟩ : Fin 512) (y 3))

/-- Head `h`'s channel of the keys' block. -/
theorem keyBlock_apply (p : FVec Ideal S512x256 .f32) (g : FVec Ideal S64x1 .f32) (h : Fin 4) (d : Fin 64) (n : Fin 256) :
    keyBlock p g (ix4 0 0 ⟨h.val * 64 + d.val, by omega⟩ n)
      = p (ix2 (⟨h.val * 64 + d.val, by omega⟩ : Fin 512) n)
        * Ideal.rsqrt (Ideal.div (∑ e : Fin 64, p (ix2 (⟨h.val * 64 + e.val, by omega⟩ : Fin 512) n) * p (ix2 (⟨h.val * 64 + e.val, by omega⟩ : Fin 512) n))
            (Ideal.ofBits FTy.f32 0x42800000#32) + Ideal.ofBits FTy.f32 0x358637BD#32) * g (ix2 d 0) := by
  have e1 : ∀ e : Fin 64, (⟨(h.val * 64 + d.val) / 64 * 64 + e.val, by omega⟩ : Fin 512) = ⟨h.val * 64 + e.val, by omega⟩ := fun e =>
    Fin.ext (by show (h.val * 64 + d.val) / 64 * 64 + e.val = h.val * 64 + e.val; omega)
  have e2 : (⟨(h.val * 64 + d.val) % 64, by omega⟩ : Fin 64) = d := Fin.ext (by show (h.val * 64 + d.val) % 64 = d.val; omega)
  show keyAt (fun e => p (ix2 (⟨(h.val * 64 + d.val) / 64 * 64 + e.val, by omega⟩ : Fin 512) n))
    (g (ix2 (⟨(h.val * 64 + d.val) % 64, by omega⟩ : Fin 64) 0)) (⟨(h.val * 64 + d.val) % 64, by omega⟩ : Fin 64) = _
  simp only [e1, e2]
  rfl

theorem piece_0 (x0 : Vec Ideal S1x256x1024 .f32) (x1 : Vec Ideal S1x1x1024 .f32) (x2 : Vec Ideal S1x512x1024 .bf16) (x3 : Vec Ideal S1x64x1 .f32)
    (x : S1x1x64x256.Idx) :
    k0_pay6 (k0_pay5 (View.ld x0 r0_0) (View.ld x1 r0_1) (View.ld x2 r0_2) (View.ld x3 r0_3)) x
      = keyBlock (k0_pay11 x0 x1 x2 x3) (k0_pay12 x0 x1 x2 x3) (r0_4.idx x) := by
  obtain ⟨d, n, rfl⟩ : ∃ (d : Fin 64) (n : Fin 256), x = ix4 0 0 d n := ⟨x 2, x 3, eq_unit x⟩
  have e : r0_4.idx (ix4 0 0 d n) = ix4 0 0 ⟨(0 : Fin 4).val * 64 + d.val, by omega⟩ n := funext fun a => Fin.ext (by
    match a with
    | ⟨0, _⟩ => rfl
    | ⟨1, _⟩ => rfl
    | ⟨2, _⟩ => show 0 + 1 * d.val = 0 * 64 + d.val; omega
    | ⟨3, _⟩ => show 0 + 1 * n.val = n.val; omega)
  rw [e, keyBlock_apply]
  unfold k0_pay6 k0_pay5 k0_pay11 k0_pay12
  generalize k0_pay3 (View.ld x0 r0_0) (View.ld x1 r0_1) (View.ld x2 r0_2) = p
  generalize k0_pay4 (View.ld x3 r0_3) = g
  pointwise []

theorem piece_1 (p : FVec Ideal S512x256 .f32) (g : FVec Ideal S64x1 .f32) (x : S1x1x64x256.Idx) :
    k0_pay7 p g x = keyBlock p g (r0_5.idx x) := by
  obtain ⟨d, n, rfl⟩ : ∃ (d : Fin 64) (n : Fin 256), x = ix4 0 0 d n := ⟨x 2, x 3, eq_unit x⟩
  have e : r0_5.idx (ix4 0 0 d n) = ix4 0 0 ⟨(1 : Fin 4).val * 64 + d.val, by omega⟩ n := funext fun a => Fin.ext (by
    match a with
    | ⟨0, _⟩ => rfl
    | ⟨1, _⟩ => rfl
    | ⟨2, _⟩ => show 64 + 1 * d.val = 1 * 64 + d.val; omega
    | ⟨3, _⟩ => show 0 + 1 * n.val = n.val; omega)
  rw [e, keyBlock_apply]
  pointwise [k0_pay7]

theorem piece_2 (p : FVec Ideal S512x256 .f32) (g : FVec Ideal S64x1 .f32) (x : S1x1x64x256.Idx) :
    k0_pay8 p g x = keyBlock p g (r0_6.idx x) := by
  obtain ⟨d, n, rfl⟩ : ∃ (d : Fin 64) (n : Fin 256), x = ix4 0 0 d n := ⟨x 2, x 3, eq_unit x⟩
  have e : r0_6.idx (ix4 0 0 d n) = ix4 0 0 ⟨(2 : Fin 4).val * 64 + d.val, by omega⟩ n := funext fun a => Fin.ext (by
    match a with
    | ⟨0, _⟩ => rfl
    | ⟨1, _⟩ => rfl
    | ⟨2, _⟩ => show 128 + 1 * d.val = 2 * 64 + d.val; omega
    | ⟨3, _⟩ => show 0 + 1 * n.val = n.val; omega)
  rw [e, keyBlock_apply]
  pointwise [k0_pay8]

theorem piece_3 (p : FVec Ideal S512x256 .f32) (g : FVec Ideal S64x1 .f32) (x : S1x1x64x256.Idx) :
    k0_pay1 g (k0_pay9 p) (k0_pay10 p) x = keyBlock p g (r0_7.idx x) := by
  obtain ⟨d, n, rfl⟩ : ∃ (d : Fin 64) (n : Fin 256), x = ix4 0 0 d n := ⟨x 2, x 3, eq_unit x⟩
  have e : r0_7.idx (ix4 0 0 d n) = ix4 0 0 ⟨(3 : Fin 4).val * 64 + d.val, by omega⟩ n := funext fun a => Fin.ext (by
    match a with
    | ⟨0, _⟩ => rfl
    | ⟨1, _⟩ => rfl
    | ⟨2, _⟩ => show 192 + 1 * d.val = 3 * 64 + d.val; omega
    | ⟨3, _⟩ => show 0 + 1 * n.val = n.val; omega)
  rw [e, keyBlock_apply]
  pointwise [k0_pay1, k0_pay9, k0_pay10]

theorem piece_v (p : FVec Ideal S512x256 .f32) (x : S1x1x256x256.Idx) : k0_pay2 p x = valueBlock p (r0_8.idx x) := by
  obtain ⟨r, n, rfl⟩ : ∃ (r n : Fin 256), x = ix4 0 0 r n := ⟨x 2, x 3, eq_unit x⟩
  have e : r0_8.idx (ix4 0 0 r n) = ix4 0 0 r n := funext fun a => Fin.ext (by
    match a with
    | ⟨0, _⟩ => rfl
    | ⟨1, _⟩ => rfl
    | ⟨2, _⟩ => show 0 + 1 * r.val = r.val; omega
    | ⟨3, _⟩ => show 0 + 1 * n.val = n.val; omega)
  rw [e]
  show _ = p (ix2 (⟨256 + r.val, by omega⟩ : Fin 512) n)
  pointwise [k0_pay2]

theorem out4_eq (x0 : Vec Ideal S1x256x1024 .f32) (x1 : Vec Ideal S1x1x1024 .f32) (x2 : Vec Ideal S1x512x1024 .bf16) (x3 : Vec Ideal S1x64x1 .f32) :
    out0_4 x0 x1 x2 x3 = keyBlock (k0_pay11 x0 x1 x2 x3) (k0_pay12 x0 x1 x2 x3) := by
  funext y
  unfold out0_4
  refine View.canon_apply_of_pieces (keyBlock (k0_pay11 x0 x1 x2 x3) (k0_pay12 x0 x1 x2 x3)) _ ?_ y (cover0_4 _ _ _ _ y)
  intro pc hpc
  rcases List.mem_cons.mp hpc with rfl | hpc
  · exact fun x => piece_3 _ _ x
  rcases List.mem_cons.mp hpc with rfl | hpc
  · exact fun x => piece_2 _ _ x
  rcases List.mem_cons.mp hpc with rfl | hpc
  · exact fun x => piece_1 _ _ x
  rcases List.mem_cons.mp hpc with rfl | hpc
  · exact fun x => piece_0 x0 x1 x2 x3 x
  nomatch hpc

theorem out5_eq (x0 : Vec Ideal S1x256x1024 .f32) (x1 : Vec Ideal S1x1x1024 .f32) (x2 : Vec Ideal S1x512x1024 .bf16) (x3 : Vec Ideal S1x64x1 .f32) :
    out0_5 x0 x1 x2 x3 = valueBlock (k0_pay11 x0 x1 x2 x3) := by
  funext y
  unfold out0_5
  refine View.canon_apply_of_pieces (valueBlock (k0_pay11 x0 x1 x2 x3)) _ ?_ y (cover0_5 _ y)
  intro pc hpc
  rcases List.mem_cons.mp hpc with rfl | hpc
  · exact fun x => piece_v (k0_pay11 x0 x1 x2 x3) x
  nomatch hpc

theorem pay11_apply (x0 : Vec Ideal S1x256x1024 .f32) (x1 : Vec Ideal S1x1x1024 .f32) (x2 : Vec Ideal S1x512x1024 .bf16) (x3 : Vec Ideal S1x64x1 .f32)
    (c : Fin 512) (n : Fin 256) :
    k0_pay11 x0 x1 x2 x3 (ix2 c n) = prodAt (fun j => x0 (ix3 0 n j)) (fun j => x1 (ix3 0 0 j)) (fun j => x2 (ix3 0 c j)) := by
  have hz : (![0, 0, 0] : Fin 3 → Nat) = fun _ => 0 := funext fun a => by fin_cases a <;> rfl
  unfold k0_pay11
  rw [View.ld_unit_zero (S := S1x256x1024) hz, View.ld_unit_zero (S := S1x1x1024) hz, View.ld_unit_zero (S := S1x512x1024) hz]
  exact pay3_apply x0 x1 x2 c n

theorem pay12_apply (x0 : Vec Ideal S1x256x1024 .f32) (x1 : Vec Ideal S1x1x1024 .f32) (x2 : Vec Ideal S1x512x1024 .bf16) (x3 : Vec Ideal S1x64x1 .f32)
    (d : Fin 64) : k0_pay12 x0 x1 x2 x3 (ix2 d 0) = x3 (ix3 0 d 0) := by
  have hz : (![0, 0, 0] : Fin 3 → Nat) = fun _ => 0 := funext fun a => by fin_cases a <;> rfl
  unfold k0_pay12
  rw [View.ld_unit_zero (S := S1x64x1) hz]
  pointwise [k0_pay4]

/-! ## The windows' blocks -/

variable (m : (ℓ : Loc nD τ sig) → Buf (Elt Ideal) ℓ) (ρ : Dev nD → PrngReg)

/-- Where each window's block lies at a grid point: layer `t / 8`, batch `t % 8`. -/
theorem idx_facts : ∀ t : Fin cfg0.N, (win0_0.index t (0 : Fin 3) = t.val % 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 4) = t.val / 8 ∧ win0_4.index t (1 : Fin 4) = t.val % 8 ∧ win0_4.index t (2 : Fin 4) = 0 ∧ win0_4.index t (3 : Fin 4) = 0)
    ∧ (win0_5.index t (0 : Fin 4) = t.val / 8 ∧ win0_5.index t (1 : Fin 4) = t.val % 8 ∧ win0_5.index t (2 : Fin 4) = 0 ∧ win0_5.index t (3 : Fin 4) = 0) :=
  (by decide +kernel : ∀ t : Fin grid0.N, _)

def lay (t : Fin cfg0.N) : Fin 4 := ⟨t.val / 8, by have := t.isLt; have : cfg0.N = 32 := rfl; omega⟩
def bat (t : Fin cfg0.N) : Fin 8 := ⟨t.val % 8, by omega⟩

theorem in0 (c : Dev nD) (t : Fin cfg0.N) (n : Fin 256) (j : Fin 1024) : (iblk m c 0 t : Vec Ideal S1x256x1024 .f32) (ix3 0 n j)
    = (m ((c : Thread nD τ).loc main_arg0) : Vec Ideal S8x256x1024 .f32) (ix3 (bat t) n j) := by
  obtain ⟨⟨e0, e1, e2⟩, -⟩ := idx_facts t
  rw [← V_main_arg0 m c]
  refine congrArg (V m c main_arg0) (funext fun a => Fin.ext ?_)
  match a with
  | ⟨0, _⟩ => show win0_0.index t (0 : Fin 3) * 1 + 1 * 0 = t.val % 8; omega
  | ⟨1, _⟩ => show win0_0.index t (1 : Fin 3) * 256 + 1 * n.val = n.val; omega
  | ⟨2, _⟩ => show win0_0.index t (2 : Fin 3) * 1024 + 1 * j.val = j.val; omega

/-- The memory gain, one row per layer. -/
theorem in1 (c : Dev nD) (t : Fin cfg0.N) (j : Fin 1024) : (iblk m c 1 t : Vec Ideal S1x1x1024 .f32) (ix3 0 0 j)
    = (m ((c : Thread nD τ).loc main_arg1) : Vec Ideal S4x1024 .f32) (ix2 (lay t) j) := by
  have e : (V m c main_v0 : Vec Ideal S4x1x1024 .f32) = broadcastInDim S4x1x1024 ![0, 2] bcast_S4x1024_S4x1x1024_0_2
      (m ((c : Thread nD τ).loc main_arg1) : Vec Ideal S4x1024 .f32) := by
    show StableHlo.after hostOps0 _ _ = _
    after_results
  obtain ⟨-, ⟨e0, e1, e2⟩, -⟩ := idx_facts t
  refine Eq.trans (b := (V m c main_v0 : Vec Ideal S4x1x1024 .f32) (ix3 (lay t) 0 j)) (congrArg (V m c main_v0) (funext fun a => Fin.ext ?_)) ?_
  · match a with
    | ⟨0, _⟩ => show win0_1.index t (0 : Fin 3) * 1 + 1 * 0 = t.val / 8; omega
    | ⟨1, _⟩ => show win0_1.index t (1 : Fin 3) * 1 + 1 * 0 = 0; omega
    | ⟨2, _⟩ => show win0_1.index t (2 : Fin 3) * 1024 + 1 * j.val = j.val; omega
  · rw [e]; pointwise []

/-- The weight, transposed and cast. -/
theorem in2 (c : Dev nD) (t : Fin cfg0.N) (r : Fin 512) (j : Fin 1024) : (iblk m c 2 t : Vec Ideal S1x512x1024 .bf16) (ix3 0 r j)
    = (m ((c : Thread nD τ).loc main_arg2) : Vec Ideal S4x1024x512 .f32) (ix3 (lay t) j r) := by
  have e : (V m c main_v2 : Vec Ideal S4x512x1024 .bf16) = truncf (F := Ideal) .bf16 (transpose S4x512x1024 [0, 2, 1]
      (m ((c : Thread nD τ).loc main_arg2) : Vec Ideal S4x1024x512 .f32) transposes_S4x1024x512_S4x512x1024_0_2_1) bitsLt_bf16_f32 := by
    show StableHlo.after hostOps0 _ _ = _
    after_results
  obtain ⟨-, -, ⟨e0, e1, e2⟩, -⟩ := idx_facts t
  refine Eq.trans (b := (V m c main_v2 : Vec Ideal S4x512x1024 .bf16) (ix3 (lay t) r j)) (congrArg (V m c main_v2) (funext fun a => Fin.ext ?_)) ?_
  · match a with
    | ⟨0, _⟩ => show win0_2.index t (0 : Fin 3) * 1 + 1 * 0 = t.val / 8; omega
    | ⟨1, _⟩ => show win0_2.index t (1 : Fin 3) * 512 + 1 * r.val = r.val; omega
    | ⟨2, _⟩ => show win0_2.index t (2 : Fin 3) * 1024 + 1 * j.val = j.val; omega
  · rw [e]; pointwise []

/-- The key gain, one column per layer. -/
theorem in3 (c : Dev nD) (t : Fin cfg0.N) (d : Fin 64) : (iblk m c 3 t : Vec Ideal S1x64x1 .f32) (ix3 0 d 0)
    = (m ((c : Thread nD τ).loc main_arg3) : Vec Ideal S4x64 .f32) (ix2 (lay t) d) := by
  have e : (V m c main_v3 : Vec Ideal S4x64x1 .f32) = broadcastInDim S4x64x1 ![0, 1] bcast_S4x64_S4x64x1_0_1
      (m ((c : Thread nD τ).loc main_arg3) : Vec Ideal S4x64 .f32) := by
    show StableHlo.after hostOps0 _ _ = _
    after_results
  obtain ⟨-, -, -, ⟨e0, e1, e2⟩, -⟩ := idx_facts t
  refine Eq.trans (b := (V m c main_v3 : Vec Ideal S4x64x1 .f32) (ix3 (lay t) d 0)) (congrArg (V m c main_v3) (funext fun a => Fin.ext ?_)) ?_
  · match a with
    | ⟨0, _⟩ => show win0_3.index t (0 : Fin 3) * 1 + 1 * 0 = t.val / 8; omega
    | ⟨1, _⟩ => show win0_3.index t (1 : Fin 3) * 64 + 1 * d.val = d.val; omega
    | ⟨2, _⟩ => show win0_3.index t (2 : Fin 3) * 1 + 1 * 0 = 0; omega
  · rw [e]; pointwise []

/-- The projection at a grid point. -/
theorem proj_eq (c : Dev nD) (t : Fin cfg0.N) (r : Fin 512) (n : Fin 256) :
    k0_pay11 (F := Ideal) (iblk m c 0 t) (iblk m c 1 t) (iblk m c 2 t) (iblk m c 3 t) (ix2 r n)
      = projAt (m ((c : Thread nD τ).loc main_arg0)) (m ((c : Thread nD τ).loc main_arg1)) (m ((c : Thread nD τ).loc main_arg2)) (lay t) (bat t) n r := by
  refine (pay11_apply _ _ _ _ r n).trans ?_
  unfold projAt
  simp only [in0, in1, in2]

/-! ## The two results -/

/-- The reference's keys as a function of the kernel's arguments. -/
def GK (c : Dev nD) : Vec Ideal S4x8x256x256 .f32 :=
  val_main_v154 (F := Ideal) (m ((c : Thread nD τ).loc main_arg0)) (m ((c : Thread nD τ).loc main_arg1)) (m ((c : Thread nD τ).loc main_arg2))
    (m ((c : Thread nD τ).loc main_arg3))

/-- The reference's values as a function of the kernel's arguments. -/
def GV (c : Dev nD) : Vec Ideal S4x8x256x256 .f32 :=
  val_main_v161 (F := Ideal) (m ((c : Thread nD τ).loc main_arg0)) (m ((c : Thread nD τ).loc main_arg1)) (m ((c : Thread nD τ).loc main_arg2))

theorem flushed4_eq (c : Dev nD) (t : Fin cfg0.N) :
    (dats m 0 c).flushed 4 t = ((cfg0.win 4).blk t).view.read (Elt Ideal) (GK m c) := by
  rw [flushed4, out4_eq]
  funext y
  obtain ⟨-, -, -, -, ⟨e0, e1, e2, e3⟩, -⟩ := idx_facts t
  obtain ⟨r, n, rfl⟩ : ∃ (r n : Fin 256), y = ix4 0 0 r n := ⟨y 2, y 3, eq_unit y⟩
  have h : keyBlock (k0_pay11 (F := Ideal) (iblk m c 0 t) (iblk m c 1 t) (iblk m c 2 t) (iblk m c 3 t))
      (k0_pay12 (F := Ideal) (iblk m c 0 t) (iblk m c 1 t) (iblk m c 2 t) (iblk m c 3 t)) (ix4 0 0 r n) = GK m c (ix4 (lay t) (bat t) r n) := by
    refine Eq.trans ?_ (ref_keys _ _ _ _ (lay t) (bat t) r n).symm
    show keyAt (fun e => k0_pay11 (F := Ideal) (iblk m c 0 t) (iblk m c 1 t) (iblk m c 2 t) (iblk m c 3 t) (ix2 (⟨r.val / 64 * 64 + e.val, by omega⟩ : Fin 512) n))
      (k0_pay12 (F := Ideal) (iblk m c 0 t) (iblk m c 1 t) (iblk m c 2 t) (iblk m c 3 t) (ix2 (⟨r.val % 64, by omega⟩ : Fin 64) 0)) (⟨r.val % 64, by omega⟩ : Fin 64) = _
    rw [pay12_apply, in3]
    simp only [proj_eq]
  refine Eq.trans (b := keyBlock (k0_pay11 (F := Ideal) (iblk m c 0 t) (iblk m c 1 t) (iblk m c 2 t) (iblk m c 3 t))
      (k0_pay12 (F := Ideal) (iblk m c 0 t) (iblk m c 1 t) (iblk m c 2 t) (iblk m c 3 t)) (ix4 0 0 r n)) rfl (h.trans ?_)
  refine congrArg (GK m c) (funext fun a => Fin.ext ?_)
  match a with
  | ⟨0, _⟩ => show t.val / 8 = win0_4.index t (0 : Fin 4) * 1 + 1 * 0; omega
  | ⟨1, _⟩ => show t.val % 8 = win0_4.index t (1 : Fin 4) * 1 + 1 * 0; omega
  | ⟨2, _⟩ => show r.val = win0_4.index t (2 : Fin 4) * 256 + 1 * r.val; omega
  | ⟨3, _⟩ => show n.val = win0_4.index t (3 : Fin 4) * 256 + 1 * n.val; omega

theorem flushed5_eq (c : Dev nD) (t : Fin cfg0.N) :
    (dats m 0 c).flushed 5 t = ((cfg0.win 5).blk t).view.read (Elt Ideal) (GV m c) := by
  rw [flushed5, out5_eq]
  funext y
  obtain ⟨-, -, -, -, -, ⟨e0, e1, e2, e3⟩⟩ := idx_facts t
  obtain ⟨r, n, rfl⟩ : ∃ (r n : Fin 256), y = ix4 0 0 r n := ⟨y 2, y 3, eq_unit y⟩
  have h : k0_pay11 (F := Ideal) (iblk m c 0 t) (iblk m c 1 t) (iblk m c 2 t) (iblk m c 3 t) (ix2 (⟨256 + r.val, by omega⟩ : Fin 512) n)
      = GV m c (ix4 (lay t) (bat t) r n) :=
    (proj_eq m c t _ n).trans (ref_values _ _ _ (lay t) (bat t) r n).symm
  refine Eq.trans (b := k0_pay11 (F := Ideal) (iblk m c 0 t) (iblk m c 1 t) (iblk m c 2 t) (iblk m c 3 t) (ix2 (⟨256 + r.val, by omega⟩ : Fin 512) n)) rfl (h.trans ?_)
  refine congrArg (GV m c) (funext fun a => Fin.ext ?_)
  match a with
  | ⟨0, _⟩ => show t.val / 8 = win0_5.index t (0 : Fin 4) * 1 + 1 * 0; omega
  | ⟨1, _⟩ => show t.val % 8 = win0_5.index t (1 : Fin 4) * 1 + 1 * 0; omega
  | ⟨2, _⟩ => show r.val = win0_5.index t (2 : Fin 4) * 256 + 1 * r.val; omega
  | ⟨3, _⟩ => show n.val = win0_5.index t (3 : Fin 4) * 256 + 1 * n.val; omega

theorem covered4 (i : S4x8x256x256.Idx) : ∃ t : Fin cfg0.N, (cfg0.win 4).flush t = true ∧ i ∈ ((cfg0.win 4).blk t).view.set := by
  obtain ⟨l, b, r, n, rfl⟩ : ∃ (l : Fin 4) (b : Fin 8) (r n : Fin 256), i = ix4 l b r n := ⟨i 0, i 1, i 2, i 3, eq_ix4 i⟩
  have hN : l.val * 8 + b.val < cfg0.N := by have : cfg0.N = 32 := rfl; omega
  refine ⟨⟨l.val * 8 + b.val, hN⟩, flush0_4 _, ?_⟩
  obtain ⟨-, -, -, -, ⟨e0, e1, e2, e3⟩, -⟩ := idx_facts ⟨l.val * 8 + b.val, hN⟩
  have e0' : win0_4.index ⟨l.val * 8 + b.val, hN⟩ (0 : Fin 4) = (l.val * 8 + b.val) / 8 := e0
  have e1' : win0_4.index ⟨l.val * 8 + b.val, hN⟩ (1 : Fin 4) = (l.val * 8 + b.val) % 8 := e1
  show ix4 l b r n ∈ ((View.whole main_v4_0).slice (win0_4.rect ⟨l.val * 8 + b.val, hN⟩)).set
  rw [View.set_slice_whole, Rect.mem_set_unit]
  intro a
  match a with
  | ⟨0, _⟩ => show win0_4.index ⟨l.val * 8 + b.val, hN⟩ (0 : Fin 4) * 1 ≤ l.val ∧ l.val < win0_4.index ⟨l.val * 8 + b.val, hN⟩ (0 : Fin 4) * 1 + 1; omega
  | ⟨1, _⟩ => show win0_4.index ⟨l.val * 8 + b.val, hN⟩ (1 : Fin 4) * 1 ≤ b.val ∧ b.val < win0_4.index ⟨l.val * 8 + b.val, hN⟩ (1 : Fin 4) * 1 + 1; omega
  | ⟨2, _⟩ => show win0_4.index ⟨l.val * 8 + b.val, hN⟩ (2 : Fin 4) * 256 ≤ r.val ∧ r.val < win0_4.index ⟨l.val * 8 + b.val, hN⟩ (2 : Fin 4) * 256 + 256; omega
  | ⟨3, _⟩ => show win0_4.index ⟨l.val * 8 + b.val, hN⟩ (3 : Fin 4) * 256 ≤ n.val ∧ n.val < win0_4.index ⟨l.val * 8 + b.val, hN⟩ (3 : Fin 4) * 256 + 256; omega

theorem covered5 (i : S4x8x256x256.Idx) : ∃ t : Fin cfg0.N, (cfg0.win 5).flush t = true ∧ i ∈ ((cfg0.win 5).blk t).view.set := by
  obtain ⟨l, b, r, n, rfl⟩ : ∃ (l : Fin 4) (b : Fin 8) (r n : Fin 256), i = ix4 l b r n := ⟨i 0, i 1, i 2, i 3, eq_ix4 i⟩
  have hN : l.val * 8 + b.val < cfg0.N := by have : cfg0.N = 32 := rfl; omega
  refine ⟨⟨l.val * 8 + b.val, hN⟩, flush0_5 _, ?_⟩
  obtain ⟨-, -, -, -, -, ⟨e0, e1, e2, e3⟩⟩ := idx_facts ⟨l.val * 8 + b.val, hN⟩
  have e0' : win0_5.index ⟨l.val * 8 + b.val, hN⟩ (0 : Fin 4) = (l.val * 8 + b.val) / 8 := e0
  have e1' : win0_5.index ⟨l.val * 8 + b.val, hN⟩ (1 : Fin 4) = (l.val * 8 + b.val) % 8 := e1
  show ix4 l b r n ∈ ((View.whole main_v4_1).slice (win0_5.rect ⟨l.val * 8 + b.val, hN⟩)).set
  rw [View.set_slice_whole, Rect.mem_set_unit]
  intro a
  match a with
  | ⟨0, _⟩ => show win0_5.index ⟨l.val * 8 + b.val, hN⟩ (0 : Fin 4) * 1 ≤ l.val ∧ l.val < win0_5.index ⟨l.val * 8 + b.val, hN⟩ (0 : Fin 4) * 1 + 1; omega
  | ⟨1, _⟩ => show win0_5.index ⟨l.val * 8 + b.val, hN⟩ (1 : Fin 4) * 1 ≤ b.val ∧ b.val < win0_5.index ⟨l.val * 8 + b.val, hN⟩ (1 : Fin 4) * 1 + 1; omega
  | ⟨2, _⟩ => show win0_5.index ⟨l.val * 8 + b.val, hN⟩ (2 : Fin 4) * 256 ≤ r.val ∧ r.val < win0_5.index ⟨l.val * 8 + b.val, hN⟩ (2 : Fin 4) * 256 + 256; omega
  | ⟨3, _⟩ => show win0_5.index ⟨l.val * 8 + b.val, hN⟩ (3 : Fin 4) * 256 ≤ n.val ∧ n.val < win0_5.index ⟨l.val * 8 + b.val, hN⟩ (3 : Fin 4) * 256 + 256; omega

theorem final4 (c : Dev nD) : (dats m 0 c).arrAt 4 cfg0.N = GK m c :=
  (dats m 0 c).arrAt_eq_of_cover 4 (GK m c) (fun t _ => flushed4_eq m c t) covered4

theorem final5 (c : Dev nD) : (dats m 0 c).arrAt 5 cfg0.N = GV m c :=
  (dats m 0 c).arrAt_eq_of_cover 5 (GV m c) (fun t _ => flushed5_eq m c t) covered5

/-- The value claim: from memories that agree on the arguments, the kernel and the reference end with the same keys and
    the same values. -/
theorem algebraic : Cert.algebraic_MemKvIdeal_MemKvRefIdeal := by
  intro m g m' g' _ hm
  refine ⟨fun c => GK m c, fun c => GV m c, ?_, ?_⟩
  · exact (θ_run defs _ _).mono (fun r h c => ⟨(h c).1.trans (final4 m c), (h c).2.1.trans (final5 m c), (h c).2.2⟩) (run_blocks m g)
  · refine (θ_run Cert.MemKvRefIdeal.defs _ _).mono (fun r h c => ⟨(h c).1.trans ?_, (h c).2.1.trans ?_, (h c).2.2⟩) (Cert.MemKvRefIdeal.Value.run m' g')
    · rw [Cert.MemKvRefIdeal.Read.val_main_v154_eq]
      obtain ⟨e0, e1, e2, e3⟩ := hm c
      show val_main_v154 (F := Ideal) (m' ((c.tc : Thread Cert.MemKvRefIdeal.nD Cert.MemKvRefIdeal.τ).loc Cert.MemKvRefIdeal.main_arg0)) (m' ((c.tc : Thread Cert.MemKvRefIdeal.nD Cert.MemKvRefIdeal.τ).loc Cert.MemKvRefIdeal.main_arg1)) (m' ((c.tc : Thread Cert.MemKvRefIdeal.nD Cert.MemKvRefIdeal.τ).loc Cert.MemKvRefIdeal.main_arg2)) (m' ((c.tc : Thread Cert.MemKvRefIdeal.nD Cert.MemKvRefIdeal.τ).loc Cert.MemKvRefIdeal.main_arg3)) = GK m c
      unfold GK
      rw [e0, e1, e2, e3]
    · rw [Cert.MemKvRefIdeal.Read.val_main_v161_eq]
      obtain ⟨e0, e1, e2, e3⟩ := hm c
      show val_main_v161 (F := Ideal) (m' ((c.tc : Thread Cert.MemKvRefIdeal.nD Cert.MemKvRefIdeal.τ).loc Cert.MemKvRefIdeal.main_arg0)) (m' ((c.tc : Thread Cert.MemKvRefIdeal.nD Cert.MemKvRefIdeal.τ).loc Cert.MemKvRefIdeal.main_arg1)) (m' ((c.tc : Thread Cert.MemKvRefIdeal.nD Cert.MemKvRefIdeal.τ).loc Cert.MemKvRefIdeal.main_arg2)) = GV m c
      unfold GV
      rw [e0, e1, e2]

end Cert.Proof.MemKv

end
-- ==== Proof.CMlpBlock.lean ====
/- One grid point of the chunk-MLP kernel: eight sample rows of one sequence, gated and mixed along time within eight
   channel groups. -/
module

public import proofs.«01_k».proof.Proof.Gen.CMlpIdeal.Value
public import Idealize.ShloMosaic.Lib.Pointwise

@[expose] public section

set_option maxRecDepth 16384

noncomputable section

namespace Cert.Proof.CMlp

open Cert.CMlpIdeal Cert.CMlpIdeal.Gen Cert.CMlpIdeal.Value Idealize.ShloMosaic Idealize.ShloMosaic.TcCoe Idealize.SL.Sem

/-- The gate's activation: the tanh form of the Gaussian unit. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * (x * x))))))

/-- A row less its mean. -/
def centre (z : Fin 1024 → EReal) (j : Fin 1024) : EReal :=
  z j - Ideal.div (∑ k, z k) (Ideal.ofBits FTy.f32 0x44800000#32)

/-- The layer norm of a row with gain `g` and bias `b`. -/
def normed (z g b : Fin 1024 → EReal) (j : Fin 1024) : EReal :=
  centre z j * Ideal.rsqrt (Ideal.div (∑ k, centre z k * centre z k) (Ideal.ofBits FTy.f32 0x44800000#32)
    + Ideal.ofBits FTy.f32 0x358637BD#32) * g j + b j

theorem pay3_apply (v0 : Vec Ideal S8x1024 .f32) (r : Fin 8) (j : Fin 1024) : k0_pay3 v0 (ix2 r j) = gelu (v0 (ix2 r j)) := by
  unfold gelu
  pointwise [k0_pay3]

/-- The centred rows from the activated ones. -/
def centreV (z : FVec Ideal S8x1024 .f32) : FVec Ideal S8x1024 .f32 :=
  subf z (broadcastTo S8x1024 (divf (shapeCast S8x1 (multiReduction .add [1] S8 z 0x00000000#32 reduces_S8x1024_S8 (.inl rfl) rfl) shapeCasts_S8_S8x1)
    (broadcast S8x1 (Scalar.ofBits .f32 0x44800000#32))) broadcasts_S8x1_S8x1024)

theorem centreV_apply (z : FVec Ideal S8x1024 .f32) (r : Fin 8) (j : Fin 1024) :
    centreV z (ix2 r j) = centre (fun k => z (ix2 r k)) j := by
  unfold centre
  pointwise [centreV]

theorem pay4_apply (v14 : Vec Ideal S8x1024 .f32) (r : Fin 8) (j : Fin 1024) :
    k0_pay4 v14 (ix2 r j) = centre (fun k => gelu (v14 (ix2 r k))) j := by
  have h : k0_pay4 v14 = centreV (k0_pay3 v14) := rfl
  rw [h, centreV_apply]
  simp only [pay3_apply]

theorem pay5_apply (v14 : Vec Ideal S8x1024 .f32) (r : Fin 8) :
    k0_pay5 v14 (ix2 r 0) = Ideal.rsqrt (Ideal.div (∑ k, k0_pay4 v14 (ix2 r k) * k0_pay4 v14 (ix2 r k)) (Ideal.ofBits FTy.f32 0x44800000#32)
      + Ideal.ofBits FTy.f32 0x358637BD#32) := by
  unfold k0_pay5
  generalize k0_pay4 v14 = z
  pointwise []

/-- The normalised rows. -/
theorem pay6_apply (x1 : Vec Ideal S8x1024 .f32) (x2 x3 : Vec Ideal S1x1024 .f32) (r : Fin 8) (j : Fin 1024) :
    k0_pay6 (k0_pay4 x1) (k0_pay5 x1) x2 x3 (ix2 r j)
      = normed (fun k => gelu (x1 (ix2 r k))) (fun k => x2 (ix2 0 k)) (fun k => x3 (ix2 0 k)) j := by
  have h : ∀ (z : FVec Ideal S8x1024 .f32) (q : FVec Ideal S8x1 .f32),
      k0_pay6 z q x2 x3 (ix2 r j) = z (ix2 r j) * q (ix2 r 0) * x2 (ix2 0 j) + x3 (ix2 0 j) := by
    intro z q
    pointwise [k0_pay6]
  rw [h, pay5_apply]
  simp only [pay4_apply]
  rfl

/-- One channel group's result from the gate rows, the normalised rows, the group's weight and its bias. -/
def mix (o : Nat) (hs : S8x1024.Slices ![0, o] S8x128) (u v : FVec Ideal S8x1024 .f32) (w : Vec Ideal S1x8x8 .f32) (b : Vec Ideal S1x8x128 .f32) :
    FVec Ideal S8x128 .f32 :=
  mulf (extractStridedSlice S8x128 ![0, o] u hs)
    (addf (matmul dot_S8x8_S8x128_S8x128_1_0_0_1_n_n none
        (truncf .bf16 (select k0_pay7 (shapeCast S8x8 w shapeCasts_S1x8x8_S8x8) (broadcast S8x8 (Scalar.ofBits .f32 0x00000000#32))) bitsLt_bf16_f32)
        (truncf .bf16 (extractStridedSlice S8x128 ![0, o] v hs) bitsLt_bf16_f32) (constant S8x128 .f32 0x00000000#32))
      (shapeCast S8x128 b shapeCasts_S1x8x128_S8x128))

theorem mask_le : ∀ r k : Fin 8, IntOp.cmpi CmpIPredicate.sge (BitVec.ofNat 32 r.val) (BitVec.ofNat 32 k.val) = if k ≤ r then 1#1 else 0#1 := by
  decide +kernel

theorem mask_apply (w : FVec Ideal S8x8 .f32) (r k : Fin 8) :
    select k0_pay7 w (broadcast S8x8 (Scalar.ofBits (F := Ideal) .f32 0x00000000#32)) (ix2 r k) = if k ≤ r then w (ix2 r k) else 0 := by
  pointwise [k0_pay7]
  rw [mask_le]
  split <;> rfl

theorem mix_apply (o : Nat) (ho : o + 128 ≤ 1024) (hs : S8x1024.Slices ![0, o] S8x128) (u v : FVec Ideal S8x1024 .f32) (w : Vec Ideal S1x8x8 .f32)
    (b : Vec Ideal S1x8x128 .f32) (r : Fin 8) (d : Fin 128) :
    mix o hs u v w b (ix2 r d) = u (ix2 r ⟨o + d.val, by omega⟩)
      * (∑ k : Fin 8, (if k ≤ r then w (ix3 0 r k) else 0) * v (ix2 k ⟨o + d.val, by omega⟩) + b (ix3 0 r d)) := by
  have e : ∀ k : Fin 8, (if k ≤ r then w (ix3 0 r k) else 0)
      = select k0_pay7 (shapeCast S8x8 w shapeCasts_S1x8x8_S8x8) (broadcast S8x8 (Scalar.ofBits (F := Ideal) .f32 0x00000000#32)) (ix2 r k) := by
    intro k
    rw [mask_apply]
    have h : shapeCast S8x8 w shapeCasts_S1x8x8_S8x8 (ix2 r k) = w (ix3 0 r k) := by pointwise []
    rw [h]
  simp only [e]
  unfold mix
  generalize select k0_pay7 (shapeCast S8x8 w shapeCasts_S1x8x8_S8x8) (broadcast S8x8 (Scalar.ofBits (F := Ideal) .f32 0x00000000#32)) = q
  pointwise []

/-- The block of the mixer's rows. -/
def rowsOf (u v : FVec Ideal S8x1024 .f32) (w : Vec Ideal S8x8x8 .f32) (b : Vec Ideal S8x8x128 .f32) (r : Fin 8) (j : Fin 1024) : EReal :=
  u (ix2 r j) * (∑ k : Fin 8, (if k ≤ r then w (ix3 (⟨j.val / 128, by omega⟩ : Fin 8) r k) else 0) * v (ix2 k j)
    + b (ix3 (⟨j.val / 128, by omega⟩ : Fin 8) r (⟨j.val % 128, by omega⟩ : Fin 128)))

def block (u v : FVec Ideal S8x1024 .f32) (w : Vec Ideal S8x8x8 .f32) (b : Vec Ideal S8x8x128 .f32) : Vec Ideal S8x1024 .f32 := fun y =>
  rowsOf u v w b (y 0) (y 1)

/-- Group `g`'s store is the block's columns from `128 g`. -/
theorem piece (g : Nat) (hg : g < 8) (o : Nat) (ho : o = g * 128) (hs : S8x1024.Slices ![0, o] S8x128)
    (hw : ∀ a, (![g, 0, 0] : Fin 3 → Nat) a + S1x8x8.size a ≤ S8x8x8.size a)
    (hb : ∀ a, (![g, 0, 0] : Fin 3 → Nat) a + S1x8x128.size a ≤ S8x8x128.size a)
    (hr : ∀ a, (![0, o] : Fin 2 → Nat) a + S8x128.size a ≤ S8x1024.size a)
    (u v : FVec Ideal S8x1024 .f32) (x4 : Vec Ideal S8x8x8 .f32) (x5 : Vec Ideal S8x8x128 .f32) (x : S8x128.Idx) :
    mix o hs u v (View.ld x4 (Rect.unit (s := S8x8x8) ![g, 0, 0] S1x8x8.size hw))
        (View.ld x5 (Rect.unit (s := S8x8x128) ![g, 0, 0] S1x8x128.size hb)) x
      = block u v x4 x5 ((Rect.unit (s := S8x1024) ![0, o] S8x128.size hr).idx x) := by
  obtain ⟨r, d, rfl⟩ : ∃ (r : Fin 8) (d : Fin 128), x = ix2 r d := ⟨x 0, x 1, eq_ix2 x⟩
  subst ho
  have hj : g * 128 + d.val < 1024 := by omega
  have e : (Rect.unit (s := S8x1024) ![0, g * 128] S8x128.size hr).idx (ix2 r d) = ix2 r (⟨g * 128 + d.val, hj⟩ : Fin 1024) :=
    funext fun a => Fin.ext (by
      match a with
      | ⟨0, _⟩ => show 0 + 1 * r.val = r.val; omega
      | ⟨1, _⟩ => show g * 128 + 1 * d.val = g * 128 + d.val; omega)
  have eg : (⟨(g * 128 + d.val) / 128, by omega⟩ : Fin 8) = ⟨g, hg⟩ := Fin.ext (by show (g * 128 + d.val) / 128 = g; omega)
  have ed : (⟨(g * 128 + d.val) % 128, by omega⟩ : Fin 128) = d := Fin.ext (by show (g * 128 + d.val) % 128 = d.val; omega)
  have lw : ∀ k : Fin 8, View.ld x4 (Rect.unit (s := S8x8x8) ![g, 0, 0] S1x8x8.size hw) (ix3 0 r k) = x4 (ix3 (⟨g, hg⟩ : Fin 8) r k) := fun k =>
    congrArg x4 (funext fun a => Fin.ext (by
      match a with
      | ⟨0, _⟩ => show g + 1 * 0 = g; omega
      | ⟨1, _⟩ => show 0 + 1 * r.val = r.val; omega
      | ⟨2, _⟩ => show 0 + 1 * k.val = k.val; omega))
  have lb : View.ld x5 (Rect.unit (s := S8x8x128) ![g, 0, 0] S1x8x128.size hb) (ix3 0 r d) = x5 (ix3 (⟨g, hg⟩ : Fin 8) r d) :=
    congrArg x5 (funext fun a => Fin.ext (by
      match a with
      | ⟨0, _⟩ => show g + 1 * 0 = g; omega
      | ⟨1, _⟩ => show 0 + 1 * r.val = r.val; omega
      | ⟨2, _⟩ => show 0 + 1 * d.val = d.val; omega))
  rw [e, mix_apply _ (by omega)]
  show _ = rowsOf u v x4 x5 r (⟨g * 128 + d.val, hj⟩ : Fin 1024)
  unfold rowsOf
  simp only [eg, ed, lw, lb]

/-! The eight groups' stores are `mix` at the groups' columns. -/

section stores

variable (u v z : FVec Ideal S8x1024 .f32) (q : FVec Ideal S8x1 .f32) (g h : Vec Ideal S1x1024 .f32) (w : Vec Ideal S1x8x8 .f32) (b : Vec Ideal S1x8x128 .f32)

theorem store_0 : k0_pay8 u z q g h w b = mix 0 slices_S8x1024_o0_0_S8x128 u (k0_pay6 z q g h) w b := rfl
theorem store_1 : k0_pay10 u (k0_pay9 z q g h w) b = mix 128 slices_S8x1024_o0_128_S8x128 u (k0_pay6 z q g h) w b := rfl
theorem store_2 : k0_pay11 u v k0_pay7 w b = mix 256 slices_S8x1024_o0_256_S8x128 u v w b := rfl
theorem store_3 : k0_pay12 u v k0_pay7 w b = mix 384 slices_S8x1024_o0_384_S8x128 u v w b := rfl
theorem store_4 : k0_pay13 u v k0_pay7 w b = mix 512 slices_S8x1024_o0_512_S8x128 u v w b := rfl
theorem store_5 : k0_pay14 u v k0_pay7 w b = mix 640 slices_S8x1024_o0_640_S8x128 u v w b := rfl
theorem store_6 : k0_pay1 u (k0_pay15 k0_pay7 w) (k0_pay16 v) b = mix 768 slices_S8x1024_o0_768_S8x128 u v w b := rfl
theorem store_7 : k0_pay2 u v k0_pay7 w b = mix 896 slices_S8x1024_o0_896_S8x128 u v w b := rfl

end stores

variable (c : Dev nD) (i : grid0.Coords)
  (arg1 : Memref sig .tc .vmem S8x1024 .f32) (harg1 : arg1.IsWhole) (arg2 : Memref sig .tc .vmem S8x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S8x8x8 .f32) (harg5 : arg5.IsWhole) (arg6 : Memref sig .tc .vmem S8x8x128 .f32) (harg6 : arg6.IsWhole)
  (arg7 : Memref sig .tc .vmem S8x1024 .f32) (harg7 : arg7.IsWhole) (arg8 : Memref sig .tc .vmem S8x1024 .f32) (harg8 : arg8.IsWhole)
  (x0 x1 : Vec Ideal S8x1024 .f32) (x2 x3 : Vec Ideal S1x1024 .f32) (x4 : Vec Ideal S8x8x8 .f32) (x5 : Vec Ideal S8x8x128 .f32)

theorem out6_eq : out0_A_6 c i arg1 harg1 arg2 harg2 arg3 harg3 arg4 harg4 arg5 harg5 arg6 harg6 arg7 harg7 arg8 harg8 x0 x1 x2 x3 x4 x5
    = block (k0_pay3 x0) (k0_pay6 (k0_pay4 x1) (k0_pay5 x1) x2 x3) x4 x5 := by
  have hz : (![0, 0] : Fin 2 → Nat) = fun _ => 0 := funext fun a => by fin_cases a <;> rfl
  unfold out0_A_6
  rw [View.read_writes_junk_eq_canon]
  funext y
  refine View.canon_apply_of_pieces (block (k0_pay3 x0) (k0_pay6 (k0_pay4 x1) (k0_pay5 x1) x2 x3) x4 x5) _ ?_ y
    (cover0_A_6 c i arg1 harg1 arg2 harg2 arg3 harg3 arg4 harg4 arg5 harg5 arg6 harg6 arg7 harg7 arg8 harg8 x0 x1 x2 x3 x4 x5 y)
  intro pc hpc
  have l0 : View.ld x0 (Rect.unit (s := S8x1024) ![0, 0] S8x1024.size inb_S8x1024_S8x1024_0_0) = x0 := View.ld_unit_zero (S := S8x1024) hz _ _
  have l1 : View.ld x1 (Rect.unit (s := S8x1024) ![0, 0] S8x1024.size inb_S8x1024_S8x1024_0_0) = x1 := View.ld_unit_zero (S := S8x1024) hz _ _
  have l2 : View.ld x2 (Rect.unit (s := S1x1024) ![0, 0] S1x1024.size inb_S1x1024_S1x1024_0_0) = x2 := View.ld_unit_zero (S := S1x1024) hz _ _
  have l3 : View.ld x3 (Rect.unit (s := S1x1024) ![0, 0] S1x1024.size inb_S1x1024_S1x1024_0_0) = x3 := View.ld_unit_zero (S := S1x1024) hz _ _
  unfold kernelRun0_A kernelRun0_A.sl.r_7 kernelRun0_A.sl.r_6 kernelRun0_A.sl.r_5 kernelRun0_A.sl.r_4 kernelRun0_A.sl.r_3 kernelRun0_A.sl.r_2
    kernelRun0_A.sl.r_1 kernelRun0_A.sl.r at hpc
  simp only [View.readAt_eq_ld, harg1.read_unread, harg2.read_unread, harg3.read_unread, harg4.read_unread, harg5.read_unread, harg6.read_unread,
    l0, l1, l2, l3, store_0, store_1, store_2, store_3, store_4, store_5, store_6, store_7] at hpc
  clear l0 l1 l2 l3
  generalize k0_pay6 (k0_pay4 x1) (k0_pay5 x1) x2 x3 = v at hpc ⊢
  generalize k0_pay3 x0 = u at hpc ⊢
  rcases List.mem_cons.mp hpc with rfl | hpc
  · exact fun x => piece 7 (by decide) 896 rfl slices_S8x1024_o0_896_S8x128 inb_S8x8x8_S1x8x8_7_0_0 inb_S8x8x128_S1x8x128_7_0_0 inb_S8x1024_S8x128_0_896 u v x4 x5 x
  rcases List.mem_cons.mp hpc with rfl | hpc
  · exact fun x => piece 6 (by decide) 768 rfl slices_S8x1024_o0_768_S8x128 inb_S8x8x8_S1x8x8_6_0_0 inb_S8x8x128_S1x8x128_6_0_0 inb_S8x1024_S8x128_0_768 u v x4 x5 x
  rcases List.mem_cons.mp hpc with rfl | hpc
  · exact fun x => piece 5 (by decide) 640 rfl slices_S8x1024_o0_640_S8x128 inb_S8x8x8_S1x8x8_5_0_0 inb_S8x8x128_S1x8x128_5_0_0 inb_S8x1024_S8x128_0_640 u v x4 x5 x
  rcases List.mem_cons.mp hpc with rfl | hpc
  · exact fun x => piece 4 (by decide) 512 rfl slices_S8x1024_o0_512_S8x128 inb_S8x8x8_S1x8x8_4_0_0 inb_S8x8x128_S1x8x128_4_0_0 inb_S8x1024_S8x128_0_512 u v x4 x5 x
  rcases List.mem_cons.mp hpc with rfl | hpc
  · exact fun x => piece 3 (by decide) 384 rfl slices_S8x1024_o0_384_S8x128 inb_S8x8x8_S1x8x8_3_0_0 inb_S8x8x128_S1x8x128_3_0_0 inb_S8x1024_S8x128_0_384 u v x4 x5 x
  rcases List.mem_cons.mp hpc with rfl | hpc
  · exact fun x => piece 2 (by decide) 256 rfl slices_S8x1024_o0_256_S8x128 inb_S8x8x8_S1x8x8_2_0_0 inb_S8x8x128_S1x8x128_2_0_0 inb_S8x1024_S8x128_0_256 u v x4 x5 x
  rcases List.mem_cons.mp hpc with rfl | hpc
  · exact fun x => piece 1 (by decide) 128 rfl slices_S8x1024_o0_128_S8x128 inb_S8x8x8_S1x8x8_1_0_0 inb_S8x8x128_S1x8x128_1_0_0 inb_S8x1024_S8x128_0_128 u v x4 x5 x
  rcases List.mem_cons.mp hpc with rfl | hpc
  · exact fun x => piece 0 (by decide) 0 rfl slices_S8x1024_o0_0_S8x128 inb_S8x8x8_S1x8x8_0_0_0 inb_S8x8x128_S1x8x128_0_0_0 inb_S8x1024_S8x128_0_0 u v x4 x5 x
  nomatch hpc

theorem out7_eq : out0_A_7 c i arg1 harg1 arg2 harg2 arg3 harg3 arg4 harg4 arg5 harg5 arg6 harg6 arg7 harg7 arg8 harg8 x0 x1 x2 x3 x4 x5
    = k0_pay6 (k0_pay4 x1) (k0_pay5 x1) x2 x3 := by
  have hz : (![0, 0] : Fin 2 → Nat) = fun _ => 0 := funext fun a => by fin_cases a <;> rfl
  unfold out0_A_7
  rw [View.read_writes_junk_eq_canon]
  funext y
  refine View.canon_apply_of_pieces (k0_pay6 (k0_pay4 x1) (k0_pay5 x1) x2 x3) _ ?_ y
    (cover0_A_7 c i arg1 harg1 arg2 harg2 arg3 harg3 arg4 harg4 arg5 harg5 arg6 harg6 arg7 harg7 arg8 harg8 x0 x1 x2 x3 x4 x5 y)
  intro pc hpc
  have l1 : View.ld x1 (Rect.unit (s := S8x1024) ![0, 0] S8x1024.size inb_S8x1024_S8x1024_0_0) = x1 := View.ld_unit_zero (S := S8x1024) hz _ _
  have l2 : View.ld x2 (Rect.unit (s := S1x1024) ![0, 0] S1x1024.size inb_S1x1024_S1x1024_0_0) = x2 := View.ld_unit_zero (S := S1x1024) hz _ _
  have l3 : View.ld x3 (Rect.unit (s := S1x1024) ![0, 0] S1x1024.size inb_S1x1024_S1x1024_0_0) = x3 := View.ld_unit_zero (S := S1x1024) hz _ _
  unfold kernelRun0_A kernelRun0_A.sl.r_1 kernelRun0_A.sl.r_2 at hpc
  simp only [View.readAt_eq_ld, harg2.read_unread, harg3.read_unread, harg4.read_unread, l1, l2, l3] at hpc
  rcases List.mem_cons.mp hpc with rfl | hpc
  · intro x
    refine congrArg (k0_pay6 (k0_pay4 x1) (k0_pay5 x1) x2 x3) (funext fun a => Fin.ext ?_)
    match a with
    | ⟨0, _⟩ => show (x 0).val = 0 + 1 * (x 0).val; omega
    | ⟨1, _⟩ => show (x 1).val = 0 + 1 * (x 1).val; omega
  nomatch hpc

end Cert.Proof.CMlp

end
-- ==== Proof.CMlpRef.lean ====
/- What the chunk-MLP reference computes, read entry by entry: the padded rows of a chunk meet only weights above the
   diagonal, so eight terms of the mixing sum remain. -/
module

public import proofs.«01_k».proof.Proof.Gen.CMlpRefIdeal.Read
public import proofs.«01_k».proof.Proof.CMlpBlock
public import Idealize.ShloMosaic.Lib.Pointwise

@[expose] public section

set_option maxRecDepth 16384

noncomputable section

namespace Cert.Proof.CMlp

open Cert.CMlpRefIdeal Cert.CMlpRefIdeal.Gen Cert.CMlpRefIdeal.Read Idealize.ShloMosaic Idealize.ShloMosaic.TcCoe Idealize.SL.Sem

variable (x0 : Vec Ideal S256x2304 .f32) (x1 x2 : Vec Ideal S1024 .f32) (x3 : Vec Ideal S8x128x128 .f32) (x4 : Vec Ideal S8x128 .f32)

/-- Sample row `r` of sequence `s`. -/
def rowOf (s : Fin 32) (r : Fin 8) : Fin 256 := ⟨s.val * 8 + r.val, by omega⟩

theorem ref_1 (s : Fin 32) (r : Fin 8) (j : Fin 2048) : val_main_v1 (F := Ideal) x0 (ix3 s r j) = x0 (ix2 (rowOf s r) (⟨j.val, by omega⟩ : Fin 2304)) := by
  rw [val_main_v1_apply, val_main_v0_apply]
  refine congrArg x0 (funext fun a => Fin.ext ?_)
  match a with
  | ⟨0, _⟩ => show ((s.val * 8 + r.val) * 2304 + j.val) / 2304 = s.val * 8 + r.val; omega
  | ⟨1, _⟩ => show ((s.val * 8 + r.val) * 2304 + j.val) % 2304 = j.val; omega

theorem ref_14 (s : Fin 32) (r : Fin 8) (j : Fin 2048) :
    val_main_v14 (F := Ideal) x0 (ix3 s r j) = gelu (x0 (ix2 (rowOf s r) (⟨j.val, by omega⟩ : Fin 2304))) := by
  rw [← ref_1 x0 s r j]
  have e : ∀ x : EReal, x * (x * x) = x * x * x := fun x => mul_comm _ _
  unfold gelu
  rw [e]
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply]
  rfl

/-- The gate rows before the norm. -/
def gates (s : Fin 32) (r : Fin 8) (k : Fin 1024) : EReal := gelu (x0 (ix2 (rowOf s r) (⟨1024 + k.val, by omega⟩ : Fin 2304)))

theorem ref_16 (s : Fin 32) (r : Fin 8) (j : Fin 1024) : val_main_v16 (F := Ideal) x0 (ix3 s r j) = gates x0 s r j :=
  (val_main_v16_apply x0 _).trans (ref_14 x0 s r (⟨1024 + j.val, by omega⟩ : Fin 2048))

theorem ref_15 (s : Fin 32) (r : Fin 8) (j : Fin 1024) :
    val_main_v15 (F := Ideal) x0 (ix3 s r j) = gelu (x0 (ix2 (rowOf s r) (⟨j.val, by omega⟩ : Fin 2304))) :=
  (val_main_v15_apply x0 _).trans (ref_14 x0 s r (⟨j.val, by omega⟩ : Fin 2048))

theorem at_row (i : S32x8.Idx) (s : Fin 32) (r : Fin 8) (h0 : i 0 = s) (h1 : i 1 = r) : i = ix2 s r :=
  funext fun a => match a with | ⟨0, _⟩ => h0 | ⟨1, _⟩ => h1

theorem at_entry (i : S32x8x1024.Idx) (s : Fin 32) (r : Fin 8) (j : Fin 1024) (h0 : i 0 = s) (h1 : i 1 = r) (h2 : i 2 = j) : i = ix3 s r j :=
  funext fun a => match a with | ⟨0, _⟩ => h0 | ⟨1, _⟩ => h1 | ⟨2, _⟩ => h2

theorem at_col (i : S1024.Idx) (j : Fin 1024) (h : i 0 = j) : i = ix1 j :=
  funext fun a => match a with | ⟨0, _⟩ => h

theorem at_tri (i : S128x128.Idx) (r k : Fin 128) (h0 : i 0 = r) (h1 : i 1 = k) : i = ix2 r k :=
  funext fun a => match a with | ⟨0, _⟩ => h0 | ⟨1, _⟩ => h1

theorem ref_22 (s : Fin 32) (r : Fin 8) (j : Fin 1024) : val_main_v22 (F := Ideal) x0 (ix3 s r j) = centre (gates x0 s r) j := by
  have h : val_main_v17 (F := Ideal) x0 (ix2 s r) = ∑ k, gates x0 s r k := by
    rw [val_main_v17_apply]
    refine (congrArg₂ (· + ·) (Ideal.ofBits_zero .f32) (Finset.sum_congr rfl fun k _ => ref_16 x0 s r k)).trans (zero_add _)
  have e : val_main_v22 (F := Ideal) x0 (ix3 s r j) = val_main_v16 (F := Ideal) x0 (ix3 s r j)
      - Ideal.div (val_main_v17 (F := Ideal) x0 (ix2 s r)) (Ideal.ofBits FTy.f32 0x44800000#32) := by
    simp only [val_main_v22_apply, val_main_v21_apply, val_main_v20_apply, val_main_v19_apply, val_main_v18_apply]
    rw [at_row (idx_main_v18 (idx_main_v21 (ix3 s r j))) s r rfl rfl]
    rfl
  rw [e, h, ref_16]
  rfl

theorem ref_38 (s : Fin 32) (r : Fin 8) (j : Fin 1024) :
    val_main_v38 (F := Ideal) x0 x1 x2 (ix3 s r j) = normed (gates x0 s r) (fun k => x1 (ix1 k)) (fun k => x2 (ix1 k)) j := by
  have h : val_main_v24 (F := Ideal) x0 (ix2 s r) = ∑ k, centre (gates x0 s r) k * centre (gates x0 s r) k := by
    rw [val_main_v24_apply]
    refine (congrArg₂ (· + ·) (Ideal.ofBits_zero .f32) (Finset.sum_congr rfl fun k _ => ?_)).trans (zero_add _)
    rw [val_main_v23_apply, at_entry (idx_main_v24 (ix2 s r) k) s r k rfl rfl rfl, ref_22]
    rfl
  have e : val_main_v38 (F := Ideal) x0 x1 x2 (ix3 s r j) = val_main_v22 (F := Ideal) x0 (ix3 s r j)
      * Ideal.rsqrt (Ideal.div (val_main_v24 (F := Ideal) x0 (ix2 s r)) (Ideal.ofBits FTy.f32 0x44800000#32) + Ideal.ofBits FTy.f32 0x358637BD#32)
      * x1 (ix1 j) + x2 (ix1 j) := by
    simp only [val_main_v38_apply, val_main_v37_apply, val_main_v36_apply, val_main_v35_apply, val_main_v34_apply, val_main_v33_apply, val_main_v32_apply,
      val_main_v31_apply, val_main_v30_apply, val_main_v29_apply, val_main_v28_apply, val_main_v27_apply, val_main_v26_apply, val_main_v25_apply]
    rw [at_row (idx_main_v25 (idx_main_v31 (ix3 s r j))) s r rfl rfl, at_col (idx_main_v33 (idx_main_v34 (ix3 s r j))) j rfl,
      at_col (idx_main_v36 (idx_main_v37 (ix3 s r j))) j rfl]
    rfl
  rw [e, h, ref_22]
  rfl

theorem row_split (R : Fin 256) : ∃ (s : Fin 32) (r : Fin 8), R = rowOf s r :=
  ⟨⟨R.val / 8, by omega⟩, ⟨R.val % 8, by omega⟩, Fin.ext (by show R.val = R.val / 8 * 8 + R.val % 8; omega)⟩

theorem ref_gate (s : Fin 32) (r : Fin 8) (j : Fin 1024) :
    val_main_v55 (F := Ideal) x0 x1 x2 (ix2 (rowOf s r) j) = normed (gates x0 s r) (fun k => x1 (ix1 k)) (fun k => x2 (ix1 k)) j := by
  rw [val_main_v55_apply, ← ref_38]
  refine congrArg (val_main_v38 (F := Ideal) x0 x1 x2) (funext fun a => Fin.ext ?_)
  match a with
  | ⟨0, _⟩ => show ((s.val * 8 + r.val) * 1024 + j.val) / 8192 = s.val; omega
  | ⟨1, _⟩ => show ((s.val * 8 + r.val) * 1024 + j.val) / 1024 % 8 = r.val; omega
  | ⟨2, _⟩ => show ((s.val * 8 + r.val) * 1024 + j.val) % 1024 = j.val; omega

/-! ## The mixing -/

theorem tri_le : ∀ (r : Fin 8) (k : Fin 128), IntOp.cmpi CmpIPredicate.sge (BitVec.ofNat 32 r.val) (BitVec.ofNat 32 k.val)
    = if k.val ≤ r.val then 1#1 else 0#1 := by
  decide +kernel

/-- The masked weight at the first eight rows. -/
theorem ref_43 (g : Fin 8) (r : Fin 8) (k : Fin 128) :
    val_main_v43 (F := Ideal) x3 (ix3 g (⟨r.val, by omega⟩ : Fin 128) k) = if k.val ≤ r.val then x3 (ix3 g (⟨r.val, by omega⟩ : Fin 128) k) else 0 := by
  have h4 : val_main_call1_v4 (F := Ideal) (ix2 (⟨r.val, by omega⟩ : Fin 128) k)
      = if k.val ≤ r.val then 1#1 else 0#1 := by
    rw [← tri_le]
    simp only [val_main_call1_v4_apply, val_main_call1_v3_apply, val_main_call1_v2_apply, val_main_call1_v1_apply, val_main_call1_v0_apply]
    rw [show val_main_call1_c (F := Ideal) (idx_main_call1_v1 (ix2 (⟨r.val, by omega⟩ : Fin 128) k)) = 0#32 from rfl]
    exact congrArg (fun z => IntOp.cmpi CmpIPredicate.sge z (BitVec.ofNat 32 k.val)) (BitVec.add_zero _)
  have e : val_main_v43 (F := Ideal) x3 (ix3 g (⟨r.val, by omega⟩ : Fin 128) k)
      = Scalar.select (Scalar.select (val_main_call1_v4 (F := Ideal) (ix2 (⟨r.val, by omega⟩ : Fin 128) k)) 1#1 0#1)
        (x3 (ix3 g (⟨r.val, by omega⟩ : Fin 128) k)) (Ideal.ofBits FTy.f32 0x00000000#32) := by
    simp only [val_main_v43_apply, val_main_call2_v1_apply, val_main_v42_apply, val_main_v41_apply, val_main_call1_v5_apply, val_main_call2_v2_apply]
    rw [at_tri (idx_main_call2_v1 (ix3 g (⟨r.val, by omega⟩ : Fin 128) k)) (⟨r.val, by omega⟩ : Fin 128) k rfl rfl]
    rfl
  rw [e, h4]
  split
  · rfl
  · refine Eq.trans ?_ (Ideal.ofBits_zero .f32)
    rfl

theorem ref_40 (s : Fin 32) (k : Fin 128) (g : Fin 8) (d : Fin 128) :
    val_main_v40 (F := Ideal) x0 x1 x2 (ix5 s 0 k g d) = if h : k.val < 8 then val_main_v38 (F := Ideal) x0 x1 x2 (ix3 s (⟨k.val, h⟩ : Fin 8) (⟨g.val * 128 + d.val, by omega⟩ : Fin 1024)) else 0 := by
  have e : val_main_v40 (F := Ideal) x0 x1 x2 (ix5 s 0 k g d) = val_main_v39 (F := Ideal) x0 x1 x2 (ix3 s k (⟨g.val * 128 + d.val, by omega⟩ : Fin 1024)) := by
    rw [val_main_v40_apply]
    refine congrArg (val_main_v39 (F := Ideal) x0 x1 x2) (funext fun a => Fin.ext ?_)
    match a with
    | ⟨0, _⟩ => show ((((s.val * 1 + 0) * 128 + k.val) * 8 + g.val) * 128 + d.val) / 131072 = s.val; omega
    | ⟨1, _⟩ => show ((((s.val * 1 + 0) * 128 + k.val) * 8 + g.val) * 128 + d.val) / 1024 % 128 = k.val; omega
    | ⟨2, _⟩ => show ((((s.val * 1 + 0) * 128 + k.val) * 8 + g.val) * 128 + d.val) % 1024 = g.val * 128 + d.val; omega
  rw [e]
  unfold val_main_v39
  generalize val_main_v38 (F := Ideal) x0 x1 x2 = y
  pointwise []
  have z : val_main_call0_v0 (F := Ideal) (Shape.Idx.first h_S_) = 0 := by
    rw [val_main_call0_v0_apply]
    exact (congrArg (fun n : ℤ => ((n : ℝ) : EReal)) (by decide : (0#32).toInt = 0)).trans (by norm_num)
  by_cases h : k.val < 8
  · rw [dif_pos h, dif_pos ⟨h, by omega⟩]
  · rw [dif_neg h, dif_neg fun q => h q.1, z]

theorem ref_44 (s : Fin 32) (r : Fin 8) (g : Fin 8) (d : Fin 128) :
    val_main_v44 (F := Ideal) x0 x1 x2 x3 (ix5 g s 0 d (⟨r.val, by omega⟩ : Fin 128)) = ∑ k : Fin 8,
      (if k ≤ r then x3 (ix3 g (⟨r.val, by omega⟩ : Fin 128) (⟨k.val, by omega⟩ : Fin 128)) else 0)
        * normed (gates x0 s k) (fun k => x1 (ix1 k)) (fun k => x2 (ix1 k)) (⟨g.val * 128 + d.val, by omega⟩ : Fin 1024) := by
  have e : val_main_v44 (F := Ideal) x0 x1 x2 x3 (ix5 g s 0 d (⟨r.val, by omega⟩ : Fin 128)) = ∑ k : Fin 128,
      (if k.val ≤ r.val then x3 (ix3 g (⟨r.val, by omega⟩ : Fin 128) k) else 0) * val_main_v40 (F := Ideal) x0 x1 x2 (ix5 s 0 k g d) := by
    rw [val_main_v44_apply]
    refine Finset.sum_congr rfl fun k _ => ?_
    rw [← ref_43, mul_comm]
    refine congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
      | ⟨3, _⟩ => rfl
      | ⟨4, _⟩ => rfl
  rw [e]
  refine (Fin.sum_univ_add (a := 8) (b := 120) _).trans ?_
  have z : (∑ k : Fin 120, (if (Fin.natAdd 8 k).val ≤ r.val then x3 (ix3 g (⟨r.val, by omega⟩ : Fin 128) (Fin.natAdd 8 k)) else 0)
      * val_main_v40 (F := Ideal) x0 x1 x2 (ix5 s 0 (Fin.natAdd 8 k) g d)) = 0 :=
    Finset.sum_eq_zero fun k _ => by
      rw [if_neg (by show ¬ 8 + k.val ≤ r.val; omega), zero_mul]
  refine (congrArg₂ (· + ·) (Finset.sum_congr rfl fun k _ => ?_) z).trans (add_zero _)
  rw [ref_40, dif_pos (show (Fin.castAdd 120 k).val < 8 from k.isLt), ref_38]
  rfl

/-- The mixed entry of a sample row. -/
theorem ref_out (s : Fin 32) (r : Fin 8) (j : Fin 1024) : val_main_v54 (F := Ideal) x0 x1 x2 x3 x4 (ix2 (rowOf s r) j)
    = gelu (x0 (ix2 (rowOf s r) (⟨j.val, by omega⟩ : Fin 2304)))
      * (∑ k : Fin 8, (if k ≤ r then x3 (ix3 (⟨j.val / 128, by omega⟩ : Fin 8) (⟨r.val, by omega⟩ : Fin 128) (⟨k.val, by omega⟩ : Fin 128)) else 0)
          * normed (gates x0 s k) (fun k => x1 (ix1 k)) (fun k => x2 (ix1 k)) j
        + x4 (ix2 (⟨j.val / 128, by omega⟩ : Fin 8) (⟨r.val, by omega⟩ : Fin 128))) := by
  have a : val_main_v54 (F := Ideal) x0 x1 x2 x3 x4 (ix2 (rowOf s r) j) = val_main_v53 (F := Ideal) x0 x1 x2 x3 x4 (ix3 s r j) := by
    rw [val_main_v54_apply]
    refine congrArg (val_main_v53 (F := Ideal) x0 x1 x2 x3 x4) (funext fun a => Fin.ext ?_)
    match a with
    | ⟨0, _⟩ => show ((s.val * 8 + r.val) * 1024 + j.val) / 8192 = s.val; omega
    | ⟨1, _⟩ => show ((s.val * 8 + r.val) * 1024 + j.val) / 1024 % 8 = r.val; omega
    | ⟨2, _⟩ => show ((s.val * 8 + r.val) * 1024 + j.val) % 1024 = j.val; omega
  have b : val_main_v52 (F := Ideal) x0 x1 x2 x3 x4 (ix3 s r j)
      = val_main_v50 (F := Ideal) x0 x1 x2 x3 x4 (ix5 s 0 (⟨r.val, by omega⟩ : Fin 128) (⟨j.val / 128, by omega⟩ : Fin 8) (⟨j.val % 128, by omega⟩ : Fin 128)) := by
    rw [val_main_v52_apply, val_main_v51_apply]
    refine congrArg (val_main_v50 (F := Ideal) x0 x1 x2 x3 x4) (funext fun a => Fin.ext ?_)
    match a with
    | ⟨0, _⟩ => show ((s.val * 128 + r.val) * 1024 + j.val) / 131072 = s.val; omega
    | ⟨1, _⟩ => rfl
    | ⟨2, _⟩ => show ((s.val * 128 + r.val) * 1024 + j.val) / 1024 % 128 = r.val; omega
    | ⟨3, _⟩ => show ((s.val * 128 + r.val) * 1024 + j.val) / 128 % 8 = j.val / 128; omega
    | ⟨4, _⟩ => show ((s.val * 128 + r.val) * 1024 + j.val) % 128 = j.val % 128; omega
  rw [a, val_main_v53_apply, ref_15, b, val_main_v50_apply, val_main_v45_apply]
  have d : val_main_v49 (F := Ideal) x4 (ix5 s 0 (⟨r.val, by omega⟩ : Fin 128) (⟨j.val / 128, by omega⟩ : Fin 8) (⟨j.val % 128, by omega⟩ : Fin 128))
      = x4 (ix2 (⟨j.val / 128, by omega⟩ : Fin 8) (⟨r.val, by omega⟩ : Fin 128)) := by
    simp only [val_main_v49_apply, val_main_v48_apply, val_main_v47_apply, val_main_v46_apply]
    refine congrArg x4 (funext fun a => ?_)
    match a with
    | ⟨0, _⟩ => rfl
    | ⟨1, _⟩ => rfl
  have q : idx_main_v45 (ix5 s 0 (⟨r.val, by omega⟩ : Fin 128) (⟨j.val / 128, by omega⟩ : Fin 8) (⟨j.val % 128, by omega⟩ : Fin 128))
      = ix5 (⟨j.val / 128, by omega⟩ : Fin 8) s 0 (⟨j.val % 128, by omega⟩ : Fin 128) (⟨r.val, by omega⟩ : Fin 128) := funext fun a => by
    match a with
    | ⟨0, _⟩ => rfl
    | ⟨1, _⟩ => rfl
    | ⟨2, _⟩ => rfl
    | ⟨3, _⟩ => rfl
    | ⟨4, _⟩ => rfl
  have p : (⟨j.val / 128 * 128 + j.val % 128, by omega⟩ : Fin 1024) = j := Fin.ext (by show j.val / 128 * 128 + j.val % 128 = j.val; omega)
  rw [d, q, ref_44]
  simp only [p]
  rfl

end Cert.Proof.CMlp

end
-- ==== Proof.CMlpValue.lean ====
/- The chunk-MLP kernel's two results are the reference's: a grid point takes one sequence's eight sample rows, normalises
   the gated half and mixes the rows of each group by the lower triangle of its weight. -/
module

public import proofs.«01_k».proof.Defs
public import proofs.«01_k».proof.Proof.Gen.CMlpIdeal.Value
public import proofs.«01_k».proof.Proof.Gen.CMlpRefIdeal.Read
public import proofs.«01_k».proof.Proof.Gen.CMlpRefIdeal.Run
public import proofs.«01_k».proof.Proof.CMlpRef
public import Idealize.ShloMosaic.Lib.Pointwise

@[expose] public section

set_option maxRecDepth 16384

noncomputable section

namespace Cert.Proof.CMlp

open Cert.CMlpIdeal Cert.CMlpIdeal.Gen Cert.CMlpIdeal.Value Idealize.ShloMosaic Idealize.ShloMosaic.TcCoe Idealize.SL.Sem
open Cert.CMlpRefIdeal.Read (val_main_v54 val_main_v55)

/-! ## The windows' blocks -/

variable (m : (ℓ : Loc nD τ sig) → Buf (Elt Ideal) ℓ) (ρ : Dev nD → PrngReg)

/-- The grid point's sequence. -/
def seq (t : Fin cfg0.N) : Fin 32 := ⟨t.val, t.isLt⟩

/-- Where each argument window's block lies at a grid point. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0) :=
  (by decide +kernel : ∀ t : Fin grid0.N, _)

theorem idx_out : ∀ t : Fin cfg0.N, win0_6.index t (0 : Fin 2) = t.val ∧ win0_6.index t (1 : Fin 2) = 0 :=
  (by decide +kernel : ∀ t : Fin grid0.N, _)

theorem idx_gate : ∀ t : Fin cfg0.N, win0_7.index t (0 : Fin 2) = t.val ∧ win0_7.index t (1 : Fin 2) = 0 :=
  (by decide +kernel : ∀ t : Fin grid0.N, _)

theorem in0 (c : Dev nD) (t : Fin cfg0.N) (r : Fin 8) (j : Fin 1024) : (X0_0 m c t : Vec Ideal S8x1024 .f32) (ix2 r j)
    = (m ((c : Thread nD τ).loc main_arg0) : Vec Ideal S256x2304 .f32) (ix2 (rowOf (seq t) r) (⟨j.val, by omega⟩ : Fin 2304)) := by
  obtain ⟨⟨e0, e1⟩, -⟩ := idx_facts t
  rw [← V_main_arg0 m c]
  unfold X0_0 Pipeline.Window.fill
  rw [dif_pos (moved0_0 t _)]
  refine congrArg (V m c main_arg0) (funext fun a => Fin.ext ?_)
  match a with
  | ⟨0, _⟩ => show win0_0.index t (0 : Fin 2) * 8 + 1 * r.val = t.val * 8 + r.val; omega
  | ⟨1, _⟩ => show win0_0.index t (1 : Fin 2) * 1024 + 1 * j.val = j.val; omega

theorem in1 (c : Dev nD) (t : Fin cfg0.N) (r : Fin 8) (j : Fin 1024) : (X0_1 m c t : Vec Ideal S8x1024 .f32) (ix2 r j)
    = (m ((c : Thread nD τ).loc main_arg0) : Vec Ideal S256x2304 .f32) (ix2 (rowOf (seq t) r) (⟨1024 + j.val, by omega⟩ : Fin 2304)) := by
  obtain ⟨-, ⟨e0, e1⟩, -⟩ := idx_facts t
  rw [← V_main_arg0 m c]
  unfold X0_1 Pipeline.Window.fill
  rw [dif_pos (moved0_1 t _)]
  refine congrArg (V m c main_arg0) (funext fun a => Fin.ext ?_)
  match a with
  | ⟨0, _⟩ => show win0_1.index t (0 : Fin 2) * 8 + 1 * r.val = t.val * 8 + r.val; omega
  | ⟨1, _⟩ => show win0_1.index t (1 : Fin 2) * 1024 + 1 * j.val = 1024 + j.val; omega

/-- The norm's gain. -/
theorem in2 (c : Dev nD) (t : Fin cfg0.N) (j : Fin 1024) : (iblk m c 2 t : Vec Ideal S1x1024 .f32) (ix2 0 j)
    = (m ((c : Thread nD τ).loc main_arg1) : Vec Ideal S1024 .f32) (ix1 j) := by
  have e : (V m c main_v0 : Vec Ideal S1x1024 .f32) = broadcastInDim S1x1024 ![1] bcast_S1024_S1x1024_1
      (m ((c : Thread nD τ).loc main_arg1) : Vec Ideal S1024 .f32) := by
    show StableHlo.after hostOps0 _ _ = _
    after_results
  obtain ⟨-, -, ⟨e0, e1⟩, -⟩ := idx_facts t
  refine Eq.trans (b := (V m c main_v0 : Vec Ideal S1x1024 .f32) (ix2 0 j)) (congrArg (V m c main_v0) (funext fun a => Fin.ext ?_)) ?_
  · match a with
    | ⟨0, _⟩ => show win0_2.index t (0 : Fin 2) * 1 + 1 * 0 = 0; omega
    | ⟨1, _⟩ => show win0_2.index t (1 : Fin 2) * 1024 + 1 * j.val = j.val; omega
  · rw [e]; pointwise []

/-- The norm's bias. -/
theorem in3 (c : Dev nD) (t : Fin cfg0.N) (j : Fin 1024) : (iblk m c 3 t : Vec Ideal S1x1024 .f32) (ix2 0 j)
    = (m ((c : Thread nD τ).loc main_arg2) : Vec Ideal S1024 .f32) (ix1 j) := by
  have e : (V m c main_v1 : Vec Ideal S1x1024 .f32) = broadcastInDim S1x1024 ![1] bcast_S1024_S1x1024_1
      (m ((c : Thread nD τ).loc main_arg2) : Vec Ideal S1024 .f32) := by
    show StableHlo.after hostOps0 _ _ = _
    after_results
  obtain ⟨-, -, -, ⟨e0, e1⟩, -⟩ := idx_facts t
  refine Eq.trans (b := (V m c main_v1 : Vec Ideal S1x1024 .f32) (ix2 0 j)) (congrArg (V m c main_v1) (funext fun a => Fin.ext ?_)) ?_
  · match a with
    | ⟨0, _⟩ => show win0_3.index t (0 : Fin 2) * 1 + 1 * 0 = 0; omega
    | ⟨1, _⟩ => show win0_3.index t (1 : Fin 2) * 1024 + 1 * j.val = j.val; omega
  · rw [e]; pointwise []

/-- The mixing weight's first eight rows and columns. -/
theorem in4 (c : Dev nD) (t : Fin cfg0.N) (g r k : Fin 8) : (iblk m c 4 t : Vec Ideal S8x8x8 .f32) (ix3 g r k)
    = (m ((c : Thread nD τ).loc main_arg3) : Vec Ideal S8x128x128 .f32) (ix3 g (⟨r.val, by omega⟩ : Fin 128) (⟨k.val, by omega⟩ : Fin 128)) := by
  have e : (V m c main_v2 : Vec Ideal S8x8x8 .f32) = extractStridedSlice S8x8x8 ![0, 0, 0]
      (m ((c : Thread nD τ).loc main_arg3) : Vec Ideal S8x128x128 .f32) slices_S8x128x128_S8x8x8_0_0_0 := by
    show StableHlo.after hostOps0 _ _ = _
    after_results
  obtain ⟨-, -, -, -, ⟨e0, e1, e2⟩, -⟩ := idx_facts t
  refine Eq.trans (b := (V m c main_v2 : Vec Ideal S8x8x8 .f32) (ix3 g r k)) (congrArg (V m c main_v2) (funext fun a => Fin.ext ?_)) ?_
  · match a with
    | ⟨0, _⟩ => show win0_4.index t (0 : Fin 3) * 8 + 1 * g.val = g.val; omega
    | ⟨1, _⟩ => show win0_4.index t (1 : Fin 3) * 8 + 1 * r.val = r.val; omega
    | ⟨2, _⟩ => show win0_4.index t (2 : Fin 3) * 8 + 1 * k.val = k.val; omega
  · rw [e]
    generalize (m ((c : Thread nD τ).loc main_arg3) : Vec Ideal S8x128x128 .f32) = x
    pointwise []

/-- The mixing bias, one entry per group and row, copied along the channels. -/
theorem in5 (c : Dev nD) (t : Fin cfg0.N) (g r : Fin 8) (d : Fin 128) : (iblk m c 5 t : Vec Ideal S8x8x128 .f32) (ix3 g r d)
    = (m ((c : Thread nD τ).loc main_arg4) : Vec Ideal S8x128 .f32) (ix2 g (⟨r.val, by omega⟩ : Fin 128)) := by
  have e : (V m c main_v5 : Vec Ideal S8x8x128 .f32) = broadcastInDim S8x8x128 ![0, 1, 2] bcast_S8x8x1_S8x8x128_0_1_2
      (broadcastInDim S8x8x1 ![0, 1] bcast_S8x8_S8x8x1_0_1 (extractStridedSlice S8x8 ![0, 0]
        (m ((c : Thread nD τ).loc main_arg4) : Vec Ideal S8x128 .f32) slices_S8x128_S8x8_0_0)) := by
    show StableHlo.after hostOps0 _ _ = _
    after_results
  obtain ⟨-, -, -, -, -, ⟨e0, e1, e2⟩⟩ := idx_facts t
  refine Eq.trans (b := (V m c main_v5 : Vec Ideal S8x8x128 .f32) (ix3 g r d)) (congrArg (V m c main_v5) (funext fun a => Fin.ext ?_)) ?_
  · match a with
    | ⟨0, _⟩ => show win0_5.index t (0 : Fin 3) * 8 + 1 * g.val = g.val; omega
    | ⟨1, _⟩ => show win0_5.index t (1 : Fin 3) * 8 + 1 * r.val = r.val; omega
    | ⟨2, _⟩ => show win0_5.index t (2 : Fin 3) * 128 + 1 * d.val = d.val; omega
  · rw [e]
    generalize (m ((c : Thread nD τ).loc main_arg4) : Vec Ideal S8x128 .f32) = x
    pointwise []

/-! ## The two results -/

/-- The reference's mixed rows as a function of the kernel's arguments. -/
def GM (c : Dev nD) : Vec Ideal S256x1024 .f32 :=
  val_main_v54 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's normalised gate rows as a function of the kernel's arguments. -/
def GG (c : Dev nD) : Vec Ideal S256x1024 .f32 :=
  val_main_v55 (F := Ideal) (m ((c : Thread nD τ).loc main_arg0)) (m ((c : Thread nD τ).loc main_arg1)) (m ((c : Thread nD τ).loc main_arg2))

/-- The gate rows a grid point stores. -/
abbrev gateBlk (c : Dev nD) (t : Fin cfg0.N) : FVec Ideal S8x1024 .f32 :=
  k0_pay6 (F := Ideal) (k0_pay4 (X0_1 m c t)) (k0_pay5 (X0_1 m c t)) (iblk m c 2 t) (iblk m c 3 t)

theorem gate_row (c : Dev nD) (t : Fin cfg0.N) (r : Fin 8) (j : Fin 1024) : gateBlk m c t (ix2 r j)
    = normed (gates (m ((c : Thread nD τ).loc main_arg0)) (seq t) r) (fun k => (m ((c : Thread nD τ).loc main_arg1) : Vec Ideal S1024 .f32) (ix1 k))
      (fun k => (m ((c : Thread nD τ).loc main_arg2) : Vec Ideal S1024 .f32) (ix1 k)) j := by
  refine (pay6_apply _ _ _ r j).trans ?_
  simp only [in1, in2, in3]
  rfl

theorem gate_at (c : Dev nD) (t : Fin cfg0.N) (r : Fin 8) (j : Fin 1024) : gateBlk m c t (ix2 r j) = GG m c (ix2 (rowOf (seq t) r) j) :=
  (gate_row m c t r j).trans (ref_gate _ _ _ (seq t) r j).symm

theorem mixed_at (c : Dev nD) (t : Fin cfg0.N) (r : Fin 8) (j : Fin 1024) :
    block (k0_pay3 (F := Ideal) (X0_0 m c t)) (gateBlk m c t) (iblk m c 4 t) (iblk m c 5 t) (ix2 r j) = GM m c (ix2 (rowOf (seq t) r) j) := by
  refine Eq.trans ?_ (ref_out _ _ _ _ _ (seq t) r j).symm
  show rowsOf (k0_pay3 (F := Ideal) (X0_0 m c t)) (gateBlk m c t) (iblk m c 4 t) (iblk m c 5 t) r j = _
  unfold rowsOf
  simp only [pay3_apply, gate_row, in0, in4, in5]

theorem spot6 (t : Fin cfg0.N) (r : Fin 8) (j : Fin 1024) : ix2 (rowOf (seq t) r) j = (win0_6.rect t).idx (ix2 r j) := by
  obtain ⟨e0, e1⟩ := idx_out t
  refine funext fun a => Fin.ext ?_
  match a with
  | ⟨0, _⟩ => show t.val * 8 + r.val = win0_6.index t (0 : Fin 2) * 8 + 1 * r.val; omega
  | ⟨1, _⟩ => show j.val = win0_6.index t (1 : Fin 2) * 1024 + 1 * j.val; omega

theorem spot7 (t : Fin cfg0.N) (r : Fin 8) (j : Fin 1024) : ix2 (rowOf (seq t) r) j = (win0_7.rect t).idx (ix2 r j) := by
  obtain ⟨e0, e1⟩ := idx_gate t
  refine funext fun a => Fin.ext ?_
  match a with
  | ⟨0, _⟩ => show t.val * 8 + r.val = win0_7.index t (0 : Fin 2) * 8 + 1 * r.val; omega
  | ⟨1, _⟩ => show j.val = win0_7.index t (1 : Fin 2) * 1024 + 1 * j.val; omega

theorem flushed6_eq (c : Dev nD) (t : Fin cfg0.N) :
    (dats m 0 c).flushed 6 t = ((cfg0.win 6).blk t).view.read (Elt Ideal) (GM m c) := by
  rw [flushed6_A, out6_eq]
  funext y
  obtain ⟨r, j, rfl⟩ : ∃ (r : Fin 8) (j : Fin 1024), y = ix2 r j := ⟨y 0, y 1, eq_ix2 y⟩
  refine Eq.trans (b := block (k0_pay3 (F := Ideal) (X0_0 m c t)) (gateBlk m c t) (iblk m c 4 t) (iblk m c 5 t) (ix2 r j)) rfl ((mixed_at m c t r j).trans ?_)
  exact congrArg (GM m c) (spot6 t r j)

theorem covered6 (i : S256x1024.Idx) : ∃ t : Fin cfg0.N, (cfg0.win 6).flush t = true ∧ i ∈ ((cfg0.win 6).blk t).view.set := by
  obtain ⟨n, j, rfl⟩ : ∃ (n : Fin 256) (j : Fin 1024), i = ix2 n j := ⟨i 0, i 1, eq_ix2 i⟩
  have hN : n.val / 8 < cfg0.N := by have : cfg0.N = 32 := rfl; omega
  refine ⟨⟨n.val / 8, hN⟩, flush0_6 _, ?_⟩
  obtain ⟨e0, e1⟩ := idx_out ⟨n.val / 8, hN⟩
  have e0' : win0_6.index ⟨n.val / 8, hN⟩ (0 : Fin 2) = n.val / 8 := e0
  show ix2 n j ∈ ((View.whole main_v6_0).slice (win0_6.rect ⟨n.val / 8, hN⟩)).set
  rw [View.set_slice_whole, Rect.mem_set_unit]
  intro a
  match a with
  | ⟨0, _⟩ => show win0_6.index ⟨n.val / 8, hN⟩ (0 : Fin 2) * 8 ≤ n.val ∧ n.val < win0_6.index ⟨n.val / 8, hN⟩ (0 : Fin 2) * 8 + 8; omega
  | ⟨1, _⟩ => show win0_6.index ⟨n.val / 8, hN⟩ (1 : Fin 2) * 1024 ≤ j.val ∧ j.val < win0_6.index ⟨n.val / 8, hN⟩ (1 : Fin 2) * 1024 + 1024; omega

theorem final6 (c : Dev nD) : (dats m 0 c).arrAt 6 cfg0.N = GM m c :=
  (dats m 0 c).arrAt_eq_of_cover 6 (GM m c) (fun t _ => flushed6_eq m c t) covered6

theorem flushed7_eq (c : Dev nD) (t : Fin cfg0.N) :
    (dats m 0 c).flushed 7 t = ((cfg0.win 7).blk t).view.read (Elt Ideal) (GG m c) := by
  rw [flushed7_A, out7_eq]
  funext y
  obtain ⟨r, j, rfl⟩ : ∃ (r : Fin 8) (j : Fin 1024), y = ix2 r j := ⟨y 0, y 1, eq_ix2 y⟩
  refine Eq.trans (b := gateBlk m c t (ix2 r j)) rfl ((gate_at m c t r j).trans ?_)
  exact congrArg (GG m c) (spot7 t r j)

theorem covered7 (i : S256x1024.Idx) : ∃ t : Fin cfg0.N, (cfg0.win 7).flush t = true ∧ i ∈ ((cfg0.win 7).blk t).view.set := by
  obtain ⟨n, j, rfl⟩ : ∃ (n : Fin 256) (j : Fin 1024), i = ix2 n j := ⟨i 0, i 1, eq_ix2 i⟩
  have hN : n.val / 8 < cfg0.N := by have : cfg0.N = 32 := rfl; omega
  refine ⟨⟨n.val / 8, hN⟩, flush0_7 _, ?_⟩
  obtain ⟨e0, e1⟩ := idx_gate ⟨n.val / 8, hN⟩
  have e0' : win0_7.index ⟨n.val / 8, hN⟩ (0 : Fin 2) = n.val / 8 := e0
  show ix2 n j ∈ ((View.whole main_v6_1).slice (win0_7.rect ⟨n.val / 8, hN⟩)).set
  rw [View.set_slice_whole, Rect.mem_set_unit]
  intro a
  match a with
  | ⟨0, _⟩ => show win0_7.index ⟨n.val / 8, hN⟩ (0 : Fin 2) * 8 ≤ n.val ∧ n.val < win0_7.index ⟨n.val / 8, hN⟩ (0 : Fin 2) * 8 + 8; omega
  | ⟨1, _⟩ => show win0_7.index ⟨n.val / 8, hN⟩ (1 : Fin 2) * 1024 ≤ j.val ∧ j.val < win0_7.index ⟨n.val / 8, hN⟩ (1 : Fin 2) * 1024 + 1024; omega

theorem final7 (c : Dev nD) : (dats m 0 c).arrAt 7 cfg0.N = GG m c :=
  (dats m 0 c).arrAt_eq_of_cover 7 (GG m c) (fun t _ => flushed7_eq m c t) covered7

/-- The value claim: from memories that agree on the arguments, the kernel and the reference end with the same mixed rows
    and the same gate rows. -/
theorem algebraic : Cert.algebraic_CMlpIdeal_CMlpRefIdeal := by
  intro m g m' g' _ hm
  refine ⟨fun c => GM m c, fun c => GG m c, ?_, ?_⟩
  · exact (θ_run defs _ _).mono (fun r h c => ⟨(h c).1.trans (final6 m c), (h c).2.1.trans (final7 m c), (h c).2.2⟩) (run_blocks m g)
  · refine (θ_run Cert.CMlpRefIdeal.defs _ _).mono (fun r h c => ⟨(h c).1.trans ?_, (h c).2.1.trans ?_, (h c).2.2⟩) (Cert.CMlpRefIdeal.Value.run m' g')
    · rw [Cert.CMlpRefIdeal.Read.val_main_v54_eq]
      obtain ⟨e0, e1, e2, e3, e4⟩ := hm c
      show val_main_v54 (F := Ideal) (m' ((c.tc : Thread Cert.CMlpRefIdeal.nD Cert.CMlpRefIdeal.τ).loc Cert.CMlpRefIdeal.main_arg0)) (m' ((c.tc : Thread Cert.CMlpRefIdeal.nD Cert.CMlpRefIdeal.τ).loc Cert.CMlpRefIdeal.main_arg1)) (m' ((c.tc : Thread Cert.CMlpRefIdeal.nD Cert.CMlpRefIdeal.τ).loc Cert.CMlpRefIdeal.main_arg2)) (m' ((c.tc : Thread Cert.CMlpRefIdeal.nD Cert.CMlpRefIdeal.τ).loc Cert.CMlpRefIdeal.main_arg3)) (m' ((c.tc : Thread Cert.CMlpRefIdeal.nD Cert.CMlpRefIdeal.τ).loc Cert.CMlpRefIdeal.main_arg4)) = GM m c
      unfold GM
      rw [e0, e1, e2, e3, e4]
    · rw [Cert.CMlpRefIdeal.Read.val_main_v55_eq]
      obtain ⟨e0, e1, e2, e3, e4⟩ := hm c
      show val_main_v55 (F := Ideal) (m' ((c.tc : Thread Cert.CMlpRefIdeal.nD Cert.CMlpRefIdeal.τ).loc Cert.CMlpRefIdeal.main_arg0)) (m' ((c.tc : Thread Cert.CMlpRefIdeal.nD Cert.CMlpRefIdeal.τ).loc Cert.CMlpRefIdeal.main_arg1)) (m' ((c.tc : Thread Cert.CMlpRefIdeal.nD Cert.CMlpRefIdeal.τ).loc Cert.CMlpRefIdeal.main_arg2)) = GG m c
      unfold GG
      rw [e0, e1, e2]

end Cert.Proof.CMlp

end
-- ==== Proof.PrepTBlock.lean ====
/- What one grid point of the FoX preparation leaves in its blocks, read at an index: the queries and the keys normalised head by
   head, the values transposed, the log gates transposed. -/
module

public import proofs.«01_k».proof.Proof.Gen.PrepTIdeal.Value
public import Idealize.ShloMosaic.Lib.Pointwise
public import proofs.«01_k».proof.Proof.Ext

@[expose] public section

set_option maxRecDepth 16384

noncomputable section

namespace Cert.Proof.PrepT

open Cert.PrepTIdeal Cert.PrepTIdeal.Gen Cert.Proof.Ext Idealize.ShloMosaic Idealize.ShloMosaic.TcCoe

/-- Column `d` of head `h`. -/
def col (h : Fin 16) (d : Fin 64) : Fin 1024 := ⟨h.val * 64 + d.val, by omega⟩

/-- An entry of a row normalised within its head: `f` is the head's 64 entries. -/
def unit (f : Fin 64 → EReal) (d : Fin 64) : EReal :=
  f d * Ideal.rsqrt (Ideal.div (∑ e : Fin 64, f e * f e) (Ideal.ofBits FTy.f32 0x42800000#32) + Ideal.ofBits FTy.f32 0x358637BD#32)

/-- The log gate of a raw gate `y`: the negated softplus of `-y`. -/
def logGate (y : EReal) : EReal := -(max (-y) 0 + Ideal.log1p (Ideal.exp (-(max (-y) (-(-y))))))

/-- The sums of one group of four heads: the group's columns split in three parts, each multiplied by the head mask. -/
def groupSum (o : Nat) (hs : S256x1024.Slices ![0, o] S256x256) (s : FVec Ideal S256x1024 .f32) (M : FVec Ideal S256x256 .bf16) : FVec Ideal S256x256 .f32 :=
  let v : FVec Ideal S256x256 .f32 := extractStridedSlice S256x256 ![0, o] s hs
  let p : FVec Ideal S256x256 .bf16 := truncf .bf16 v bitsLt_bf16_f32
  let w : FVec Ideal S256x256 .f32 := subf v (extf .f32 p bitsLt_bf16_f32)
  let q : FVec Ideal S256x256 .bf16 := truncf .bf16 w bitsLt_bf16_f32
  let r : FVec Ideal S256x256 .bf16 := truncf .bf16 (subf w (extf .f32 q bitsLt_bf16_f32)) bitsLt_bf16_f32
  addf (addf (matmul dot_S256x256_S256x256_S256x256_1_0_0_1_n_n none p M (constant S256x256 .f32 0x00000000#32))
    (matmul dot_S256x256_S256x256_S256x256_1_0_0_1_n_n none q M (constant S256x256 .f32 0x00000000#32)))
    (matmul dot_S256x256_S256x256_S256x256_1_0_0_1_n_n none r M (constant S256x256 .f32 0x00000000#32))

/-- Four groups side by side. -/
def side (f : Fin 4 → FVec Ideal S256x256 .f32) : FVec Ideal S256x1024 .f32 :=
  concatenate S256x1024 1 [⟨S256x256, f 0⟩, ⟨S256x256, f 1⟩, ⟨S256x256, f 2⟩, ⟨S256x256, f 3⟩] concatenates_S256x256_S256x256_S256x256_S256x256_S256x1024_d1

/-- The rows normalised head by head, from the sums of squares of their heads. -/
def scaleRows (x s : FVec Ideal S256x1024 .f32) : FVec Ideal S256x1024 .f32 :=
  mulf x (rsqrt (addf (mulf s (broadcast S256x1024 (Scalar.ofBits .f32 0x3C800000#32 : Ideal .f32)))
    (broadcast S256x1024 (Scalar.ofBits .f32 0x358637BD#32 : Ideal .f32))))

/-- The four groups of a block of squares. -/
def groups (s : FVec Ideal S256x1024 .f32) (M : FVec Ideal S256x256 .bf16) : Fin 4 → FVec Ideal S256x256 .f32 :=
  ![groupSum 0 slices_S256x1024_o0_0_S256x256 s M, groupSum 256 slices_S256x1024_o0_256_S256x256 s M,
    groupSum 512 slices_S256x1024_o0_512_S256x256 s M, groupSum 768 slices_S256x1024_o0_768_S256x256 s M]

/-- The block's rows normalised head by head. -/
def unitRows (x : FVec Ideal S256x1024 .f32) (M : FVec Ideal S256x256 .bf16) : FVec Ideal S256x1024 .f32 :=
  scaleRows x (side (groups (mulf x x) M))

theorem side_apply (f : Fin 4 → FVec Ideal S256x256 .f32) (r : Fin 256) (p : Fin 4) (k : Fin 256) (c : Fin 1024) (hc : c.val = p.val * 256 + k.val) :
    side f (ix2 r c) = f p (ix2 r k) := by
  unfold side
  match p with
  | ⟨0, _⟩ =>
    refine concatenate_apply_piece (t := S256x1024) 1 _ _ _ 0 (by simp) S256x256 _ rfl rfl 0 rfl (ix2 r k) (fun a ha => ?_) ?_
    · match a with
      | ⟨0, _⟩ => rfl
      | ⟨1, _⟩ => exact absurd rfl ha
    · have hv : c.val = 0 * 256 + k.val := hc
      show 0 + k.val = c.val
      omega
  | ⟨1, _⟩ =>
    refine concatenate_apply_piece (t := S256x1024) 1 _ _ _ 1 (by simp) S256x256 _ rfl rfl 256 rfl (ix2 r k) (fun a ha => ?_) ?_
    · match a with
      | ⟨0, _⟩ => rfl
      | ⟨1, _⟩ => exact absurd rfl ha
    · have hv : c.val = 1 * 256 + k.val := hc
      show 256 + k.val = c.val
      omega
  | ⟨2, _⟩ =>
    refine concatenate_apply_piece (t := S256x1024) 1 _ _ _ 2 (by simp) S256x256 _ rfl rfl 512 rfl (ix2 r k) (fun a ha => ?_) ?_
    · match a with
      | ⟨0, _⟩ => rfl
      | ⟨1, _⟩ => exact absurd rfl ha
    · have hv : c.val = 2 * 256 + k.val := hc
      show 512 + k.val = c.val
      omega
  | ⟨3, _⟩ =>
    refine concatenate_apply_piece (t := S256x1024) 1 _ _ _ 3 (by simp) S256x256 _ rfl rfl 768 rfl (ix2 r k) (fun a ha => ?_) ?_
    · match a with
      | ⟨0, _⟩ => rfl
      | ⟨1, _⟩ => exact absurd rfl ha
    · have hv : c.val = 3 * 256 + k.val := hc
      show 768 + k.val = c.val
      omega

section Rows

variable (M : Vec Ideal S256x256 .bf16) (hM : ∀ j c : Fin 256, M (ix2 j c) = if j.val / 64 = c.val / 64 then 1 else 0)

include hM in
/-- A group's sum at a column: its split parts add zeros to the column's head's sum. -/
theorem groupSum_apply (o : Nat) (hs : S256x1024.Slices ![0, o] S256x256) (ho : o + 256 ≤ 1024) (s : FVec Ideal S256x1024 .f32)
    (r : Fin 256) (hr : ∀ c, IsReal (s (ix2 r c))) (h : Fin 4) (c : Fin 256) (hc : c.val / 64 = h.val) :
    groupSum o hs s M (ix2 r c) = ∑ e : Fin 64, s (ix2 r ⟨o + (h.val * 64 + e.val), by omega⟩) := by
  have hz : ∀ x : Fin 256, s (ix2 r ⟨o + x.val, by omega⟩) - s (ix2 r ⟨o + x.val, by omega⟩) = 0 := fun x => (hr _).sub_self
  have hs' : ∑ x : Fin 256, s (ix2 r ⟨o + x.val, by omega⟩) * M (ix2 x c) = ∑ e : Fin 64, s (ix2 r ⟨o + (h.val * 64 + e.val), by omega⟩) := by
    refine Eq.trans (Finset.sum_congr rfl fun x _ => ?_) (sum_head (fun x => s (ix2 r ⟨o + x.val, by omega⟩)) h)
    rw [hM, hc, mul_ite, mul_one, mul_zero]
  unfold groupSum
  pointwise []
  simp only [hz, hs', zero_mul, Finset.sum_const_zero, add_zero, sub_zero]

include hM in
theorem groups_apply (s : FVec Ideal S256x1024 .f32) (r : Fin 256) (hr : ∀ c, IsReal (s (ix2 r c))) (h : Fin 16) (d : Fin 64) :
    side (groups s M) (ix2 r (col h d)) = ∑ e : Fin 64, s (ix2 r (col h e)) := by
  have G : ∀ (o : Nat) (hs : S256x1024.Slices ![0, o] S256x256) (ho : o = h.val / 4 * 256),
      groupSum o hs s M (ix2 r ⟨h.val % 4 * 64 + d.val, by omega⟩) = ∑ e : Fin 64, s (ix2 r (col h e)) := fun o hs ho => by
    refine (groupSum_apply M hM o hs (by omega) s r hr ⟨h.val % 4, by omega⟩ _ (by show (h.val % 4 * 64 + d.val) / 64 = h.val % 4; omega)).trans ?_
    refine Finset.sum_congr rfl fun e _ => congrArg s (congrArg (ix2 r) (Fin.ext ?_))
    show o + (h.val % 4 * 64 + e.val) = h.val * 64 + e.val
    omega
  rw [side_apply (groups s M) r ⟨h.val / 4, by omega⟩ ⟨h.val % 4 * 64 + d.val, by omega⟩ (col h d)
    (by show h.val * 64 + d.val = h.val / 4 * 256 + (h.val % 4 * 64 + d.val); omega)]
  generalize hp : (⟨h.val / 4, by omega⟩ : Fin 4) = p
  have hv : h.val / 4 = p.val := congrArg Fin.val hp
  match p with
  | ⟨0, _⟩ => exact G 0 slices_S256x1024_o0_0_S256x256 (by simpa using hv)
  | ⟨1, _⟩ => exact G 256 slices_S256x1024_o0_256_S256x256 (by rw [hv]; rfl)
  | ⟨2, _⟩ => exact G 512 slices_S256x1024_o0_512_S256x256 (by rw [hv]; rfl)
  | ⟨3, _⟩ => exact G 768 slices_S256x1024_o0_768_S256x256 (by rw [hv]; rfl)

theorem scaleRows_apply (x s : FVec Ideal S256x1024 .f32) (r : Fin 256) (c : Fin 1024) :
    scaleRows x s (ix2 r c) = x (ix2 r c) * Ideal.rsqrt (s (ix2 r c) * Ideal.ofBits FTy.f32 0x3C800000#32 + Ideal.ofBits FTy.f32 0x358637BD#32) := by
  unfold scaleRows
  pointwise []

include hM in
/-- The normalised rows, read at a head and a column of the head. -/
theorem unitRows_apply (x : FVec Ideal S256x1024 .f32) (r : Fin 256) (hr : ∀ c, IsReal (x (ix2 r c))) (h : Fin 16) (d : Fin 64) :
    unitRows x M (ix2 r (col h d)) = unit (fun e => x (ix2 r (col h e))) d := by
  unfold unitRows
  rw [scaleRows_apply, groups_apply M hM (mulf x x) r (fun c => (hr c).mul (hr c)), ← div_64]
  rfl

/-- The queries' block. -/
def qBlock (x : Vec Ideal S256x1024 .f32) (g : Vec Ideal S1x1024 .f32) : Vec Ideal S256x1024 .f32 :=
  k0_pay13 (k0_pay3 M) x (k0_pay4 g) (k0_pay5 x) (k0_pay6 M x) (k0_pay7 M x) (k0_pay9 x) (k0_pay11 x) (k0_pay12 x)

/-- The keys' block. -/
def kBlock (x : Vec Ideal S256x1024 .f32) (g : Vec Ideal S1x1024 .f32) : Vec Ideal S1x1024x256 .f32 :=
  k0_pay23 (k0_pay14 g) (k0_pay22 (k0_pay3 M) x (k0_pay15 x) (k0_pay20 x) (k0_pay21 (k0_pay3 M) x))

include hM in
theorem qBlock_apply (x : Vec Ideal S256x1024 .f32) (g : Vec Ideal S1x1024 .f32) (r : Fin 256) (hr : ∀ c, IsReal (x (ix2 r c))) (h : Fin 16) (d : Fin 64) :
    qBlock M x g (ix2 r (col h d)) = unit (fun e => x (ix2 r (col h e))) d * g (ix2 0 (col h d)) := by
  have eM : k0_pay3 M = M := by unfold k0_pay3; exact shapeCast_self _ _
  have eg : k0_pay4 g = g := by unfold k0_pay4; exact shapeCast_self _ _
  have e : qBlock M x g = mulf (unitRows x (k0_pay3 M)) (broadcastTo S256x1024 (k0_pay4 g) broadcasts_S1x1024_S256x1024) := rfl
  rw [e, eM, eg, ← unitRows_apply M hM x r hr]
  generalize unitRows x M = u
  pointwise []

include hM in
theorem kBlock_apply (x : Vec Ideal S256x1024 .f32) (g : Vec Ideal S1x1024 .f32) (r : Fin 256) (hr : ∀ c, IsReal (x (ix2 r c))) (h : Fin 16) (d : Fin 64) :
    kBlock M x g (ix3 0 (col h d) r) = unit (fun e => x (ix2 r (col h e))) d * g (ix2 0 (col h d)) := by
  have eM : k0_pay3 M = M := by unfold k0_pay3; exact shapeCast_self _ _
  have eg : k0_pay14 g = g := by unfold k0_pay14; exact shapeCast_self _ _
  have e : kBlock M x g = k0_pay23 (k0_pay14 g) (unitRows x (k0_pay3 M)) := rfl
  rw [e, eM, eg, ← unitRows_apply M hM x r hr]
  generalize unitRows x M = u
  unfold k0_pay23
  pointwise []

end Rows

/-- The values' block: the rows transposed. -/
theorem vBlock_apply (x : Vec Ideal S256x1024 .f32) (r : Fin 256) (c : Fin 1024) : k0_pay24 x (ix3 0 c r) = x (ix2 r c) := by
  unfold k0_pay24
  pointwise []

/-- A raw gate's log gate, as the body computes it. -/
theorem gate_apply (x : Vec Ideal S256x128 .f32) (b : Vec Ideal S1x128 .f32) (r : Fin 256) (k : Fin 128) :
    k0_pay25 x b (ix2 r k) = logGate (x (ix2 r k) + b (ix2 0 k)) := by
  unfold k0_pay25
  pointwise []
  generalize x (ix2 r k) + b (ix2 0 k) = y
  unfold logGate
  rw [if_neg (fun h => h rfl)]
  simp only [zero_sub]
  rfl

/-- The log gates' block: the first 16 columns transposed. -/
theorem fBlock_apply (y : FVec Ideal S256x128 .f32) (r : Fin 256) (k : Fin 16) :
    k0_pay29 y (ix3 0 k r) = y (ix2 r ⟨k.val, by omega⟩) := by
  unfold k0_pay29
  pointwise []

end Cert.Proof.PrepT

end
-- ==== Proof.PrepTRef.lean ====
/- The FoX preparation's reference, read at an index: the queries and the keys normalised head by head, the values, the log gates. -/
module

public import proofs.«01_k».proof.Proof.Gen.PrepTRefIdeal.Read
public import proofs.«01_k».proof.Proof.PrepTBlock

@[expose] public section

set_option maxRecDepth 16384

noncomputable section

namespace Cert.Proof.PrepT

open Cert.PrepTRefIdeal Cert.PrepTRefIdeal.Read Cert.Proof.Ext Idealize.ShloMosaic Idealize.ShloMosaic.TcCoe

variable (a0 : Vec Ideal S16384x4480 .f32) (a1 a2 : Vec Ideal S64 .f32) (a3 : Vec Ideal S16 .f32)

/-- Row `s` of batch element `b`. -/
def seqRow (b : Fin 8) (s : Fin 2048) : Fin 16384 := ⟨b.val * 2048 + s.val, by omega⟩

/-- The columns the reference keeps, first those of queries, keys, values and output gate. -/
theorem keep_main (R : Fin 16384) (k : Fin 4112) (hk : k.val < 4096) :
    val_main_v2 (F := Ideal) a0 (ix2 R k) = a0 (ix2 R ⟨k.val, by omega⟩) := by
  refine (concatenate_pair_apply_left (t := S16384x4112) 1 (val_main_v0 (F := Ideal) a0) (val_main_v1 (F := Ideal) a0) _ (ix2 R k) rfl
    (ix2 R ⟨k.val, hk⟩) (fun a => ?_)).trans ?_
  · match a with
    | ⟨0, _⟩ => rfl
    | ⟨1, _⟩ => rfl
  · rw [val_main_v0_apply]
    exact congrArg a0 (funext fun a => Fin.ext (by match a with
      | ⟨0, _⟩ => rfl
      | ⟨1, _⟩ => rfl))

/-- The rows, batch element by batch element. -/
theorem idx_rows (b : Fin 8) (s : Fin 2048) (k : Fin 4112) : idx_main_v3 (ix3 b s k) = ix2 (seqRow b s) k := funext fun a => Fin.ext (match a with
  | ⟨0, _⟩ => by show ((b.val * 2048 + s.val) * 4112 + k.val) / 4112 = b.val * 2048 + s.val; omega
  | ⟨1, _⟩ => by show ((b.val * 2048 + s.val) * 4112 + k.val) % 4112 = k.val; omega)

/-- The columns, head by head. -/
theorem idx_heads (b : Fin 8) (s : Fin 2048) (h : Fin 16) (d : Fin 64) :
    idx_main_v9 (ix4 b s h d) = ix3 b s (⟨h.val * 64 + d.val, by omega⟩ : Fin 1024) := funext fun a => Fin.ext (match a with
  | ⟨0, _⟩ => by show (((b.val * 2048 + s.val) * 16 + h.val) * 64 + d.val) / 2097152 = b.val; omega
  | ⟨1, _⟩ => by show (((b.val * 2048 + s.val) * 16 + h.val) * 64 + d.val) / 1024 % 2048 = s.val; omega
  | ⟨2, _⟩ => by show (((b.val * 2048 + s.val) * 16 + h.val) * 64 + d.val) % 1024 = h.val * 64 + d.val; omega)

/-- A kept column of a batch element's row. -/
theorem kept (b : Fin 8) (s : Fin 2048) (k : Fin 4112) (hk : k.val < 4096) (i : S8x2048x4112.Idx) (hi : i = ix3 b s k) :
    val_main_v3 (F := Ideal) a0 i = a0 (ix2 (seqRow b s) ⟨k.val, by omega⟩) := by
  rw [hi, val_main_v3_apply, idx_rows, keep_main a0 (seqRow b s) k hk]

/-- The queries, head by head. -/
theorem ref_q (b : Fin 8) (s : Fin 2048) (h : Fin 16) (d : Fin 64) :
    val_main_v9 (F := Ideal) a0 (ix4 b s h d) = a0 (ix2 (seqRow b s) ⟨h.val * 64 + d.val, by omega⟩) := by
  have e : idx_main_v9 (ix4 b s h d) = ix3 b s (⟨h.val * 64 + d.val, by omega⟩ : Fin 1024) := idx_heads b s h d
  rw [val_main_v9_apply, e, val_main_v4_apply]
  exact kept a0 b s ⟨h.val * 64 + d.val, by omega⟩ (by show h.val * 64 + d.val < 4096; omega) _ (funext fun a => match a with
    | ⟨0, _⟩ => rfl
    | ⟨1, _⟩ => rfl
    | ⟨2, _⟩ => rfl)

/-- The keys, head by head. -/
theorem ref_k (b : Fin 8) (s : Fin 2048) (h : Fin 16) (d : Fin 64) :
    val_main_v23 (F := Ideal) a0 (ix4 b s h d) = a0 (ix2 (seqRow b s) ⟨1024 + (h.val * 64 + d.val), by omega⟩) := by
  have e : idx_main_v23 (ix4 b s h d) = ix3 b s (⟨h.val * 64 + d.val, by omega⟩ : Fin 1024) := idx_heads b s h d
  rw [val_main_v23_apply, e, val_main_v5_apply]
  exact kept a0 b s ⟨1024 + (h.val * 64 + d.val), by omega⟩ (by show 1024 + (h.val * 64 + d.val) < 4096; omega) _ (funext fun a => match a with
    | ⟨0, _⟩ => rfl
    | ⟨1, _⟩ => rfl
    | ⟨2, _⟩ => rfl)

/-- The values, head by head. -/
theorem ref_v (b : Fin 8) (s : Fin 2048) (h : Fin 16) (d : Fin 64) :
    val_main_v41 (F := Ideal) a0 (ix4 b s h d) = a0 (ix2 (seqRow b s) ⟨2048 + (h.val * 64 + d.val), by omega⟩) := by
  have e : idx_main_v41 (ix4 b s h d) = ix3 b s (⟨h.val * 64 + d.val, by omega⟩ : Fin 1024) := idx_heads b s h d
  rw [val_main_v41_apply, e, val_main_v6_apply]
  exact kept a0 b s ⟨2048 + (h.val * 64 + d.val), by omega⟩ (by show 2048 + (h.val * 64 + d.val) < 4096; omega) _ (funext fun a => match a with
    | ⟨0, _⟩ => rfl
    | ⟨1, _⟩ => rfl
    | ⟨2, _⟩ => rfl)

/-- The raw gates. -/
theorem ref_raw (b : Fin 8) (s : Fin 2048) (k : Fin 16) :
    val_main_v8 (F := Ideal) a0 (ix3 b s k) = a0 (ix2 (seqRow b s) ⟨4352 + k.val, by omega⟩) := by
  have e : val_main_v2 (F := Ideal) a0 (ix2 (seqRow b s) ⟨4096 + k.val, by omega⟩) = a0 (ix2 (seqRow b s) ⟨4352 + k.val, by omega⟩) := by
    refine (concatenate_pair_apply_right (t := S16384x4112) 1 (val_main_v0 (F := Ideal) a0) (val_main_v1 (F := Ideal) a0) _ (ix2 (seqRow b s) ⟨4096 + k.val, by omega⟩) rfl rfl
      (ix2 (seqRow b s) k) (fun a ha => ?_) ?_).trans ?_
    · match a with
      | ⟨0, _⟩ => rfl
      | ⟨1, _⟩ => exact absurd rfl ha
    · exact Nat.add_comm k.val 4096
    · rw [val_main_v1_apply]
      exact congrArg a0 (funext fun a => Fin.ext (by match a with
        | ⟨0, _⟩ => rfl
        | ⟨1, _⟩ => rfl))
  have ei : idx_main_v8 (ix3 b s k) = ix3 b s (⟨4096 + k.val, by omega⟩ : Fin 4112) := funext fun a => match a with
    | ⟨0, _⟩ => rfl
    | ⟨1, _⟩ => rfl
    | ⟨2, _⟩ => rfl
  rw [val_main_v8_apply, ei, val_main_v3_apply, idx_rows, e]

/-- The normalised queries. -/
theorem ref_qn (b : Fin 8) (s : Fin 2048) (h : Fin 16) (d : Fin 64) :
    val_main_v22 (F := Ideal) a0 a1 (ix4 b s h d)
      = unit (fun e => a0 (ix2 (seqRow b s) ⟨h.val * 64 + e.val, by omega⟩)) d * a1 (ix1 d) := by
  have ei : ∀ k, idx_main_v11 (idx_main_v12 (idx_main_v18 (ix4 b s h d))) k = ix4 b s h k := fun k => funext fun a => match a with
    | ⟨0, _⟩ => rfl
    | ⟨1, _⟩ => rfl
    | ⟨2, _⟩ => rfl
    | ⟨3, _⟩ => rfl
  have eg : idx_main_v20 (idx_main_v21 (ix4 b s h d)) = ix1 d := funext fun a => match a with
    | ⟨0, _⟩ => rfl
  rw [val_main_v22_apply, val_main_v19_apply, val_main_v18_apply, val_main_v17_apply, val_main_v16_apply, val_main_v14_apply,
    val_main_v15_apply, val_main_v12_apply, val_main_v13_apply, val_main_v11_apply, val_main_v21_apply, val_main_v20_apply, eg]
  have es : ∑ k : Fin 64, val_main_v10 (F := Ideal) a0 (idx_main_v11 (idx_main_v12 (idx_main_v18 (ix4 b s h d))) k)
      = ∑ e : Fin 64, a0 (ix2 (seqRow b s) ⟨h.val * 64 + e.val, by omega⟩) * a0 (ix2 (seqRow b s) ⟨h.val * 64 + e.val, by omega⟩) :=
    Finset.sum_congr rfl fun e _ => by
      rw [ei e, val_main_v10_apply, ref_q a0 b s h e]
      rfl
  rw [es, ref_q a0 b s h d]
  unfold unit
  show _ * Ideal.rsqrt (Ideal.div (Ideal.ofBits FTy.f32 0x00000000#32 + _) _ + _) * _ = _
  rw [Ideal.ofBits_zero .f32, zero_add]
  rfl

/-- The normalised keys. -/
theorem ref_kn (b : Fin 8) (s : Fin 2048) (h : Fin 16) (d : Fin 64) :
    val_main_v36 (F := Ideal) a0 a2 (ix4 b s h d)
      = unit (fun e => a0 (ix2 (seqRow b s) ⟨1024 + (h.val * 64 + e.val), by omega⟩)) d * a2 (ix1 d) := by
  have ei : ∀ k, idx_main_v25 (idx_main_v26 (idx_main_v32 (ix4 b s h d))) k = ix4 b s h k := fun k => funext fun a => match a with
    | ⟨0, _⟩ => rfl
    | ⟨1, _⟩ => rfl
    | ⟨2, _⟩ => rfl
    | ⟨3, _⟩ => rfl
  have eg : idx_main_v34 (idx_main_v35 (ix4 b s h d)) = ix1 d := funext fun a => match a with
    | ⟨0, _⟩ => rfl
  rw [val_main_v36_apply, val_main_v33_apply, val_main_v32_apply, val_main_v31_apply, val_main_v30_apply, val_main_v28_apply,
    val_main_v29_apply, val_main_v26_apply, val_main_v27_apply, val_main_v25_apply, val_main_v35_apply, val_main_v34_apply, eg]
  have es : ∑ k : Fin 64, val_main_v24 (F := Ideal) a0 (idx_main_v25 (idx_main_v26 (idx_main_v32 (ix4 b s h d))) k)
      = ∑ e : Fin 64, a0 (ix2 (seqRow b s) ⟨1024 + (h.val * 64 + e.val), by omega⟩) * a0 (ix2 (seqRow b s) ⟨1024 + (h.val * 64 + e.val), by omega⟩) :=
    Finset.sum_congr rfl fun e _ => by
      rw [ei e, val_main_v24_apply, ref_k a0 b s h e]
      rfl
  rw [es, ref_k a0 b s h d]
  unfold unit
  show _ * Ideal.rsqrt (Ideal.div (Ideal.ofBits FTy.f32 0x00000000#32 + _) _ + _) * _ = _
  rw [Ideal.ofBits_zero .f32, zero_add]
  rfl

/-- The first result at a row and a column. -/
theorem out_q (R : Fin 16384) (c : Fin 1024) (h : Fin 16) (d : Fin 64) (hc : c.val = h.val * 64 + d.val) :
    val_main_v42 (F := Ideal) a0 a1 (ix2 R c) = unit (fun e => a0 (ix2 R ⟨h.val * 64 + e.val, by omega⟩)) d * a1 (ix1 d) := by
  have e := ref_qn a0 a1 ⟨R.val / 2048, by omega⟩ ⟨R.val % 2048, by omega⟩ h d
  have hR : seqRow ⟨R.val / 2048, by omega⟩ ⟨R.val % 2048, by omega⟩ = R := Fin.ext (by show R.val / 2048 * 2048 + R.val % 2048 = R.val; omega)
  rw [hR] at e
  rw [← e, val_main_v42_apply]
  refine congrArg (val_main_v22 (F := Ideal) a0 a1) (funext fun a => Fin.ext ?_)
  match a with
  | ⟨0, _⟩ => show (R.val * 1024 + c.val) / 2097152 = R.val / 2048; omega
  | ⟨1, _⟩ => show (R.val * 1024 + c.val) / 1024 % 2048 = R.val % 2048; omega
  | ⟨2, _⟩ => show (R.val * 1024 + c.val) / 64 % 16 = h.val; omega
  | ⟨3, _⟩ => show (R.val * 1024 + c.val) % 64 = d.val; omega

/-- The second result at a batch element, a column and a position. -/
theorem out_k (b : Fin 8) (c : Fin 1024) (s : Fin 2048) (h : Fin 16) (d : Fin 64) (hc : c.val = h.val * 64 + d.val) :
    val_main_v44 (F := Ideal) a0 a2 (ix3 b c s)
      = unit (fun e => a0 (ix2 (seqRow b s) ⟨1024 + (h.val * 64 + e.val), by omega⟩)) d * a2 (ix1 d) := by
  rw [← ref_kn a0 a2 b s h d, val_main_v44_apply, val_main_v43_apply]
  refine congrArg (val_main_v36 (F := Ideal) a0 a2) (funext fun a => Fin.ext ?_)
  match a with
  | ⟨0, _⟩ => show ((b.val * 1024 + c.val) * 2048 + s.val) / 2097152 = b.val; omega
  | ⟨1, _⟩ => show ((b.val * 1024 + c.val) * 2048 + s.val) % 2048 = s.val; omega
  | ⟨2, _⟩ => show ((b.val * 1024 + c.val) * 2048 + s.val) / 131072 % 16 = h.val; omega
  | ⟨3, _⟩ => show ((b.val * 1024 + c.val) * 2048 + s.val) / 2048 % 64 = d.val; omega

/-- The third result at a batch element, a column and a position. -/
theorem out_v (b : Fin 8) (c : Fin 1024) (s : Fin 2048) :
    val_main_v46 (F := Ideal) a0 (ix3 b c s) = a0 (ix2 (seqRow b s) ⟨2048 + c.val, by omega⟩) := by
  have e := ref_v a0 b s ⟨c.val / 64, by omega⟩ ⟨c.val % 64, by omega⟩
  have hc : (⟨2048 + (c.val / 64 * 64 + c.val % 64), by omega⟩ : Fin 4480) = ⟨2048 + c.val, by omega⟩ := Fin.ext (by
    show 2048 + (c.val / 64 * 64 + c.val % 64) = 2048 + c.val; omega)
  rw [val_main_v46_apply, val_main_v45_apply]
  refine Eq.trans (congrArg (val_main_v41 (F := Ideal) a0) (funext fun a => Fin.ext ?_)) (e.trans (congrArg (fun x => a0 (ix2 (seqRow b s) x)) hc))
  match a with
  | ⟨0, _⟩ => show ((b.val * 1024 + c.val) * 2048 + s.val) / 2097152 = b.val; omega
  | ⟨1, _⟩ => show ((b.val * 1024 + c.val) * 2048 + s.val) % 2048 = s.val; omega
  | ⟨2, _⟩ => show ((b.val * 1024 + c.val) * 2048 + s.val) / 131072 % 16 = c.val / 64; omega
  | ⟨3, _⟩ => show ((b.val * 1024 + c.val) * 2048 + s.val) / 2048 % 64 = c.val % 64; omega

/-- The biased gates. -/
theorem ref_biased (b : Fin 8) (s : Fin 2048) (k : Fin 16) :
    val_main_v39 (F := Ideal) a0 a3 (ix3 b s k) = a0 (ix2 (seqRow b s) ⟨4352 + k.val, by omega⟩) + a3 (ix1 k) := by
  have ei : idx_main_v37 (idx_main_v38 (ix3 b s k)) = ix1 k := funext fun a => match a with
    | ⟨0, _⟩ => rfl
  rw [val_main_v39_apply, val_main_v38_apply, val_main_v37_apply, ei, ref_raw a0 b s k]
  rfl

/-- A choice by whether a number differs from itself takes its second value. -/
theorem select_self (d x y : EReal) : Scalar.select (FloatOps.cmpf (F := Ideal) (φ := .f32) .une d d) x y = y := by
  have e : FloatOps.cmpf (F := Ideal) (φ := .f32) .une d d = 0#1 := by
    show BitVec.ofBool (decide (d ≠ d)) = 0#1
    rw [decide_eq_false (fun h => h rfl)]
    rfl
  rw [e]
  rfl

/-- The fourth result at a batch element, a head and a position. -/
theorem out_f (b : Fin 8) (k : Fin 16) (s : Fin 2048) :
    val_main_v47 (F := Ideal) a0 a3 (ix3 b k s) = logGate (a0 (ix2 (seqRow b s) ⟨4352 + k.val, by omega⟩) + a3 (ix1 k)) := by
  rw [← ref_biased a0 a3 b s k, val_main_v47_apply]
  have hi : idx_main_v47 (ix3 b k s) = ix3 b s k := funext fun a => match a with
    | ⟨0, _⟩ => rfl
    | ⟨1, _⟩ => rfl
    | ⟨2, _⟩ => rfl
  have hz : ∀ i, val_main_call0_call0_cst (F := Ideal) i = (0 : EReal) := fun i => Ideal.ofBits_zero .f32
  rw [hi, val_main_v40_apply, val_main_call0_v1_apply, val_main_call0_call0_v4_apply, select_self, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v2_apply, val_main_call0_call0_v0_apply,
    val_main_call0_v0_apply, hz]
  generalize val_main_v39 (F := Ideal) a0 a3 (ix3 b s k) = y
  show -(max (-y) (0 : EReal) + Ideal.log1p (Ideal.exp (-(max (-y - 0) (-(-y - 0)))))) = logGate y
  rw [sub_zero]
  rfl

end Cert.Proof.PrepT

end
-- ==== Proof.PrepTOut.lean ====
/- The blocks one grid point of the FoX preparation stores: each output's only store fills its block, at the first point of a batch
   element and at the later ones alike. -/
module

public import proofs.«01_k».proof.Proof.PrepTBlock

@[expose] public section

set_option maxRecDepth 16384

noncomputable section

namespace Cert.Proof.PrepT

open Cert.PrepTIdeal Cert.PrepTIdeal.Gen Cert.Proof.Ext Idealize.ShloMosaic Idealize.ShloMosaic.TcCoe

theorem zeros2 : (![0, 0] : Fin 2 → Nat) = fun _ => 0 := funext fun a => by fin_cases a <;> rfl

theorem ld_rows (x : Vec Ideal S256x1024 .f32) : View.ld x (Rect.unit (s := S256x1024) ![0, 0] ![256, 1024] inb_S256x1024_S256x1024_0_0) = x :=
  View.ld_unit_zero (S := S256x1024) zeros2 _ _

theorem ld_gain (x : Vec Ideal S1x1024 .f32) : View.ld x (Rect.unit (s := S1x1024) ![0, 0] ![1, 1024] inb_S1x1024_S1x1024_0_0) = x :=
  View.ld_unit_zero (S := S1x1024) zeros2 _ _

theorem ld_mask (x : Vec Ideal S256x256 .bf16) : View.ld x (Rect.unit (s := S256x256) ![0, 0] ![256, 256] inb_S256x256_S256x256_0_0) = x :=
  View.ld_unit_zero (S := S256x256) zeros2 _ _

theorem ld_gates (x : Vec Ideal S256x128 .f32) : View.ld x (Rect.unit (s := S256x128) ![0, 0] ![256, 128] inb_S256x128_S256x128_0_0) = x :=
  View.ld_unit_zero (S := S256x128) zeros2 _ _

theorem ld_bias (x : Vec Ideal S1x128 .f32) : View.ld x (Rect.unit (s := S1x128) ![0, 0] ![1, 128] inb_S1x128_S1x128_0_0) = x :=
  View.ld_unit_zero (S := S1x128) zeros2 _ _

variable (c : Dev nD) (i : grid0.Coords)
  (arg2 : Memref sig .tc .vmem S256x1024 .f32) (harg2 : arg2.IsWhole) (arg3 : Memref sig .tc .vmem S256x1024 .f32) (harg3 : arg3.IsWhole)
  (arg4 : Memref sig .tc .vmem S256x1024 .f32) (harg4 : arg4.IsWhole) (arg5 : Memref sig .tc .vmem S256x128 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x128 .f32) (harg8 : arg8.IsWhole) (arg9 : Memref sig .tc .vmem S256x256 .bf16) (harg9 : arg9.IsWhole)
  (arg10 : Memref sig .tc .vmem S256x1024 .f32) (harg10 : arg10.IsWhole) (arg11 : Memref sig .tc .vmem S1x1024x256 .f32) (harg11 : arg11.IsWhole)
  (arg12 : Memref sig .tc .vmem S1x1024x256 .f32) (harg12 : arg12.IsWhole) (arg13 : Memref sig .tc .vmem S1x16x256 .f32) (harg13 : arg13.IsWhole)
  (arg14 : Memref sig .tc .vmem S256x128 .f32) (harg14 : arg14.IsWhole) (arg15 : Memref sig .tc .vmem S1x128x256 .bf16) (harg15 : arg15.IsWhole)
  (arg16 : Memref sig .tc .vmem S1x128 .f32) (harg16 : arg16.IsWhole)
  (x0 x1 x2 : Vec Ideal S256x1024 .f32) (x3 : Vec Ideal S256x128 .f32) (x4 x5 : Vec Ideal S1x1024 .f32) (x6 : Vec Ideal S1x128 .f32)
  (x7 : Vec Ideal S256x256 .bf16) (xs0 : Vec Ideal S1x128 .f32)

theorem out8A_eq (hc0 : cond0_0 i) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7
    = qBlock x7 x0 x4 := by
  unfold out0_A_8
  rw [View.read_writes_junk_eq_canon]
  funext y
  refine View.canon_apply_of_pieces (qBlock x7 x0 x4) _ ?_ y (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  intro pc hpc
  unfold kernelRun0_A at hpc
  rcases List.mem_cons.mp hpc with rfl | hpc
  · intro x
    refine (congrFun (?_ : _ = qBlock x7 x0 x4) x).trans (congrArg (qBlock x7 x0 x4) (funext fun a => Fin.ext ?_))
    · simp only [kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, View.readAt_eq_ld, harg2.read_unread, harg3.read_unread, harg4.read_unread,
        harg5.read_unread, harg6.read_unread, harg7.read_unread, harg8.read_unread, harg9.read_unread, ld_rows, ld_gain, ld_mask, ld_gates, ld_bias]
      rfl
    match a with
    | ⟨0, _⟩ => show (x 0).val = 0 + 1 * (x 0).val; omega
    | ⟨1, _⟩ => show (x 1).val = 0 + 1 * (x 1).val; omega
  nomatch hpc

theorem out8B_eq (hc0 : ¬cond0_0 i) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0
    = qBlock x7 x0 x4 := by
  unfold out0_B_8
  rw [View.read_writes_junk_eq_canon]
  funext y
  refine View.canon_apply_of_pieces (qBlock x7 x0 x4) _ ?_ y (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y)
  intro pc hpc
  unfold kernelRun0_B at hpc
  rcases List.mem_cons.mp hpc with rfl | hpc
  · intro x
    refine (congrFun (?_ : _ = qBlock x7 x0 x4) x).trans (congrArg (qBlock x7 x0 x4) (funext fun a => Fin.ext ?_))
    · simp only [kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, View.readAt_eq_ld, harg2.read_unread, harg3.read_unread, harg4.read_unread,
        harg5.read_unread, harg6.read_unread, harg7.read_unread, harg8.read_unread, harg9.read_unread, ld_rows, ld_gain, ld_mask, ld_gates, ld_bias]
      rfl
    match a with
    | ⟨0, _⟩ => show (x 0).val = 0 + 1 * (x 0).val; omega
    | ⟨1, _⟩ => show (x 1).val = 0 + 1 * (x 1).val; omega
  nomatch hpc

theorem out9A_eq (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7
    = kBlock x7 x1 x5 := by
  unfold out0_A_9
  rw [View.read_writes_junk_eq_canon]
  funext y
  refine View.canon_apply_of_pieces (kBlock x7 x1 x5) _ ?_ y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  intro pc hpc
  unfold kernelRun0_A at hpc
  rcases List.mem_cons.mp hpc with rfl | hpc
  · intro x
    refine (congrFun (?_ : _ = kBlock x7 x1 x5) x).trans (congrArg (kBlock x7 x1 x5) (funext fun a => Fin.ext ?_))
    · simp only [kernelRun0_A.sl.r_14, kernelRun0_A.sl.r_13, kernelRun0_A.sl.r_12, kernelRun0_A.sl.r_11, kernelRun0_A.sl.r_10, kernelRun0_A.sl.r_9, kernelRun0_A.sl.r, View.readAt_eq_ld, harg2.read_unread, harg3.read_unread, harg4.read_unread,
        harg5.read_unread, harg6.read_unread, harg7.read_unread, harg8.read_unread, harg9.read_unread, ld_rows, ld_gain, ld_mask, ld_gates, ld_bias]
      rfl
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

theorem out9B_eq (hc0 : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0
    = kBlock x7 x1 x5 := by
  unfold out0_B_9
  rw [View.read_writes_junk_eq_canon]
  funext y
  refine View.canon_apply_of_pieces (kBlock x7 x1 x5) _ ?_ y (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y)
  intro pc hpc
  unfold kernelRun0_B at hpc
  rcases List.mem_cons.mp hpc with rfl | hpc
  · intro x
    refine (congrFun (?_ : _ = kBlock x7 x1 x5) x).trans (congrArg (kBlock x7 x1 x5) (funext fun a => Fin.ext ?_))
    · simp only [kernelRun0_B.sl.r_14, kernelRun0_B.sl.r_13, kernelRun0_B.sl.r_12, kernelRun0_B.sl.r_11, kernelRun0_B.sl.r_10, kernelRun0_B.sl.r_9, kernelRun0_B.sl.r, View.readAt_eq_ld, harg2.read_unread, harg3.read_unread, harg4.read_unread,
        harg5.read_unread, harg6.read_unread, harg7.read_unread, harg8.read_unread, harg9.read_unread, ld_rows, ld_gain, ld_mask, ld_gates, ld_bias]
      rfl
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

theorem out10A_eq (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7
    = k0_pay24 x2 := by
  unfold out0_A_10
  rw [View.read_writes_junk_eq_canon]
  funext y
  refine View.canon_apply_of_pieces (k0_pay24 x2) _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  intro pc hpc
  unfold kernelRun0_A at hpc
  rcases List.mem_cons.mp hpc with rfl | hpc
  · intro x
    refine (congrFun (?_ : _ = k0_pay24 x2) x).trans (congrArg (k0_pay24 x2) (funext fun a => Fin.ext ?_))
    · simp only [View.readAt_eq_ld, harg2.read_unread, harg3.read_unread, harg4.read_unread,
        harg5.read_unread, harg6.read_unread, harg7.read_unread, harg8.read_unread, harg9.read_unread, ld_rows, ld_gain, ld_mask, ld_gates, ld_bias]
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

theorem out10B_eq (hc0 : ¬cond0_0 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0
    = k0_pay24 x2 := by
  unfold out0_B_10
  rw [View.read_writes_junk_eq_canon]
  funext y
  refine View.canon_apply_of_pieces (k0_pay24 x2) _ ?_ y (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y)
  intro pc hpc
  unfold kernelRun0_B at hpc
  rcases List.mem_cons.mp hpc with rfl | hpc
  · intro x
    refine (congrFun (?_ : _ = k0_pay24 x2) x).trans (congrArg (k0_pay24 x2) (funext fun a => Fin.ext ?_))
    · simp only [View.readAt_eq_ld, harg2.read_unread, harg3.read_unread, harg4.read_unread,
        harg5.read_unread, harg6.read_unread, harg7.read_unread, harg8.read_unread, harg9.read_unread, ld_rows, ld_gain, ld_mask, ld_gates, ld_bias]
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

theorem out11A_eq (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7
    = k0_pay29 (k0_pay25 x3 x6) := by
  unfold out0_A_11
  rw [View.read_writes_junk_eq_canon]
  funext y
  refine View.canon_apply_of_pieces (k0_pay29 (k0_pay25 x3 x6)) _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  intro pc hpc
  unfold kernelRun0_A at hpc
  rcases List.mem_cons.mp hpc with rfl | hpc
  · intro x
    refine (congrFun (?_ : _ = k0_pay29 (k0_pay25 x3 x6)) x).trans (congrArg (k0_pay29 (k0_pay25 x3 x6)) (funext fun a => Fin.ext ?_))
    · simp only [kernelRun0_A.sl.r_15, View.readAt_eq_ld, harg2.read_unread, harg3.read_unread, harg4.read_unread,
        harg5.read_unread, harg6.read_unread, harg7.read_unread, harg8.read_unread, harg9.read_unread, ld_rows, ld_gain, ld_mask, ld_gates, ld_bias]
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

theorem out11B_eq (hc0 : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0
    = k0_pay29 (k0_pay25 x3 x6) := by
  unfold out0_B_11
  rw [View.read_writes_junk_eq_canon]
  funext y
  refine View.canon_apply_of_pieces (k0_pay29 (k0_pay25 x3 x6)) _ ?_ y (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y)
  intro pc hpc
  unfold kernelRun0_B at hpc
  rcases List.mem_cons.mp hpc with rfl | hpc
  · intro x
    refine (congrFun (?_ : _ = k0_pay29 (k0_pay25 x3 x6)) x).trans (congrArg (k0_pay29 (k0_pay25 x3 x6)) (funext fun a => Fin.ext ?_))
    · simp only [kernelRun0_B.sl.r_15, View.readAt_eq_ld, harg2.read_unread, harg3.read_unread, harg4.read_unread,
        harg5.read_unread, harg6.read_unread, harg7.read_unread, harg8.read_unread, harg9.read_unread, ld_rows, ld_gain, ld_mask, ld_gates, ld_bias]
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

end Cert.Proof.PrepT

end
-- ==== Proof.PrepTValue.lean ====
/- The FoX preparation's value claim: the windows' blocks as rows and columns of the arguments, and the equality of the four results. -/
module

public import proofs.«01_k».proof.Defs
public import proofs.«01_k».proof.Proof.AttnValue
public import proofs.«01_k».proof.Proof.PrepTRef
public import proofs.«01_k».proof.Proof.PrepTOut
public import proofs.«01_k».proof.Proof.Gen.PrepTRefIdeal.Run
public import Idealize.ShloMosaic.Lib.Pointwise
public import Idealize.ShloMosaic.Lib.ReduceAll
public import Idealize.ShloMosaic.Lib.Routing.OpsOne

@[expose] public section

set_option maxRecDepth 16384

noncomputable section

namespace Cert.Proof.PrepT

open Cert.PrepTIdeal Cert.PrepTIdeal.Gen Cert.PrepTIdeal.Value Cert.Proof.Ext Idealize.ShloMosaic Idealize.ShloMosaic.TcCoe

/-- `x.at[r, :U].set(v)` read at one of the entries it sets. -/
theorem scatter_row {α : Type} {R C U w : Nat} (d : ScatterDims (Routing.shape2 R C) (Routing.shape1 2) (Routing.shape1 U)) (hiw : d.insertedWindowDims = [0])
    (hsd : d.scatterDimsToOperandDims = [0, 1]) (hivd : d.indexVectorDim = 0) (x0 : (Routing.shape2 R C).Idx → α) (idx : IVec (Routing.shape1 2) w)
    (upd : (Routing.shape1 U).Idx → α) (r : Fin R) (c : Fin C) (k : Fin U) (h0 : (idx (ValueIdx.ix1 (0 : Fin 2))).toInt = r.val)
    (h1 : (idx (ValueIdx.ix1 (1 : Fin 2))).toInt = 0) (hk : c.val = k.val) :
    Host.scatter d (fun _ b => b) x0 idx upd (ValueIdx.ix2 r c) = upd (ValueIdx.ix1 k) := by
  have lands : ∀ k' : Fin U, d.resultIdx? (ValueIdx.ix1 k') idx = some (ValueIdx.ix2 r c) ↔ k'.val = c.val := fun k' => by
    have hwin1 : d.window (ValueIdx.ix1 k') 1 = k'.val := by
      have hk : d.sKept = [1] := by
        show (Routing.shape2 R C).kept d.insertedWindowDims = _
        rw [hiw]
        rfl
      unfold ScatterDims.window
      rw [dif_pos (by rw [hk]; simp)]
      exact congrArg (fun t => ((ValueIdx.ix1 k' : (Routing.shape1 U).Idx) t).val) (Subsingleton.elim (α := Fin 1) _ 0)
    have hwin0 : d.window (ValueIdx.ix1 k') 0 = 0 := by
      unfold ScatterDims.window
      rw [dif_neg fun h => (of_decide_eq_true (List.mem_filter.1 h).2) (by rw [hiw]; simp)]
    rw [Routing.resultIdx?_ix2, Routing.start_pair d hsd hivd, Routing.start_pair d hsd hivd, hwin0, hwin1, h0, h1]
    omega
  refine Routing.scatter_set_hit d x0 idx upd _ _ (fun k' hk' => ?_) (ValueIdx.ix1 k) ((lands k).2 hk.symm)
  obtain ⟨q, rfl⟩ : ∃ q : Fin U, k' = ValueIdx.ix1 q := ⟨k' 0, ValueIdx.eq_ix1 k'⟩
  exact congrArg upd (congrArg ValueIdx.ix1 (Fin.ext (((lands q).1 hk').trans hk)))

variable (m : (ℓ : Loc nD τ sig) → Buf (Elt Ideal) ℓ)

/-- Where each input window's block lies at a grid point. -/
theorem idx_in : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_3.index t (0 : Fin 2) = t.val ∧ win0_3.index t (1 : Fin 2) = 34)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) := (by decide +kernel : ∀ t : Fin grid0.N, _)

/-- Where each output window's block lies at a grid point. -/
theorem idx_out : ∀ t : Fin cfg0.N, (win0_8.index t (0 : Fin 2) = t.val ∧ win0_8.index t (1 : Fin 2) = 0)
    ∧ (win0_9.index t (0 : Fin 3) = t.val / 8 ∧ win0_9.index t (1 : Fin 3) = 0 ∧ win0_9.index t (2 : Fin 3) = t.val % 8)
    ∧ (win0_10.index t (0 : Fin 3) = t.val / 8 ∧ win0_10.index t (1 : Fin 3) = 0 ∧ win0_10.index t (2 : Fin 3) = t.val % 8)
    ∧ (win0_11.index t (0 : Fin 3) = t.val / 8 ∧ win0_11.index t (1 : Fin 3) = 0 ∧ win0_11.index t (2 : Fin 3) = t.val % 8) :=
  (by decide +kernel : ∀ t : Fin grid0.N, _)

theorem points : cfg0.N = 64 := rfl

/-- Row `r` of block `t` is row `256 t + r` of the array. -/
def row (t : Fin cfg0.N) (r : Fin 256) : Fin 16384 := ⟨t.val * 256 + r.val, by have := t.isLt; have := points; omega⟩

/-- The batch element block `t` belongs to. -/
def batch (t : Fin cfg0.N) : Fin 8 := ⟨t.val / 8, by have := t.isLt; have := points; omega⟩

/-- The position of row `r` of block `t` in its batch element. -/
def pos (t : Fin cfg0.N) (r : Fin 256) : Fin 2048 := ⟨t.val % 8 * 256 + r.val, by omega⟩

theorem seqRow_eq (t : Fin cfg0.N) (r : Fin 256) : seqRow (batch t) (pos t r) = row t r := Fin.ext (by
  show t.val / 8 * 2048 + (t.val % 8 * 256 + r.val) = t.val * 256 + r.val
  omega)

/-- The rows the kernel reads. -/
def arr (c : Dev nD) : Vec Ideal S16384x4480 .f32 := m ((c : Thread nD τ).loc main_arg0)

theorem in0 (c : Dev nD) (t : Fin cfg0.N) (r : Fin 256) (j : Fin 1024) : (X0_0 m c t : Vec Ideal S256x1024 .f32) (ix2 r j)
    = arr m c (ix2 (row t r) ⟨j.val, by omega⟩) := by
  obtain ⟨⟨e0, e1⟩, -⟩ := idx_in t
  unfold arr
  rw [← V_main_arg0 m c]
  unfold X0_0 Pipeline.Window.fill
  rw [dif_pos (moved0_0 t _)]
  refine congrArg (V m c main_arg0) (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * j.val = j.val; omega

theorem in1 (c : Dev nD) (t : Fin cfg0.N) (r : Fin 256) (j : Fin 1024) : (X0_1 m c t : Vec Ideal S256x1024 .f32) (ix2 r j)
    = arr m c (ix2 (row t r) ⟨1024 + j.val, by omega⟩) := by
  obtain ⟨-, ⟨e0, e1⟩, -⟩ := idx_in t
  unfold arr
  rw [← V_main_arg0 m c]
  unfold X0_1 Pipeline.Window.fill
  rw [dif_pos (moved0_1 t _)]
  refine congrArg (V m c main_arg0) (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * j.val = 1024 + j.val; omega

theorem in2 (c : Dev nD) (t : Fin cfg0.N) (r : Fin 256) (j : Fin 1024) : (X0_2 m c t : Vec Ideal S256x1024 .f32) (ix2 r j)
    = arr m c (ix2 (row t r) ⟨2048 + j.val, by omega⟩) := by
  obtain ⟨-, -, ⟨e0, e1⟩, -⟩ := idx_in t
  unfold arr
  rw [← V_main_arg0 m c]
  unfold X0_2 Pipeline.Window.fill
  rw [dif_pos (moved0_2 t _)]
  refine congrArg (V m c main_arg0) (funext fun a => Fin.ext ?_)
  match a with
  | ⟨0, _⟩ => show win0_2.index t (0 : Fin 2) * 256 + 1 * r.val = t.val * 256 + r.val; omega
  | ⟨1, _⟩ => show win0_2.index t (1 : Fin 2) * 1024 + 1 * j.val = 2048 + j.val; omega

theorem in3 (c : Dev nD) (t : Fin cfg0.N) (r : Fin 256) (k : Fin 128) : (iblk m c 3 t : Vec Ideal S256x128 .f32) (ix2 r k)
    = arr m c (ix2 (row t r) ⟨4352 + k.val, by omega⟩) := by
  obtain ⟨-, -, -, ⟨e0, e1⟩, -⟩ := idx_in t
  unfold arr
  rw [← V_main_arg0 m c]
  refine congrArg (V m c main_arg0) (funext fun a => Fin.ext ?_)
  match a with
  | ⟨0, _⟩ => show win0_3.index t (0 : Fin 2) * 256 + 1 * r.val = t.val * 256 + r.val; omega
  | ⟨1, _⟩ => show win0_3.index t (1 : Fin 2) * 128 + 1 * k.val = 4352 + k.val; omega

/-- A gain, repeated over the sixteen heads. -/
def gainRow (g : Vec Ideal S64 .f32) : Vec Ideal S1x1024 .f32 :=
  broadcastInDim S1x1024 ![1] bcast_S1024_S1x1024_1 (shapeCast S1024 (broadcastInDim S16x64 ![0, 1] bcast_S1x64_S16x64_0_1
    (shapeCast S1x64 g shapeCasts_S64_S1x64)) shapeCasts_S16x64_S1024)

theorem gainRow_apply (g : Vec Ideal S64 .f32) (h : Fin 16) (d : Fin 64) : gainRow g (ix2 0 (col h d)) = g (ix1 d) := by
  have e : ∀ k : Fin 1024, gainRow g (ix2 0 k) = g (ix1 ⟨k.val % 64, by omega⟩) := fun k => by
    unfold gainRow
    pointwise []
  rw [e]
  exact congrArg (fun x => g (ix1 x)) (Fin.ext (by show (h.val * 64 + d.val) % 64 = d.val; omega))

theorem in4 (c : Dev nD) (t : Fin cfg0.N) (h : Fin 16) (d : Fin 64) : (iblk m c 4 t : Vec Ideal S1x1024 .f32) (ix2 0 (col h d))
    = (m ((c : Thread nD τ).loc main_arg1) : Vec Ideal S64 .f32) (ix1 d) := by
  have e : (V m c main_v3 : Vec Ideal S1x1024 .f32) = gainRow (m ((c : Thread nD τ).loc main_arg1)) := by
    show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results
    rfl
  obtain ⟨-, -, -, -, ⟨e0, e1⟩, -⟩ := idx_in t
  refine Eq.trans (b := (V m c main_v3 : Vec Ideal S1x1024 .f32) (ix2 0 (col h d))) (congrArg (V m c main_v3) (funext fun a => Fin.ext ?_)) ?_
  · match a with
    | ⟨0, _⟩ => show win0_4.index t (0 : Fin 2) * 1 + 1 * 0 = 0; omega
    | ⟨1, _⟩ => show win0_4.index t (1 : Fin 2) * 1024 + 1 * (col h d).val = (col h d).val; omega
  · rw [e, gainRow_apply]

theorem in5 (c : Dev nD) (t : Fin cfg0.N) (h : Fin 16) (d : Fin 64) : (iblk m c 5 t : Vec Ideal S1x1024 .f32) (ix2 0 (col h d))
    = (m ((c : Thread nD τ).loc main_arg2) : Vec Ideal S64 .f32) (ix1 d) := by
  have e : (V m c main_v7 : Vec Ideal S1x1024 .f32) = gainRow (m ((c : Thread nD τ).loc main_arg2)) := by
    show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results
    rfl
  obtain ⟨-, -, -, -, -, ⟨e0, e1⟩, -⟩ := idx_in t
  refine Eq.trans (b := (V m c main_v7 : Vec Ideal S1x1024 .f32) (ix2 0 (col h d))) (congrArg (V m c main_v7) (funext fun a => Fin.ext ?_)) ?_
  · match a with
    | ⟨0, _⟩ => show win0_5.index t (0 : Fin 2) * 1 + 1 * 0 = 0; omega
    | ⟨1, _⟩ => show win0_5.index t (1 : Fin 2) * 1024 + 1 * (col h d).val = (col h d).val; omega
  · rw [e, gainRow_apply]

/-- The two index words of the bias's scatter: zeros. -/
def origin : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- The gate bias laid out in the first lanes of a row of zeros. -/
def biasRow (b : Vec Ideal S16 .f32) : Vec Ideal S1x128 .f32 :=
  Host.scatter scatter_S1x128_S2_S16_0_0_01_0 (fun _ b => b) (broadcastInDim S1x128 ![] bcast_S_S1x128 (constant (F := Ideal) S_ .f32 0x00000000#32)) origin b

theorem biasRow_apply (b : Vec Ideal S16 .f32) (k : Fin 16) : biasRow b (ix2 0 ⟨k.val, by omega⟩) = b (ix1 k) := by
  have ho : ∀ q : Fin 2, origin (ValueIdx.ix1 q) = 0#32 := by decide +kernel
  unfold biasRow
  have e2 : (ix2 0 ⟨k.val, by omega⟩ : S1x128.Idx) = ValueIdx.ix2 (0 : Fin 1) (⟨k.val, by omega⟩ : Fin 128) := funext fun a => match a with
    | ⟨0, _⟩ => rfl
    | ⟨1, _⟩ => rfl
  have e1 : (ix1 k : S16.Idx) = ValueIdx.ix1 k := funext fun a => match a with
    | ⟨0, _⟩ => rfl
  rw [e2, e1]
  exact scatter_row (R := 1) (C := 128) (U := 16) scatter_S1x128_S2_S16_0_0_01_0 rfl rfl rfl _ origin b 0 ⟨k.val, by omega⟩ k
    (by rw [ho]; rfl) (by rw [ho]; rfl) rfl

theorem in6 (c : Dev nD) (t : Fin cfg0.N) (k : Fin 16) : (iblk m c 6 t : Vec Ideal S1x128 .f32) (ix2 0 ⟨k.val, by omega⟩)
    = (m ((c : Thread nD τ).loc main_arg3) : Vec Ideal S16 .f32) (ix1 k) := by
  have e : (V m c main_v12 : Vec Ideal S1x128 .f32) = biasRow (m ((c : Thread nD τ).loc main_arg3)) := by
    show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results
    rfl
  obtain ⟨-, -, -, -, -, -, ⟨e0, e1⟩, -⟩ := idx_in t
  refine Eq.trans (b := (V m c main_v12 : Vec Ideal S1x128 .f32) (ix2 0 ⟨k.val, by omega⟩)) (congrArg (V m c main_v12) (funext fun a => Fin.ext ?_)) ?_
  · match a with
    | ⟨0, _⟩ => show win0_6.index t (0 : Fin 2) * 1 + 1 * 0 = 0; omega
    | ⟨1, _⟩ => show win0_6.index t (1 : Fin 2) * 128 + 1 * k.val = k.val; omega
  · rw [e, biasRow_apply]

theorem in7 (c : Dev nD) (t : Fin cfg0.N) (j k : Fin 256) : (iblk m c 7 t : Vec Ideal S256x256 .bf16) (ix2 j k)
    = if j.val / 64 = k.val / 64 then (1 : EReal) else 0 := by
  have e : (V m c main_v22 : Vec Ideal S256x256 .bf16) = Attn.blockMask := by
    show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results
    rfl
  obtain ⟨-, -, -, -, -, -, -, e0, e1⟩ := idx_in t
  refine Eq.trans (b := (V m c main_v22 : Vec Ideal S256x256 .bf16) (ix2 j k)) (congrArg (V m c main_v22) (funext fun a => Fin.ext ?_)) ?_
  · match a with
    | ⟨0, _⟩ => show win0_7.index t (0 : Fin 2) * 256 + 1 * j.val = j.val; omega
    | ⟨1, _⟩ => show win0_7.index t (1 : Fin 2) * 256 + 1 * k.val = k.val; omega
  · rw [e, Attn.blockMask_apply]

/-- The finiteness of the queries' and the keys' columns, read from the precondition. -/
theorem finite_of_pre (a0 : Vec Ideal S16384x4480 .f32) (a1 a2 : Vec Ideal S64 .f32) (a3 : Vec Ideal S16 .f32)
    [Cert.Pre_finite_rows.Facts] (h : Cert.Pre_finite_rows.fn (F := Ideal) a0 a1 a2 a3 = fun _ => 1#1) (R : Fin 16384) (k : Fin 2048) :
    IsReal (a0 (ix2 R ⟨k.val, by omega⟩)) := by
  haveI : Subsingleton S_.Idx := ⟨fun a b => funext fun i => i.elim0⟩
  have h0 := congrFun h ix0
  dsimp only [Cert.Pre_finite_rows.fn] at h0
  have h4 := Host.reduce_andi_all _ _ _ _ _ h0 (ix2 R k)
  refine Attn.isReal_of_cmp (Eq.trans ?_ h4)
  pointwise []
  rfl

/-- The reference's results as functions of the kernel's arguments. -/
def GQ (c : Dev nD) : Vec Ideal S16384x1024 .f32 :=
  Cert.PrepTRefIdeal.Read.val_main_v42 (F := Ideal) (m ((c : Thread nD τ).loc main_arg0)) (m ((c : Thread nD τ).loc main_arg1))
def GK (c : Dev nD) : Vec Ideal S8x1024x2048 .f32 :=
  Cert.PrepTRefIdeal.Read.val_main_v44 (F := Ideal) (m ((c : Thread nD τ).loc main_arg0)) (m ((c : Thread nD τ).loc main_arg2))
def GV (c : Dev nD) : Vec Ideal S8x1024x2048 .f32 := Cert.PrepTRefIdeal.Read.val_main_v46 (F := Ideal) (m ((c : Thread nD τ).loc main_arg0))
def GF (c : Dev nD) : Vec Ideal S8x16x2048 .f32 :=
  Cert.PrepTRefIdeal.Read.val_main_v47 (F := Ideal) (m ((c : Thread nD τ).loc main_arg0)) (m ((c : Thread nD τ).loc main_arg3))

section Finite

variable [Cert.Pre_finite_rows.Facts] (hp : Pre_PrepTIdeal_finite_rows m)

include hp in
theorem fin0 (c : Dev nD) (t : Fin cfg0.N) (r : Fin 256) (j : Fin 1024) : IsReal ((X0_0 m c t : Vec Ideal S256x1024 .f32) (ix2 r j)) := by
  rw [in0]; exact finite_of_pre _ _ _ _ (hp c) (row t r) ⟨j.val, by omega⟩

include hp in
theorem fin1 (c : Dev nD) (t : Fin cfg0.N) (r : Fin 256) (j : Fin 1024) : IsReal ((X0_1 m c t : Vec Ideal S256x1024 .f32) (ix2 r j)) := by
  rw [in1]; exact finite_of_pre _ _ _ _ (hp c) (row t r) ⟨1024 + j.val, by omega⟩

include hp in
/-- The queries' block is the reference's. -/
theorem q_eq (c : Dev nD) (t : Fin cfg0.N) (r : Fin 256) (j : Fin 1024) :
    qBlock (iblk m c 7 t) (X0_0 m c t) (iblk m c 4 t) (ix2 r j) = GQ m c (ix2 (row t r) j) := by
  obtain ⟨h, d, rfl⟩ : ∃ (h : Fin 16) (d : Fin 64), j = col h d := ⟨⟨j.val / 64, by omega⟩, ⟨j.val % 64, by omega⟩, Fin.ext (by
    show j.val = j.val / 64 * 64 + j.val % 64; omega)⟩
  unfold GQ
  rw [qBlock_apply _ (in7 m c t) _ _ r (fin0 m hp c t r), in4, out_q _ _ (row t r) (col h d) h d rfl]
  refine congrArg (fun f => unit f d * _) (funext fun e => ?_)
  rw [in0]
  rfl

include hp in
/-- The keys' block is the reference's. -/
theorem k_eq (c : Dev nD) (t : Fin cfg0.N) (r : Fin 256) (j : Fin 1024) :
    kBlock (iblk m c 7 t) (X0_1 m c t) (iblk m c 5 t) (ix3 0 j r) = GK m c (ix3 (batch t) j (pos t r)) := by
  obtain ⟨h, d, rfl⟩ : ∃ (h : Fin 16) (d : Fin 64), j = col h d := ⟨⟨j.val / 64, by omega⟩, ⟨j.val % 64, by omega⟩, Fin.ext (by
    show j.val = j.val / 64 * 64 + j.val % 64; omega)⟩
  unfold GK
  rw [kBlock_apply _ (in7 m c t) _ _ r (fin1 m hp c t r), in5, out_k _ _ (batch t) (col h d) (pos t r) h d rfl, seqRow_eq]
  refine congrArg (fun f => unit f d * _) (funext fun e => ?_)
  rw [in1]
  rfl

end Finite

/-- The values' block is the reference's. -/
theorem v_eq (c : Dev nD) (t : Fin cfg0.N) (r : Fin 256) (j : Fin 1024) :
    k0_pay24 (X0_2 m c t) (ix3 0 j r) = GV m c (ix3 (batch t) j (pos t r)) := by
  unfold GV
  rw [vBlock_apply, in2, out_v, seqRow_eq]
  rfl

/-- The log gates' block is the reference's. -/
theorem f_eq (c : Dev nD) (t : Fin cfg0.N) (r : Fin 256) (k : Fin 16) :
    k0_pay29 (k0_pay25 (iblk m c 3 t) (iblk m c 6 t)) (ix3 0 k r) = GF m c (ix3 (batch t) k (pos t r)) := by
  unfold GF
  rw [fBlock_apply, gate_apply, in3, in6, out_f, seqRow_eq]
  rfl

/-- A block whose entries are an array's, as the queries' window writes it. -/
theorem write_q (t : Fin cfg0.N) (P : Vec Ideal S256x1024 .f32) (G : Vec Ideal S16384x1024 .f32)
    (h : ∀ (r : Fin 256) (j : Fin 1024), P (ix2 r j) = G (ix2 (row t r) j)) :
    (cfg0.win 8).cut (grid0.coords t) P = ((cfg0.win 8).blk t).view.read (Elt Ideal) G := by
  obtain ⟨⟨e0, e1⟩, -⟩ := idx_out t
  funext y
  obtain ⟨r, j, rfl⟩ : ∃ (r : Fin 256) (j : Fin 1024), y = ix2 r j := ⟨y 0, y 1, eq_ix2 y⟩
  refine Eq.trans (b := P (ix2 r j)) rfl ((h r j).trans (congrArg G (funext fun a => Fin.ext ?_)))
  match a with
  | ⟨0, _⟩ => show t.val * 256 + r.val = win0_8.index t (0 : Fin 2) * 256 + 1 * r.val; omega
  | ⟨1, _⟩ => show j.val = win0_8.index t (1 : Fin 2) * 1024 + 1 * j.val; omega

/-- A block whose entries are an array's, as the keys' window writes it. -/
theorem write_k (t : Fin cfg0.N) (P : Vec Ideal S1x1024x256 .f32) (G : Vec Ideal S8x1024x2048 .f32)
    (h : ∀ (j : Fin 1024) (r : Fin 256), P (ix3 0 j r) = G (ix3 (batch t) j (pos t r))) :
    (cfg0.win 9).cut (grid0.coords t) P = ((cfg0.win 9).blk t).view.read (Elt Ideal) G := by
  obtain ⟨-, ⟨e0, e1, e2⟩, -⟩ := idx_out t
  funext y
  obtain ⟨z, j, r, rfl⟩ : ∃ (z : Fin 1) (j : Fin 1024) (r : Fin 256), y = ix3 z j r := ⟨y 0, y 1, y 2, eq_ix3 y⟩
  obtain rfl : z = 0 := Subsingleton.elim _ _
  refine Eq.trans (b := P (ix3 0 j r)) rfl ((h j r).trans (congrArg G (funext fun a => Fin.ext ?_)))
  match a with
  | ⟨0, _⟩ => show t.val / 8 = win0_9.index t (0 : Fin 3) * 1 + 1 * 0; omega
  | ⟨1, _⟩ => show j.val = win0_9.index t (1 : Fin 3) * 1024 + 1 * j.val; omega
  | ⟨2, _⟩ => show t.val % 8 * 256 + r.val = win0_9.index t (2 : Fin 3) * 256 + 1 * r.val; omega

/-- A block whose entries are an array's, as the values' window writes it. -/
theorem write_v (t : Fin cfg0.N) (P : Vec Ideal S1x1024x256 .f32) (G : Vec Ideal S8x1024x2048 .f32)
    (h : ∀ (j : Fin 1024) (r : Fin 256), P (ix3 0 j r) = G (ix3 (batch t) j (pos t r))) :
    (cfg0.win 10).cut (grid0.coords t) P = ((cfg0.win 10).blk t).view.read (Elt Ideal) G := by
  obtain ⟨-, -, ⟨e0, e1, e2⟩, -⟩ := idx_out t
  funext y
  obtain ⟨z, j, r, rfl⟩ : ∃ (z : Fin 1) (j : Fin 1024) (r : Fin 256), y = ix3 z j r := ⟨y 0, y 1, y 2, eq_ix3 y⟩
  obtain rfl : z = 0 := Subsingleton.elim _ _
  refine Eq.trans (b := P (ix3 0 j r)) rfl ((h j r).trans (congrArg G (funext fun a => Fin.ext ?_)))
  match a with
  | ⟨0, _⟩ => show t.val / 8 = win0_10.index t (0 : Fin 3) * 1 + 1 * 0; omega
  | ⟨1, _⟩ => show j.val = win0_10.index t (1 : Fin 3) * 1024 + 1 * j.val; omega
  | ⟨2, _⟩ => show t.val % 8 * 256 + r.val = win0_10.index t (2 : Fin 3) * 256 + 1 * r.val; omega

/-- A block whose entries are an array's, as the log gates' window writes it. -/
theorem write_f (t : Fin cfg0.N) (P : Vec Ideal S1x16x256 .f32) (G : Vec Ideal S8x16x2048 .f32)
    (h : ∀ (j : Fin 16) (r : Fin 256), P (ix3 0 j r) = G (ix3 (batch t) j (pos t r))) :
    (cfg0.win 11).cut (grid0.coords t) P = ((cfg0.win 11).blk t).view.read (Elt Ideal) G := by
  obtain ⟨-, -, -, e0, e1, e2⟩ := idx_out t
  funext y
  obtain ⟨z, j, r, rfl⟩ : ∃ (z : Fin 1) (j : Fin 16) (r : Fin 256), y = ix3 z j r := ⟨y 0, y 1, y 2, eq_ix3 y⟩
  obtain rfl : z = 0 := Subsingleton.elim _ _
  refine Eq.trans (b := P (ix3 0 j r)) rfl ((h j r).trans (congrArg G (funext fun a => Fin.ext ?_)))
  match a with
  | ⟨0, _⟩ => show t.val / 8 = win0_11.index t (0 : Fin 3) * 1 + 1 * 0; omega
  | ⟨1, _⟩ => show j.val = win0_11.index t (1 : Fin 3) * 16 + 1 * j.val; omega
  | ⟨2, _⟩ => show t.val % 8 * 256 + r.val = win0_11.index t (2 : Fin 3) * 256 + 1 * r.val; omega

section Blocks

variable [Cert.Pre_finite_rows.Facts] (hp : Pre_PrepTIdeal_finite_rows m)

include hp in
theorem flushed_q (c : Dev nD) (t : Fin cfg0.N) : (dats m 0 c).flushed 8 t = ((cfg0.win 8).blk t).view.read (Elt Ideal) (GQ m c) := by
  refine Eq.trans ?_ (write_q t _ (GQ m c) (fun r j => q_eq m hp c t r j))
  by_cases h0 : t.val % 8 = 0
  · rw [flushed8_A m c t h0, out8A_eq]
  · rw [flushed8_B m c t h0, out8B_eq]

include hp in
theorem flushed_k (c : Dev nD) (t : Fin cfg0.N) : (dats m 0 c).flushed 9 t = ((cfg0.win 9).blk t).view.read (Elt Ideal) (GK m c) := by
  refine Eq.trans ?_ (write_k t _ (GK m c) (fun j r => k_eq m hp c t r j))
  by_cases h0 : t.val % 8 = 0
  · rw [flushed9_A m c t h0, out9A_eq]
  · rw [flushed9_B m c t h0, out9B_eq]

end Blocks

theorem flushed_v (c : Dev nD) (t : Fin cfg0.N) : (dats m 0 c).flushed 10 t = ((cfg0.win 10).blk t).view.read (Elt Ideal) (GV m c) := by
  refine Eq.trans ?_ (write_v t _ (GV m c) (fun j r => v_eq m c t r j))
  by_cases h0 : t.val % 8 = 0
  · rw [flushed10_A m c t h0, out10A_eq]
  · rw [flushed10_B m c t h0, out10B_eq]

theorem flushed_f (c : Dev nD) (t : Fin cfg0.N) : (dats m 0 c).flushed 11 t = ((cfg0.win 11).blk t).view.read (Elt Ideal) (GF m c) := by
  refine Eq.trans ?_ (write_f t _ (GF m c) (fun j r => f_eq m c t r j))
  by_cases h0 : t.val % 8 = 0
  · rw [flushed11_A m c t h0, out11A_eq]
  · rw [flushed11_B m c t h0, out11B_eq]

/-- The grid point whose blocks hold position `s` of batch element `b`. -/
def point (b : Fin 8) (s : Fin 2048) : Fin cfg0.N := ⟨b.val * 8 + s.val / 256, by have := points; omega⟩

theorem covered_q (i : S16384x1024.Idx) : ∃ t : Fin cfg0.N, (cfg0.win 8).flush t = true ∧ i ∈ ((cfg0.win 8).blk t).view.set := by
  obtain ⟨R, l, rfl⟩ : ∃ (R : Fin 16384) (l : Fin 1024), i = ix2 R l := ⟨i 0, i 1, eq_ix2 i⟩
  have hN : R.val / 256 < cfg0.N := by have := points; omega
  refine ⟨⟨R.val / 256, hN⟩, flush0_8 _, ?_⟩
  obtain ⟨⟨e0, e1⟩, -⟩ := idx_out ⟨R.val / 256, hN⟩
  have e0' : win0_8.index ⟨R.val / 256, hN⟩ (0 : Fin 2) = R.val / 256 := e0
  show ix2 R l ∈ ((View.whole main_v23_0).slice (win0_8.rect ⟨R.val / 256, hN⟩)).set
  rw [View.set_slice_whole, Rect.mem_set_unit]
  intro a
  match a with
  | ⟨0, _⟩ => show win0_8.index ⟨R.val / 256, hN⟩ (0 : Fin 2) * 256 ≤ R.val ∧ R.val < win0_8.index ⟨R.val / 256, hN⟩ (0 : Fin 2) * 256 + 256; omega
  | ⟨1, _⟩ => show win0_8.index ⟨R.val / 256, hN⟩ (1 : Fin 2) * 1024 ≤ l.val ∧ l.val < win0_8.index ⟨R.val / 256, hN⟩ (1 : Fin 2) * 1024 + 1024; omega

theorem covered_k (i : S8x1024x2048.Idx) : ∃ t : Fin cfg0.N, (cfg0.win 9).flush t = true ∧ i ∈ ((cfg0.win 9).blk t).view.set := by
  obtain ⟨b, j, s, rfl⟩ : ∃ (b : Fin 8) (j : Fin 1024) (s : Fin 2048), i = ix3 b j s := ⟨i 0, i 1, i 2, eq_ix3 i⟩
  refine ⟨point b s, flush0_9 _, ?_⟩
  obtain ⟨-, ⟨e0, e1, e2⟩, -⟩ := idx_out (point b s)
  have hv : (point b s).val = b.val * 8 + s.val / 256 := rfl
  rw [hv] at e0 e2
  show ix3 b j s ∈ ((View.whole main_v23_1).slice (win0_9.rect (point b s))).set
  rw [View.set_slice_whole, Rect.mem_set_unit]
  intro a
  match a with
  | ⟨0, _⟩ => show win0_9.index (point b s) (0 : Fin 3) * 1 ≤ b.val ∧ b.val < win0_9.index (point b s) (0 : Fin 3) * 1 + 1; omega
  | ⟨1, _⟩ => show win0_9.index (point b s) (1 : Fin 3) * 1024 ≤ j.val ∧ j.val < win0_9.index (point b s) (1 : Fin 3) * 1024 + 1024; omega
  | ⟨2, _⟩ => show win0_9.index (point b s) (2 : Fin 3) * 256 ≤ s.val ∧ s.val < win0_9.index (point b s) (2 : Fin 3) * 256 + 256; omega

theorem covered_v (i : S8x1024x2048.Idx) : ∃ t : Fin cfg0.N, (cfg0.win 10).flush t = true ∧ i ∈ ((cfg0.win 10).blk t).view.set := by
  obtain ⟨b, j, s, rfl⟩ : ∃ (b : Fin 8) (j : Fin 1024) (s : Fin 2048), i = ix3 b j s := ⟨i 0, i 1, i 2, eq_ix3 i⟩
  refine ⟨point b s, flush0_10 _, ?_⟩
  obtain ⟨-, -, ⟨e0, e1, e2⟩, -⟩ := idx_out (point b s)
  have hv : (point b s).val = b.val * 8 + s.val / 256 := rfl
  rw [hv] at e0 e2
  show ix3 b j s ∈ ((View.whole main_v23_2).slice (win0_10.rect (point b s))).set
  rw [View.set_slice_whole, Rect.mem_set_unit]
  intro a
  match a with
  | ⟨0, _⟩ => show win0_10.index (point b s) (0 : Fin 3) * 1 ≤ b.val ∧ b.val < win0_10.index (point b s) (0 : Fin 3) * 1 + 1; omega
  | ⟨1, _⟩ => show win0_10.index (point b s) (1 : Fin 3) * 1024 ≤ j.val ∧ j.val < win0_10.index (point b s) (1 : Fin 3) * 1024 + 1024; omega
  | ⟨2, _⟩ => show win0_10.index (point b s) (2 : Fin 3) * 256 ≤ s.val ∧ s.val < win0_10.index (point b s) (2 : Fin 3) * 256 + 256; omega

theorem covered_f (i : S8x16x2048.Idx) : ∃ t : Fin cfg0.N, (cfg0.win 11).flush t = true ∧ i ∈ ((cfg0.win 11).blk t).view.set := by
  obtain ⟨b, k, s, rfl⟩ : ∃ (b : Fin 8) (k : Fin 16) (s : Fin 2048), i = ix3 b k s := ⟨i 0, i 1, i 2, eq_ix3 i⟩
  refine ⟨point b s, flush0_11 _, ?_⟩
  obtain ⟨-, -, -, e0, e1, e2⟩ := idx_out (point b s)
  have hv : (point b s).val = b.val * 8 + s.val / 256 := rfl
  rw [hv] at e0 e2
  show ix3 b k s ∈ ((View.whole main_v23_3).slice (win0_11.rect (point b s))).set
  rw [View.set_slice_whole, Rect.mem_set_unit]
  intro a
  match a with
  | ⟨0, _⟩ => show win0_11.index (point b s) (0 : Fin 3) * 1 ≤ b.val ∧ b.val < win0_11.index (point b s) (0 : Fin 3) * 1 + 1; omega
  | ⟨1, _⟩ => show win0_11.index (point b s) (1 : Fin 3) * 16 ≤ k.val ∧ k.val < win0_11.index (point b s) (1 : Fin 3) * 16 + 16; omega
  | ⟨2, _⟩ => show win0_11.index (point b s) (2 : Fin 3) * 256 ≤ s.val ∧ s.val < win0_11.index (point b s) (2 : Fin 3) * 256 + 256; omega

/-- The value claim: from memories that agree on the arguments, the kernel and the reference end with the same four results. -/
theorem algebraic [Cert.Pre_finite_rows.Facts] : Cert.algebraic_PrepTIdeal_PrepTRefIdeal_pre_finite_rows := by
  intro m g m' g' hp hm
  refine ⟨fun c => GQ m c, fun c => GK m c, fun c => GV m c, fun c => GF m c, ?_, ?_⟩
  · refine (θ_run defs _ _).mono (fun r h c => ?_) (run_blocks m g)
    obtain ⟨h0, h1, h2, h3, -, -, h4⟩ := h c
    exact ⟨h0.trans ((dats m 0 c).arrAt_eq_of_cover 8 (GQ m c) (fun t _ => flushed_q m hp c t) covered_q),
      h1.trans ((dats m 0 c).arrAt_eq_of_cover 9 (GK m c) (fun t _ => flushed_k m hp c t) covered_k),
      h2.trans ((dats m 0 c).arrAt_eq_of_cover 10 (GV m c) (fun t _ => flushed_v m c t) covered_v),
      h3.trans ((dats m 0 c).arrAt_eq_of_cover 11 (GF m c) (fun t _ => flushed_f m c t) covered_f), h4⟩
  · refine (θ_run Cert.PrepTRefIdeal.defs _ _).mono (fun r h c => ?_) (Cert.PrepTRefIdeal.Value.run m' g')
    obtain ⟨h0, h1, h2, h3, h4⟩ := h c
    obtain ⟨e0, e1, e2, e3⟩ := hm c
    refine ⟨h0.trans ?_, h1.trans ?_, h2.trans ?_, h3.trans ?_, h4⟩
    · rw [Cert.PrepTRefIdeal.Read.val_main_v42_eq]
      unfold GQ
      rw [e0, e1]
    · rw [Cert.PrepTRefIdeal.Read.val_main_v44_eq]
      unfold GK
      rw [e0, e2]
    · rw [Cert.PrepTRefIdeal.Read.val_main_v46_eq]
      unfold GV
      rw [e0]
    · rw [Cert.PrepTRefIdeal.Read.val_main_v47_eq]
      unfold GF
      rw [e0, e3]

end Cert.Proof.PrepT

end
-- ==== Proof.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.AttnValue
public import proofs.«01_k».proof.Proof.Gen.Mlp.Frame
public import proofs.«01_k».proof.Proof.Gen.MlpIdeal.Frame
public import proofs.«01_k».proof.Proof.Gen.MlpRefIdeal.Run
public import proofs.«01_k».proof.Proof.MlpValue
public import proofs.«01_k».proof.Proof.Gen.Proj.Frame
public import proofs.«01_k».proof.Proof.Gen.ProjIdeal.Frame
public import proofs.«01_k».proof.Proof.Gen.ProjRefIdeal.Run
public import proofs.«01_k».proof.Proof.ProjValue
public import proofs.«01_k».proof.Proof.Gen.MemKv.Frame
public import proofs.«01_k».proof.Proof.Gen.MemKvIdeal.Frame
public import proofs.«01_k».proof.Proof.Gen.MemKvRefIdeal.Run
public import proofs.«01_k».proof.Proof.MemKvValue
public import proofs.«01_k».proof.Proof.Gen.CMlp.Frame
public import proofs.«01_k».proof.Proof.Gen.CMlpIdeal.Frame
public import proofs.«01_k».proof.Proof.Gen.CMlpRefIdeal.Run
public import proofs.«01_k».proof.Proof.CMlpValue
public import proofs.«01_k».proof.Proof.Gen.PrepT.Frame
public import proofs.«01_k».proof.Proof.Gen.PrepTIdeal.Frame
public import proofs.«01_k».proof.Proof.Gen.PrepTRefIdeal.Run
public import proofs.«01_k».proof.Proof.PrepTValue
public import Idealize.ShloMosaic.Lib.Quiescent
public import proofs.«01_k».proof.Proof.Gen.Pre_finite_scores
public import proofs.«01_k».proof.Proof.Gen.Pre_finite_rows

@[expose] public section

noncomputable section

namespace Cert.Proof

open Idealize.ShloMosaic Idealize.SL.Sem

/-- The frame of `AttnRefIdeal`: its run leaves the arguments as they were, and it has no semaphore. -/
theorem frame_attn_ref : Cert.quiescent_AttnRefIdeal := fun m ρ _ =>
  (θ_run Cert.AttnRefIdeal.defs _ _).mono (fun r h => ⟨fun c => (h c).2, sem_eq_zero_of_no_sems (by decide) r.2⟩) (Cert.AttnRefIdeal.Value.run m ρ)

/-- The frame of `MlpRefIdeal`: its run leaves the arguments as they were, and it has no semaphore. -/
theorem frame_mlp_ref : Cert.quiescent_MlpRefIdeal := fun m ρ _ =>
  (θ_run Cert.MlpRefIdeal.defs _ _).mono (fun r h => ⟨fun c => (h c).2, sem_eq_zero_of_no_sems (by decide) r.2⟩) (Cert.MlpRefIdeal.Value.run m ρ)

/-- The frame of `ProjRefIdeal`: its run leaves the arguments as they were, and it has no semaphore. -/
theorem frame_proj_ref : Cert.quiescent_ProjRefIdeal := fun m ρ _ =>
  (θ_run Cert.ProjRefIdeal.defs _ _).mono (fun r h => ⟨fun c => (h c).2, sem_eq_zero_of_no_sems (by decide) r.2⟩) (Cert.ProjRefIdeal.Value.run m ρ)

/-- The frame of `MemKvRefIdeal`: its run leaves the arguments as they were, and it has no semaphore. -/
theorem frame_memkv_ref : Cert.quiescent_MemKvRefIdeal := fun m ρ _ =>
  (θ_run Cert.MemKvRefIdeal.defs _ _).mono (fun r h => ⟨fun c => (h c).2.2, sem_eq_zero_of_no_sems (by decide) r.2⟩) (Cert.MemKvRefIdeal.Value.run m ρ)

/-- The frame of `CMlpRefIdeal`: its run leaves the arguments as they were, and it has no semaphore. -/
theorem frame_cmlp_ref : Cert.quiescent_CMlpRefIdeal := fun m ρ _ =>
  (θ_run Cert.CMlpRefIdeal.defs _ _).mono (fun r h => ⟨fun c => (h c).2.2, sem_eq_zero_of_no_sems (by decide) r.2⟩) (Cert.CMlpRefIdeal.Value.run m ρ)

/-- The frame of `PrepTRefIdeal`: its run leaves the arguments as they were, and it has no semaphore. -/
theorem frame_prept_ref : Cert.quiescent_PrepTRefIdeal := fun m ρ _ =>
  (θ_run Cert.PrepTRefIdeal.defs _ _).mono (fun r h => ⟨fun c => (h c).2.2.2.2, sem_eq_zero_of_no_sems (by decide) r.2⟩) (Cert.PrepTRefIdeal.Value.run m ρ)

/-- Every claim of the certificate. -/
theorem claim : Cert.Claim :=
  ⟨Cert.Attn.Gen.facts,
    Cert.AttnIdeal.Gen.facts,
    Cert.AttnRefIdeal.Gen.facts,
    Cert.Mlp.Gen.facts,
    Cert.MlpIdeal.Gen.facts,
    Cert.MlpRefIdeal.Gen.facts,
    Cert.Proj.Gen.facts,
    Cert.ProjIdeal.Gen.facts,
    Cert.ProjRefIdeal.Gen.facts,
    Cert.MemKv.Gen.facts,
    Cert.MemKvIdeal.Gen.facts,
    Cert.MemKvRefIdeal.Gen.facts,
    Cert.CMlp.Gen.facts,
    Cert.CMlpIdeal.Gen.facts,
    Cert.CMlpRefIdeal.Gen.facts,
    Cert.PrepT.Gen.facts,
    Cert.PrepTIdeal.Gen.facts,
    Cert.PrepTRefIdeal.Gen.facts,
    Cert.Pre_finite_scores.Gen.facts,
    Cert.Pre_finite_rows.Gen.facts,
    fun m ρ _ => Cert.Attn.Gen.frame m ρ,
    fun m ρ _ => Cert.AttnIdeal.Gen.frame m ρ,
    fun m ρ _ => Cert.AttnIdeal.Gen.frame m ρ,
    frame_attn_ref,
    fun m ρ _ => frame_attn_ref m ρ trivial,
    fun m ρ _ => Cert.Mlp.Gen.frame m ρ,
    fun m ρ _ => Cert.MlpIdeal.Gen.frame m ρ,
    frame_mlp_ref,
    fun m ρ _ => Cert.Proj.Gen.frame m ρ,
    fun m ρ _ => Cert.ProjIdeal.Gen.frame m ρ,
    frame_proj_ref,
    fun m ρ _ => Cert.MemKv.Gen.frame m ρ,
    fun m ρ _ => Cert.MemKvIdeal.Gen.frame m ρ,
    frame_memkv_ref,
    fun m ρ _ => Cert.CMlp.Gen.frame m ρ,
    fun m ρ _ => Cert.CMlpIdeal.Gen.frame m ρ,
    frame_cmlp_ref,
    fun m ρ _ => Cert.PrepT.Gen.frame m ρ,
    fun m ρ _ => Cert.PrepTIdeal.Gen.frame m ρ,
    fun m ρ _ => Cert.PrepTIdeal.Gen.frame m ρ,
    frame_prept_ref,
    fun m ρ _ => frame_prept_ref m ρ trivial,
    trivial,
    Cert.Proof.Attn.algebraic,
    trivial,
    Cert.Proof.Mlp.algebraic,
    trivial,
    Cert.Proof.Proj.algebraic,
    trivial,
    Cert.Proof.MemKv.algebraic,
    trivial,
    Cert.Proof.CMlp.algebraic,
    trivial,
    Cert.Proof.PrepT.algebraic⟩

end Cert.Proof

end
